-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Reference2 (m : (ℓ : Loc Cert.Reference2.nD Cert.Reference2.τ Cert.Reference2.sig) → Buf (Elt Bits) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Reference6 (m : (ℓ : Loc Cert.Reference6.nD Cert.Reference6.τ Cert.Reference6.sig) → Buf (Elt Bits) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Reference4 (m : (ℓ : Loc Cert.Reference4.nD Cert.Reference4.τ Cert.Reference4.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2 [hReference2 : Cert.Reference2.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0)
      ∧ r.2.mem ((c.tc : Thread Cert.Reference2.nD Cert.Reference2.τ).loc Cert.Reference2.main_arg1) = m ((c.tc : Thread Cert.Reference2.nD Cert.Reference2.τ).loc Cert.Reference2.main_arg1)
      ∧ r.2.mem ((c.tc : Thread Cert.Reference2.nD Cert.Reference2.τ).loc Cert.Reference2.main_arg2) = m ((c.tc : Thread Cert.Reference2.nD Cert.Reference2.τ).loc Cert.Reference2.main_arg2)
      ∧ r.2.mem ((c.tc : Thread Cert.Reference2.nD Cert.Reference2.τ).loc Cert.Reference2.main_arg3) = m ((c.tc : Thread Cert.Reference2.nD Cert.Reference2.τ).loc Cert.Reference2.main_arg3)
      ∧ r.2.mem ((c.tc : Thread Cert.Reference2.nD Cert.Reference2.τ).loc Cert.Reference2.main_arg4) = m ((c.tc : Thread Cert.Reference2.nD Cert.Reference2.τ).loc Cert.Reference2.main_arg4)
      ∧ r.2.mem ((c.tc : Thread Cert.Reference2.nD Cert.Reference2.τ).loc Cert.Reference2.main_arg5) = m ((c.tc : Thread Cert.Reference2.nD Cert.Reference2.τ).loc Cert.Reference2.main_arg5)
      ∧ r.2.mem ((c.tc : Thread Cert.Reference2.nD Cert.Reference2.τ).loc Cert.Reference2.main_arg6) = m ((c.tc : Thread Cert.Reference2.nD Cert.Reference2.τ).loc Cert.Reference2.main_arg6)
      ∧ r.2.mem ((c.tc : Thread Cert.Reference2.nD Cert.Reference2.τ).loc Cert.Reference2.main_arg7) = m ((c.tc : Thread Cert.Reference2.nD Cert.Reference2.τ).loc Cert.Reference2.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6 [hReference6 : Cert.Reference6.Facts] : Prop :=
  ∀ (m : (ℓ : Loc Cert.Reference6.nD Cert.Reference6.τ Cert.Reference6.sig) → Buf (Elt Bits) ℓ) (g : Dev Cert.Reference6.nD → PrngReg), Pre_Reference6 m →
    θ_run (Cert.Reference6.defs (F := Bits)) (onTc (τ := Cert.Reference6.τ) (Cert.Reference6.main (F := Bits))) ⟨m, fun _ => 0, g⟩ (fun r => (∀ c : Dev Cert.Reference6.nD,
      r.2.mem ((c.tc : Thread Cert.Reference6.nD Cert.Reference6.τ).loc Cert.Reference6.main_arg0) = m ((c.tc : Thread Cert.Reference6.nD Cert.Reference6.τ).loc Cert.Reference6.main_arg0)
      ∧ r.2.mem ((c.tc : Thread Cert.Reference6.nD Cert.Reference6.τ).loc Cert.Reference6.main_arg1) = m ((c.tc : Thread Cert.Reference6.nD Cert.Reference6.τ).loc Cert.Reference6.main_arg1)
      ∧ r.2.mem ((c.tc : Thread Cert.Reference6.nD Cert.Reference6.τ).loc Cert.Reference6.main_arg2) = m ((c.tc : Thread Cert.Reference6.nD Cert.Reference6.τ).loc Cert.Reference6.main_arg2)
      ∧ r.2.mem ((c.tc : Thread Cert.Reference6.nD Cert.Reference6.τ).loc Cert.Reference6.main_arg3) = m ((c.tc : Thread Cert.Reference6.nD Cert.Reference6.τ).loc Cert.Reference6.main_arg3)
      ∧ r.2.mem ((c.tc : Thread Cert.Reference6.nD Cert.Reference6.τ).loc Cert.Reference6.main_arg4) = m ((c.tc : Thread Cert.Reference6.nD Cert.Reference6.τ).loc Cert.Reference6.main_arg4)
      ∧ r.2.mem ((c.tc : Thread Cert.Reference6.nD Cert.Reference6.τ).loc Cert.Reference6.main_arg5) = m ((c.tc : Thread Cert.Reference6.nD Cert.Reference6.τ).loc Cert.Reference6.main_arg5)
      ∧ r.2.mem ((c.tc : Thread Cert.Reference6.nD Cert.Reference6.τ).loc Cert.Reference6.main_arg6) = m ((c.tc : Thread Cert.Reference6.nD Cert.Reference6.τ).loc Cert.Reference6.main_arg6)
      ∧ r.2.mem ((c.tc : Thread Cert.Reference6.nD Cert.Reference6.τ).loc Cert.Reference6.main_arg7) = m ((c.tc : Thread Cert.Reference6.nD Cert.Reference6.τ).loc Cert.Reference6.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4 [hReference4 : Cert.Reference4.Facts] : Prop :=
  ∀ (m : (ℓ : Loc Cert.Reference4.nD Cert.Reference4.τ Cert.Reference4.sig) → Buf (Elt Bits) ℓ) (g : Dev Cert.Reference4.nD → PrngReg), Pre_Reference4 m →
    θ_run (Cert.Reference4.defs (F := Bits)) (onTc (τ := Cert.Reference4.τ) (Cert.Reference4.main (F := Bits))) ⟨m, fun _ => 0, g⟩ (fun r => (∀ c : Dev Cert.Reference4.nD,
      r.2.mem ((c.tc : Thread Cert.Reference4.nD Cert.Reference4.τ).loc Cert.Reference4.main_arg0) = m ((c.tc : Thread Cert.Reference4.nD Cert.Reference4.τ).loc Cert.Reference4.main_arg0)
      ∧ r.2.mem ((c.tc : Thread Cert.Reference4.nD Cert.Reference4.τ).loc Cert.Reference4.main_arg1) = m ((c.tc : Thread Cert.Reference4.nD Cert.Reference4.τ).loc Cert.Reference4.main_arg1)
      ∧ r.2.mem ((c.tc : Thread Cert.Reference4.nD Cert.Reference4.τ).loc Cert.Reference4.main_arg2) = m ((c.tc : Thread Cert.Reference4.nD Cert.Reference4.τ).loc Cert.Reference4.main_arg2)
      ∧ r.2.mem ((c.tc : Thread Cert.Reference4.nD Cert.Reference4.τ).loc Cert.Reference4.main_arg3) = m ((c.tc : Thread Cert.Reference4.nD Cert.Reference4.τ).loc Cert.Reference4.main_arg3)
      ∧ r.2.mem ((c.tc : Thread Cert.Reference4.nD Cert.Reference4.τ).loc Cert.Reference4.main_arg4) = m ((c.tc : Thread Cert.Reference4.nD Cert.Reference4.τ).loc Cert.Reference4.main_arg4)
      ∧ r.2.mem ((c.tc : Thread Cert.Reference4.nD Cert.Reference4.τ).loc Cert.Reference4.main_arg5) = m ((c.tc : Thread Cert.Reference4.nD Cert.Reference4.τ).loc Cert.Reference4.main_arg5)
      ∧ r.2.mem ((c.tc : Thread Cert.Reference4.nD Cert.Reference4.τ).loc Cert.Reference4.main_arg6) = m ((c.tc : Thread Cert.Reference4.nD Cert.Reference4.τ).loc Cert.Reference4.main_arg6)
      ∧ r.2.mem ((c.tc : Thread Cert.Reference4.nD Cert.Reference4.τ).loc Cert.Reference4.main_arg7) = m ((c.tc : Thread Cert.Reference4.nD Cert.Reference4.τ).loc Cert.Reference4.main_arg7))
      ∧ r.2.sem = fun _ => 0)

def preserves_Kernel_KernelIdeal : Prop :=
  True

def preserves_Reference_ReferenceIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def preserves_Reference2_Reference2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel6_Kernel6Ideal : Prop :=
  True

def preserves_Reference6_Reference6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v44) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel4_Kernel4Ideal : Prop :=
  True

def preserves_Reference4_Reference4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v37_0)) (v1 : (c : Dev Cert.Kernel4Ideal.nD) → Buf (Elt Ideal) ((c.tc : Thread Cert.Kernel4Ideal.nD Cert.Kernel4Ideal.τ).loc Cert.Kernel4Ideal.main_v37_1)) (v2 : (c : Dev Cert.Kernel4Ideal.nD) → Buf (Elt Ideal) ((c.tc : Thread Cert.Kernel4Ideal.nD Cert.Kernel4Ideal.τ).loc Cert.Kernel4Ideal.main_v37_2)) (v3 : (c : Dev Cert.Kernel4Ideal.nD) → Buf (Elt Ideal) ((c.tc : Thread Cert.Kernel4Ideal.nD Cert.Kernel4Ideal.τ).loc Cert.Kernel4Ideal.main_v37_3)) (v4 : (c : Dev Cert.Kernel4Ideal.nD) → Buf (Elt Ideal) ((c.tc : Thread Cert.Kernel4Ideal.nD Cert.Kernel4Ideal.τ).loc Cert.Kernel4Ideal.main_v37_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v37_0) = v0 c
          ∧ r.2.mem ((c.tc : Thread Cert.Kernel4Ideal.nD Cert.Kernel4Ideal.τ).loc Cert.Kernel4Ideal.main_v37_1) = v1 c
          ∧ r.2.mem ((c.tc : Thread Cert.Kernel4Ideal.nD Cert.Kernel4Ideal.τ).loc Cert.Kernel4Ideal.main_v37_2) = v2 c
          ∧ r.2.mem ((c.tc : Thread Cert.Kernel4Ideal.nD Cert.Kernel4Ideal.τ).loc Cert.Kernel4Ideal.main_v37_3) = v3 c
          ∧ r.2.mem ((c.tc : Thread Cert.Kernel4Ideal.nD Cert.Kernel4Ideal.τ).loc Cert.Kernel4Ideal.main_v37_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v134) = v0 c
          ∧ r.2.mem ((c.tc : Thread Cert.Reference4Ideal.nD Cert.Reference4Ideal.τ).loc Cert.Reference4Ideal.main_v140) = v1 c
          ∧ r.2.mem ((c.tc : Thread Cert.Reference4Ideal.nD Cert.Reference4Ideal.τ).loc Cert.Reference4Ideal.main_v127) = v2 c
          ∧ r.2.mem ((c.tc : Thread Cert.Reference4Ideal.nD Cert.Reference4Ideal.τ).loc Cert.Reference4Ideal.main_v141) = v3 c
          ∧ r.2.mem ((c.tc : Thread Cert.Reference4Ideal.nD Cert.Reference4Ideal.τ).loc Cert.Reference4Ideal.main_v142) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hReference2 : Cert.Reference2.Facts) (hKernel6 : Cert.Kernel6.Facts) (hKernel6Ideal : Cert.Kernel6Ideal.Facts) (hReference6Ideal : Cert.Reference6Ideal.Facts) (hReference6 : Cert.Reference6.Facts) (hKernel4 : Cert.Kernel4.Facts) (hKernel4Ideal : Cert.Kernel4Ideal.Facts) (hReference4Ideal : Cert.Reference4Ideal.Facts) (hReference4 : Cert.Reference4.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Reference2 (hReference2 := hReference2)
    ∧ quiescent_Kernel6 (hKernel6 := hKernel6)
    ∧ quiescent_Kernel6Ideal (hKernel6Ideal := hKernel6Ideal)
    ∧ quiescent_Reference6Ideal (hReference6Ideal := hReference6Ideal)
    ∧ quiescent_Reference6 (hReference6 := hReference6)
    ∧ quiescent_Kernel4 (hKernel4 := hKernel4)
    ∧ quiescent_Kernel4Ideal (hKernel4Ideal := hKernel4Ideal)
    ∧ quiescent_Reference4Ideal (hReference4Ideal := hReference4Ideal)
    ∧ quiescent_Reference4 (hReference4 := hReference4)
    ∧ preserves_Kernel_KernelIdeal
    ∧ preserves_Reference_ReferenceIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ preserves_Reference2_Reference2Ideal
    ∧ algebraic_Kernel2Ideal_Reference2Ideal (hKernel2Ideal := hKernel2Ideal) (hReference2Ideal := hReference2Ideal)
    ∧ preserves_Kernel6_Kernel6Ideal
    ∧ preserves_Reference6_Reference6Ideal
    ∧ algebraic_Kernel6Ideal_Reference6Ideal (hKernel6Ideal := hKernel6Ideal) (hReference6Ideal := hReference6Ideal)
    ∧ preserves_Kernel4_Kernel4Ideal
    ∧ preserves_Reference4_Reference4Ideal
    ∧ algebraic_Kernel4Ideal_Reference4Ideal (hKernel4Ideal := hKernel4Ideal) (hReference4Ideal := hReference4Ideal)
-- ==== Pre_finite_scores.lean ====
abbrev S2x8192x8x128 : Shape := ⟨4, ![2, 8192, 8, 128]⟩
abbrev S2x8192x8x64 : Shape := ⟨4, ![2, 8192, 8, 64]⟩
abbrev S2x8192x64 : Shape := ⟨3, ![2, 8192, 64]⟩
abbrev S_ : Shape := ⟨0, ![]⟩

class Facts : Prop where
  bcast_S_S2x8192x8x128 : S_.BroadcastsInDim S2x8192x8x128 (![] : Fin 0 → Fin S2x8192x8x128.rank)
  reducesTo_S2x8192x8x128_S_d0_1_2_3 : S2x8192x8x128.ReducesTo [0, 1, 2, 3] S_
  h_S_ : 0 < S_.numel
  bcast_S_S2x8192x8x64 : S_.BroadcastsInDim S2x8192x8x64 (![] : Fin 0 → Fin S2x8192x8x64.rank)
  reducesTo_S2x8192x8x64_S_d0_1_2_3 : S2x8192x8x64.ReducesTo [0, 1, 2, 3] S_
  bcast_S_S2x8192x64 : S_.BroadcastsInDim S2x8192x64 (![] : Fin 0 → Fin S2x8192x64.rank)
  reducesTo_S2x8192x64_S_d0_1_2 : S2x8192x64.ReducesTo [0, 1, 2] S_

variable [Facts]

def fn_part1 {F : FTy → Type} [FloatOps F] (main_v13 : IVec S_ 1) (main_v16 : IVec S2x8192x64 1) : IVec S_ 1 :=
  let main_c_5 : IVec S_ 1 := constantI S_ 1 1#1
  let main_v17 : IVec S_ 1 := (fun x v => Host.reduce IntOp.andi x v reducesTo_S2x8192x64_S_d0_1_2 h_S_) main_v16 main_c_5
  let main_v18 : IVec S_ 1 := andi main_v13 main_v17
  main_v18

def fn {F : FTy → Type} [FloatOps F] (main_arg0 : FVec F S2x8192x8x128 .f32) (main_arg1 : FVec F S2x8192x8x64 .f32) (main_arg2 : FVec F S2x8192x8x128 .f32) (main_arg3 : FVec F S2x8192x64 .f32) (main_arg4 : FVec F S2x8192x8x128 .f32) : IVec S_ 1 :=
  let main_v0 : FVec F S2x8192x8x128 .f32 := Host.absf main_arg0
  let main_cst : FVec F S_ .f32 := constant S_ .f32 0x7F800000#32
  let main_v1 : FVec F S2x8192x8x128 .f32 := broadcastInDim S2x8192x8x128 ![] bcast_S_S2x8192x8x128 main_cst
  let main_v2 : IVec S2x8192x8x128 1 := cmpf .olt main_v0 main_v1
  let main_c : IVec S_ 1 := constantI S_ 1 1#1
  let main_v3 : IVec S_ 1 := (fun x v => Host.reduce IntOp.andi x v reducesTo_S2x8192x8x128_S_d0_1_2_3 h_S_) main_v2 main_c
  let main_v4 : FVec F S2x8192x8x64 .f32 := Host.absf main_arg1
  let main_cst_0 : FVec F S_ .f32 := constant S_ .f32 0x7F800000#32
  let main_v5 : FVec F S2x8192x8x64 .f32 := broadcastInDim S2x8192x8x64 ![] bcast_S_S2x8192x8x64 main_cst_0
  let main_v6 : IVec S2x8192x8x64 1 := cmpf .olt main_v4 main_v5
  let main_c_1 : IVec S_ 1 := constantI S_ 1 1#1
  let main_v7 : IVec S_ 1 := (fun x v => Host.reduce IntOp.andi x v reducesTo_S2x8192x8x64_S_d0_1_2_3 h_S_) main_v6 main_c_1
  let main_v8 : IVec S_ 1 := andi main_v3 main_v7
  let main_v9 : FVec F S2x8192x8x128 .f32 := Host.absf main_arg2
  let main_cst_2 : FVec F S_ .f32 := constant S_ .f32 0x7F800000#32
  let main_v10 : FVec F S2x8192x8x128 .f32 := broadcastInDim S2x8192x8x128 ![] bcast_S_S2x8192x8x128 main_cst_2
  let main_v11 : IVec S2x8192x8x128 1 := cmpf .olt main_v9 main_v10
  let main_c_3 : IVec S_ 1 := constantI S_ 1 1#1
  let main_v12 : IVec S_ 1 := (fun x v => Host.reduce IntOp.andi x v reducesTo_S2x8192x8x128_S_d0_1_2_3 h_S_) main_v11 main_c_3
  let main_v13 : IVec S_ 1 := andi main_v8 main_v12
  let main_v14 : FVec F S2x8192x64 .f32 := Host.absf main_arg3
  let main_cst_4 : FVec F S_ .f32 := constant S_ .f32 0x7F800000#32
  let main_v15 : FVec F S2x8192x64 .f32 := broadcastInDim S2x8192x64 ![] bcast_S_S2x8192x64 main_cst_4
  let main_v16 : IVec S2x8192x64 1 := cmpf .olt main_v14 main_v15
  fn_part1 (F := F) main_v13 main_v16
-- ==== Kernel.lean ====
abbrev S2x8192x8x128 : Shape := ⟨4, ![2, 8192, 8, 128]⟩
abbrev S2x8192x8x64 : Shape := ⟨4, ![2, 8192, 8, 64]⟩
abbrev S2x8192x64 : Shape := ⟨3, ![2, 8192, 64]⟩
abbrev S_ : Shape := ⟨0, ![]⟩
abbrev S2x8192x8x256 : Shape := ⟨4, ![2, 8192, 8, 256]⟩
abbrev S16384x8x256 : Shape := ⟨3, ![16384, 8, 256]⟩
abbrev S8x16384x256 : Shape := ⟨3, ![8, 16384, 256]⟩
abbrev S2x8192x1x64 : Shape := ⟨4, ![2, 8192, 1, 64]⟩
abbrev S16x1024x8x128 : Shape := ⟨4, ![16, 1024, 8, 128]⟩
abbrev S8x16x128x1024 : Shape := ⟨4, ![8, 16, 128, 1024]⟩
abbrev S16384x1024 : Shape := ⟨2, ![16384, 1024]⟩
abbrev S1x8192x256 : Shape := ⟨3, ![1, 8192, 256]⟩
abbrev S1x8x128x1024 : Shape := ⟨4, ![1, 8, 128, 1024]⟩
abbrev S8192x128 : Shape := ⟨2, ![8192, 128]⟩
abbrev S1024x1024 : Shape := ⟨2, ![1024, 1024]⟩
abbrev S1x1024 : Shape := ⟨2, ![1, 1024]⟩
abbrev S128x1024 : Shape := ⟨2, ![128, 1024]⟩
abbrev S1x1024x256 : Shape := ⟨3, ![1, 1024, 256]⟩
abbrev S1024x256 : Shape := ⟨2, ![1024, 256]⟩
abbrev S1024 : Shape := ⟨1, ![1024]⟩
abbrev S256x1024 : Shape := ⟨2, ![256, 1024]⟩
abbrev S1x1x128x1024 : Shape := ⟨4, ![1, 1, 128, 1024]⟩
abbrev S128x256 : Shape := ⟨2, ![128, 256]⟩
abbrev S256x768 : Shape := ⟨2, ![256, 768]⟩
abbrev S768 : Shape := ⟨1, ![768]⟩
abbrev S1x768 : Shape := ⟨2, ![1, 768]⟩
abbrev S1x256 : Shape := ⟨2, ![1, 256]⟩
abbrev S256x512 : Shape := ⟨2, ![256, 512]⟩
abbrev S512 : Shape := ⟨1, ![512]⟩
abbrev S1x512 : Shape := ⟨2, ![1, 512]⟩
abbrev S256x256 : Shape := ⟨2, ![256, 256]⟩
abbrev S256 : Shape := ⟨1, ![256]⟩
abbrev S128x768 : Shape := ⟨2, ![128, 768]⟩
abbrev S128x512 : Shape := ⟨2, ![128, 512]⟩
abbrev S1024x128 : Shape := ⟨2, ![1024, 128]⟩

abbrev nBuf : Space → Nat
  | .hbm => 30
  | .vmem => 13
  | .smem => 0
  | _ => 0

abbrev bufTy : (tb : Table) → Fin (tcTables nBuf tb) → BufTy
  | .hbm, ⟨0, _⟩ => ⟨S2x8192x8x128, .f32⟩
  | .hbm, ⟨1, _⟩ => ⟨S2x8192x8x64, .f32⟩
  | .hbm, ⟨2, _⟩ => ⟨S2x8192x8x128, .f32⟩
  | .hbm, ⟨3, _⟩ => ⟨S2x8192x64, .f32⟩
  | .hbm, ⟨4, _⟩ => ⟨S2x8192x8x128, .f32⟩
  | .hbm, ⟨5, _⟩ => ⟨S_, .f32⟩
  | .hbm, ⟨6, _⟩ => ⟨S2x8192x8x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2x8192x8x256, .f32⟩
  | .hbm, ⟨15, _⟩ => ⟨S2x8192x8x256, .f32⟩
  | .hbm, ⟨16, _⟩ => ⟨S2x8192x8x256, .f32⟩
  | .hbm, ⟨17, _⟩ => ⟨S16384x8x256, .f32⟩
  | .hbm, ⟨18, _⟩ => ⟨S8x16384x256, .f32⟩
  | .hbm, ⟨19, _⟩ => ⟨S8x16384x256, .bf16⟩
  | .hbm, ⟨20, _⟩ => ⟨S2x8192x1x64, .f32⟩
  | .hbm, ⟨21, _⟩ => ⟨S2x8192x8x64, .f32⟩
  | .hbm, ⟨22, _⟩ => ⟨S2x8192x8x256, .f32⟩
  | .hbm, ⟨23, _⟩ => ⟨S16384x8x256, .f32⟩
  | .hbm, ⟨24, _⟩ => ⟨S8x16384x256, .f32⟩
  | .hbm, ⟨25, _⟩ => ⟨S8x16384x256, .bf16⟩
  | .hbm, ⟨26, _⟩ => ⟨S16x1024x8x128, .f32⟩
  | .hbm, ⟨27, _⟩ => ⟨S8x16x128x1024, .f32⟩
  | .hbm, ⟨28, _⟩ => ⟨S8x16x128x1024, .bf16⟩
  | .hbm, ⟨29, _⟩ => ⟨S16384x1024, .bf16⟩
  | .local _ .vmem, ⟨0, _⟩ => ⟨S1x8192x256, .bf16⟩
  | .local _ .vmem, ⟨1, _⟩ => ⟨S1x8192x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8x128x1024, .bf16⟩
  | .local _ .vmem, ⟨5, _⟩ => ⟨S1x8x128x1024, .bf16⟩
  | .local _ .vmem, ⟨6, _⟩ => ⟨S8192x128, .bf16⟩
  | .local _ .vmem, ⟨7, _⟩ => ⟨S8192x128, .bf16⟩
  | .local _ .vmem, ⟨8, _⟩ => ⟨S1024x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S128x1024, .f32⟩
  | _, _ => ⟨S2x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_mult1 : BitVec 32 :=
  let c0_i32 : BitVec 32 := 0#32
  c0_i32
def k0_mult2 : BitVec 32 :=
  let c0_i32_1 : BitVec 32 := 0#32
  c0_i32_1
@[reducible] def k0_t1_loop : Scf.Loop 32 :=
  let c0_i32_9 : BitVec 32 := 0#32
  let c8_i32 : BitVec 32 := 8#32
  let v17 : BitVec 32 := Scalar.addi c0_i32_9 c8_i32
  let c1_i32 : BitVec 32 := 1#32
  ⟨c0_i32_9, v17, c1_i32⟩
def k0_mult3 (k0_t1 : Fin k0_t1_loop.trips) : BitVec 32 :=
  let c0_i32_9 : BitVec 32 := 0#32
  let c1_i32 : BitVec 32 := 1#32
  let arg11 : BitVec 32 := Scf.iv c0_i32_9 c1_i32 k0_t1
  let c1024_i32 : BitVec 32 := 1024#32
  let v18 : BitVec 32 := Scalar.muli arg11 c1024_i32
  v18
def k0_off1 (k0_t1 : Fin k0_t1_loop.trips) : Fin 3 → Nat :=
  let c0_11 : Index := 0#32
  let c0_i32_9 : BitVec 32 := 0#32
  let c1_i32 : BitVec 32 := 1#32
  let arg11 : BitVec 32 := Scf.iv c0_i32_9 c1_i32 k0_t1
  let c1024_i32 : BitVec 32 := 1024#32
  let v18 : BitVec 32 := Scalar.muli arg11 c1024_i32
  let v19 : BitVec 32 := v18
  let v20 : Index := Scalar.indexCast v19
  let c0_12 : Index := 0#32
  ![0, v20.toNat, 0]
@[reducible] def k0_t2_loop (k0_t1 : Fin k0_t1_loop.trips) : Scf.Loop 32 :=
  let c0_i32_23 : BitVec 32 := 0#32
  let c0_i32_9 : BitVec 32 := 0#32
  let c1_i32 : BitVec 32 := 1#32
  let arg11 : BitVec 32 := Scf.iv c0_i32_9 c1_i32 k0_t1
  let v35 : BitVec 32 := Scalar.subi arg11 c0_i32_23
  let c1_i32_24 : BitVec 32 := 1#32
  let v37 : BitVec 32 := Scalar.divsi v35 c1_i32_24
  let v38 : BitVec 32 := Scalar.muli v37 c1_i32_24
  let v39 : BitVec 32 := Scalar.addi c0_i32_23 v38
  let c1_i32_25 : BitVec 32 := 1#32
  ⟨c0_i32_23, v39, c1_i32_25⟩
def k0_mult4 (k0_t1 : Fin k0_t1_loop.trips) (k0_t2 : Fin (k0_t2_loop k0_t1).trips) : BitVec 32 :=
  let c0_i32_23 : BitVec 32 := 0#32
  let c1_i32_25 : BitVec 32 := 1#32
  let arg12 : BitVec 32 := Scf.iv c0_i32_23 c1_i32_25 k0_t2
  let c1_i32_101 : BitVec 32 := 1#32
  let v199 : BitVec 32 := Scalar.addi arg12 c1_i32_101
  let c1024_i32_102 : BitVec 32 := 1024#32
  let v200 : BitVec 32 := Scalar.muli v199 c1024_i32_102
  v200
def k0_off2 (k0_t1 : Fin k0_t1_loop.trips) (k0_t2 : Fin (k0_t2_loop k0_t1).trips) : Fin 3 → Nat :=
  let c0_103 : Index := 0#32
  let c0_i32_23 : BitVec 32 := 0#32
  let c1_i32_25 : BitVec 32 := 1#32
  let arg12 : BitVec 32 := Scf.iv c0_i32_23 c1_i32_25 k0_t2
  let c1_i32_101 : BitVec 32 := 1#32
  let v199 : BitVec 32 := Scalar.addi arg12 c1_i32_101
  let c1024_i32_102 : BitVec 32 := 1024#32
  let v200 : BitVec 32 := Scalar.muli v199 c1024_i32_102
  let v201 : BitVec 32 := v200
  let v202 : Index := Scalar.indexCast v201
  let c0_104 : Index := 0#32
  ![0, v202.toNat, 0]
def k0_off3 (k0_t1 : Fin k0_t1_loop.trips) (k0_t2 : Fin (k0_t2_loop k0_t1).trips) : Fin 4 → Nat :=
  let c0_111 : Index := 0#32
  let c0_i32_23 : BitVec 32 := 0#32
  let c1_i32_25 : BitVec 32 := 1#32
  let arg12 : BitVec 32 := Scf.iv c0_i32_23 c1_i32_25 k0_t2
  let v219 : Index := Scalar.indexCast arg12
  let c0_112 : Index := 0#32
  let c0_113 : Index := 0#32
  ![0, v219.toNat, 0, 0]
@[reducible] def k0_t3_loop (k0_t1 : Fin k0_t1_loop.trips) : Scf.Loop 32 :=
  let c0_i32_23 : BitVec 32 := 0#32
  let c0_i32_9 : BitVec 32 := 0#32
  let c1_i32 : BitVec 32 := 1#32
  let arg11 : BitVec 32 := Scf.iv c0_i32_9 c1_i32 k0_t1
  let v35 : BitVec 32 := Scalar.subi arg11 c0_i32_23
  let c1_i32_24 : BitVec 32 := 1#32
  let v37 : BitVec 32 := Scalar.divsi v35 c1_i32_24
  let v38 : BitVec 32 := Scalar.muli v37 c1_i32_24
  let v39 : BitVec 32 := Scalar.addi c0_i32_23 v38
  let v36 : BitVec 32 := Scalar.addi c0_i32_23 v35
  let c1_i32_26 : BitVec 32 := 1#32
  ⟨v39, v36, c1_i32_26⟩
def k0_mult5 (k0_t1 : Fin k0_t1_loop.trips) (k0_t3 : Fin (k0_t3_loop k0_t1).trips) : BitVec 32 :=
  let c0_i32_23 : BitVec 32 := 0#32
  let c0_i32_9 : BitVec 32 := 0#32
  let c1_i32 : BitVec 32 := 1#32
  let arg11 : BitVec 32 := Scf.iv c0_i32_9 c1_i32 k0_t1
  let v35 : BitVec 32 := Scalar.subi arg11 c0_i32_23
  let c1_i32_24 : BitVec 32 := 1#32
  let v37 : BitVec 32 := Scalar.divsi v35 c1_i32_24
  let v38 : BitVec 32 := Scalar.muli v37 c1_i32_24
  let v39 : BitVec 32 := Scalar.addi c0_i32_23 v38
  let c1_i32_26 : BitVec 32 := 1#32
  let arg12 : BitVec 32 := Scf.iv v39 c1_i32_26 k0_t3
  let c1_i32_101 : BitVec 32 := 1#32
  let v199 : BitVec 32 := Scalar.addi arg12 c1_i32_101
  let c1024_i32_102 : BitVec 32 := 1024#32
  let v200 : BitVec 32 := Scalar.muli v199 c1024_i32_102
  v200
def k0_off4 (k0_t1 : Fin k0_t1_loop.trips) (k0_t3 : Fin (k0_t3_loop k0_t1).trips) : Fin 3 → Nat :=
  let c0_103 : Index := 0#32
  let c0_i32_23 : BitVec 32 := 0#32
  let c0_i32_9 : BitVec 32 := 0#32
  let c1_i32 : BitVec 32 := 1#32
  let arg11 : BitVec 32 := Scf.iv c0_i32_9 c1_i32 k0_t1
  let v35 : BitVec 32 := Scalar.subi arg11 c0_i32_23
  let c1_i32_24 : BitVec 32 := 1#32
  let v37 : BitVec 32 := Scalar.divsi v35 c1_i32_24
  let v38 : BitVec 32 := Scalar.muli v37 c1_i32_24
  let v39 : BitVec 32 := Scalar.addi c0_i32_23 v38
  let c1_i32_26 : BitVec 32 := 1#32
  let arg12 : BitVec 32 := Scf.iv v39 c1_i32_26 k0_t3
  let c1_i32_101 : BitVec 32 := 1#32
  let v199 : BitVec 32 := Scalar.addi arg12 c1_i32_101
  let c1024_i32_102 : BitVec 32 := 1024#32
  let v200 : BitVec 32 := Scalar.muli v199 c1024_i32_102
  let v201 : BitVec 32 := v200
  let v202 : Index := Scalar.indexCast v201
  let c0_104 : Index := 0#32
  ![0, v202.toNat, 0]
def k0_off5 (k0_t1 : Fin k0_t1_loop.trips) (k0_t3 : Fin (k0_t3_loop k0_t1).trips) : Fin 4 → Nat :=
  let c0_111 : Index := 0#32
  let c0_i32_23 : BitVec 32 := 0#32
  let c0_i32_9 : BitVec 32 := 0#32
  let c1_i32 : BitVec 32 := 1#32
  let arg11 : BitVec 32 := Scf.iv c0_i32_9 c1_i32 k0_t1
  let v35 : BitVec 32 := Scalar.subi arg11 c0_i32_23
  let c1_i32_24 : BitVec 32 := 1#32
  let v37 : BitVec 32 := Scalar.divsi v35 c1_i32_24
  let v38 : BitVec 32 := Scalar.muli v37 c1_i32_24
  let v39 : BitVec 32 := Scalar.addi c0_i32_23 v38
  let c1_i32_26 : BitVec 32 := 1#32
  let arg12 : BitVec 32 := Scf.iv v39 c1_i32_26 k0_t3
  let v219 : Index := Scalar.indexCast arg12
  let c0_112 : Index := 0#32
  let c0_113 : Index := 0#32
  ![0, v219.toNat, 0, 0]
def k0_mult6 : BitVec 32 :=
  let c0_i32_29 : BitVec 32 := 0#32
  c0_i32_29
def k0_mult7 (k0_t1 : Fin k0_t1_loop.trips) : BitVec 32 :=
  let c0_i32_9 : BitVec 32 := 0#32
  let c1_i32 : BitVec 32 := 1#32
  let arg11 : BitVec 32 := Scf.iv c0_i32_9 c1_i32 k0_t1
  let c1_i32_32 : BitVec 32 := 1#32
  let v45 : BitVec 32 := Scalar.addi arg11 c1_i32_32
  let c7_i32 : BitVec 32 := 7#32
  let v46 : BitVec 32 := Scalar.minsi v45 c7_i32
  let c1024_i32_33 : BitVec 32 := 1024#32
  let v47 : BitVec 32 := Scalar.muli v46 c1024_i32_33
  v47
def k0_off6 (k0_t1 : Fin k0_t1_loop.trips) : Fin 3 → Nat :=
  let c0_34 : Index := 0#32
  let c0_i32_9 : BitVec 32 := 0#32
  let c1_i32 : BitVec 32 := 1#32
  let arg11 : BitVec 32 := Scf.iv c0_i32_9 c1_i32 k0_t1
  let c1_i32_32 : BitVec 32 := 1#32
  let v45 : BitVec 32 := Scalar.addi arg11 c1_i32_32
  let c7_i32 : BitVec 32 := 7#32
  let v46 : BitVec 32 := Scalar.minsi v45 c7_i32
  let c1024_i32_33 : BitVec 32 := 1024#32
  let v47 : BitVec 32 := Scalar.muli v46 c1024_i32_33
  let v48 : BitVec 32 := v47
  let v49 : Index := Scalar.indexCast v48
  let c0_35 : Index := 0#32
  ![0, v49.toNat, 0]
def k0_off7 (k0_t1 : Fin k0_t1_loop.trips) : Fin 4 → Nat :=
  let c0_53 : Index := 0#32
  let c0_i32_9 : BitVec 32 := 0#32
  let c1_i32 : BitVec 32 := 1#32
  let arg11 : BitVec 32 := Scf.iv c0_i32_9 c1_i32 k0_t1
  let v105 : Index := Scalar.indexCast arg11
  let c0_54 : Index := 0#32
  let c0_55 : Index := 0#32
  ![0, v105.toNat, 0, 0]
def k0_mult8 (k0_t1 : Fin k0_t1_loop.trips) : BitVec 32 :=
  let c0_i32_9 : BitVec 32 := 0#32
  let c1_i32 : BitVec 32 := 1#32
  let arg11 : BitVec 32 := Scf.iv c0_i32_9 c1_i32 k0_t1
  let c1024_i32_95 : BitVec 32 := 1024#32
  let v193 : BitVec 32 := Scalar.muli arg11 c1024_i32_95
  v193
def k0_off8 (k0_t1 : Fin k0_t1_loop.trips) : Fin 2 → Nat :=
  let c0_i32_9 : BitVec 32 := 0#32
  let c1_i32 : BitVec 32 := 1#32
  let arg11 : BitVec 32 := Scf.iv c0_i32_9 c1_i32 k0_t1
  let c1024_i32_95 : BitVec 32 := 1024#32
  let v193 : BitVec 32 := Scalar.muli arg11 c1024_i32_95
  let v194 : BitVec 32 := v193
  let v195 : Index := Scalar.indexCast v194
  let c0_96 : Index := 0#32
  ![v195.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference.lean ====
abbrev S2x8192x8x128 : Shape := ⟨4, ![2, 8192, 8, 128]⟩
abbrev S2x8192x8x64 : Shape := ⟨4, ![2, 8192, 8, 64]⟩
abbrev S2x8192x64 : Shape := ⟨3, ![2, 8192, 64]⟩
abbrev S2x8x8192x8192 : Shape := ⟨4, ![2, 8, 8192, 8192]⟩
abbrev S2x8192x8192x8 : Shape := ⟨4, ![2, 8192, 8192, 8]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x8192 : Shape := ⟨3, ![2, 8, 8192]⟩
abbrev S2x8x8192x1 : Shape := ⟨4, ![2, 8, 8192, 1]⟩
abbrev S2x8x128x8192 : Shape := ⟨4, ![2, 8, 128, 8192]⟩
abbrev S16384x1024 : Shape := ⟨2, ![16384, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x8192x8x128, .f32⟩
  | .hbm, ⟨1, _⟩ => ⟨S2x8192x8x64, .f32⟩
  | .hbm, ⟨2, _⟩ => ⟨S2x8192x8x128, .f32⟩
  | .hbm, ⟨3, _⟩ => ⟨S2x8192x64, .f32⟩
  | .hbm, ⟨4, _⟩ => ⟨S2x8192x8x128, .f32⟩
  | .hbm, ⟨5, _⟩ => ⟨S2x8x8192x8192, .f32⟩
  | .hbm, ⟨6, _⟩ => ⟨S2x8192x8192x8, .f32⟩
  | .hbm, ⟨7, _⟩ => ⟨S2x8x8192x8192, .f32⟩
  | .hbm, ⟨8, _⟩ => ⟨S2x8x8192x8192, .f32⟩
  | .hbm, ⟨9, _⟩ => ⟨S_, .f32⟩
  | .hbm, ⟨10, _⟩ => ⟨S_, .f32⟩
  | .hbm, ⟨11, _⟩ => ⟨S2x8x8192x8192, .f32⟩
  | .hbm, ⟨12, _⟩ => ⟨S2x8x8192x8192, .f32⟩
  | .hbm, ⟨13, _⟩ => ⟨S8192, .i32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S_, .f32⟩
  | .hbm, ⟨20, _⟩ => ⟨S_, .f32⟩
  | .hbm, ⟨21, _⟩ => ⟨S2x8x8192x8192, .i1⟩
  | .hbm, ⟨22, _⟩ => ⟨S2x8x8192x8192, .f32⟩
  | .hbm, ⟨23, _⟩ => ⟨S2x8x8192x8192, .f32⟩
  | .hbm, ⟨24, _⟩ => ⟨S_, .f32⟩
  | .hbm, ⟨25, _⟩ => ⟨S2x8x8192, .f32⟩
  | .hbm, ⟨26, _⟩ => ⟨S_, .f32⟩
  | .hbm, ⟨27, _⟩ => ⟨S2x8x8192, .f32⟩
  | .hbm, ⟨28, _⟩ => ⟨S2x8x8192, .f32⟩
  | .hbm, ⟨29, _⟩ => ⟨S2x8x8192x1, .f32⟩
  | .hbm, ⟨30, _⟩ => ⟨S2x8x8192x8192, .f32⟩
  | .hbm, ⟨31, _⟩ => ⟨S2x8x8192x8192, .f32⟩
  | .hbm, ⟨32, _⟩ => ⟨S2x8x8192x8192, .f32⟩
  | .hbm, ⟨33, _⟩ => ⟨S_, .f32⟩
  | .hbm, ⟨34, _⟩ => ⟨S2x8x8192, .f32⟩
  | .hbm, ⟨35, _⟩ => ⟨S2x8x8192x1, .f32⟩
  | .hbm, ⟨36, _⟩ => ⟨S2x8x8192x8192, .f32⟩
  | .hbm, ⟨37, _⟩ => ⟨S2x8x8192x8192, .f32⟩
  | .hbm, ⟨38, _⟩ => ⟨S2x8x128x8192, .f32⟩
  | .hbm, ⟨39, _⟩ => ⟨S2x8192x8x128, .f32⟩
  | .hbm, ⟨40, _⟩ => ⟨S16384x1024, .f32⟩
  | .hbm, ⟨41, _⟩ => ⟨S16384x1024, .bf16⟩
  | _, _ => ⟨S2x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel2.lean ====
abbrev S2x8192x1024 : Shape := ⟨3, ![2, 8192, 1024]⟩
abbrev S4x1024 : Shape := ⟨2, ![4, 1024]⟩
abbrev S1024 : Shape := ⟨1, ![1024]⟩
abbrev S2x1024x1024 : Shape := ⟨3, ![2, 1024, 1024]⟩
abbrev S4x1024x2816 : Shape := ⟨3, ![4, 1024, 2816]⟩
abbrev S4x2816x1024 : Shape := ⟨3, ![4, 2816, 1024]⟩
abbrev S4x1x1024 : Shape := ⟨3, ![4, 1, 1024]⟩
abbrev S16384x1024 : Shape := ⟨2, ![16384, 1024]⟩
abbrev S1x1024 : Shape := ⟨2, ![1, 1024]⟩
abbrev S512x1024 : Shape := ⟨2, ![512, 1024]⟩
abbrev S1x1024x1024 : Shape := ⟨3, ![1, 1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 18
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S4x1024, .f32⟩
  | .hbm, ⟨3, _⟩ => ⟨S1024, .f32⟩
  | .hbm, ⟨4, _⟩ => ⟨S2x1024x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S4x1x1024, .f32⟩
  | .hbm, ⟨9, _⟩ => ⟨S4x1024x2816, .bf16⟩
  | .hbm, ⟨10, _⟩ => ⟨S4x1024x2816, .bf16⟩
  | .hbm, ⟨11, _⟩ => ⟨S4x2816x1024, .bf16⟩
  | .hbm, ⟨12, _⟩ => ⟨S16384x1024, .f32⟩
  | .hbm, ⟨13, _⟩ => ⟨S16384x1024, .f32⟩
  | .hbm, ⟨14, _⟩ => ⟨S16384x1024, .bf16⟩
  | .hbm, ⟨15, _⟩ => ⟨S2x1024x1024, .bf16⟩
  | .hbm, ⟨16, _⟩ => ⟨S1x1024, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024x1024, .bf16⟩
  | .local _ .vmem, ⟨5, _⟩ => ⟨S1x1x1024, .f32⟩
  | .local _ .vmem, ⟨6, _⟩ => ⟨S1x1024x2816, .bf16⟩
  | .local _ .vmem, ⟨7, _⟩ => ⟨S1x1024x2816, .bf16⟩
  | .local _ .vmem, ⟨8, _⟩ => ⟨S1x2816x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S2x8192x1024 : Shape := ⟨3, ![2, 8192, 1024]⟩
abbrev S4x1024 : Shape := ⟨2, ![4, 1024]⟩
abbrev S1024 : Shape := ⟨1, ![1024]⟩
abbrev S2x1024x1024 : Shape := ⟨3, ![2, 1024, 1024]⟩
abbrev S4x1024x2816 : Shape := ⟨3, ![4, 1024, 2816]⟩
abbrev S4x2816x1024 : Shape := ⟨3, ![4, 2816, 1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S2x8192x2816 : Shape := ⟨3, ![2, 8192, 2816]⟩
abbrev S16384x1024 : Shape := ⟨2, ![16384, 1024]⟩

abbrev nBuf : Space → Nat
  | .hbm => 67
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S4x1024, .f32⟩
  | .hbm, ⟨3, _⟩ => ⟨S1024, .f32⟩
  | .hbm, ⟨4, _⟩ => ⟨S2x1024x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S1x1024x1024, .f32⟩
  | .hbm, ⟨9, _⟩ => ⟨S1024x1024, .f32⟩
  | .hbm, ⟨10, _⟩ => ⟨S2x8192x1024, .f32⟩
  | .hbm, ⟨11, _⟩ => ⟨S2x8192x1024, .f32⟩
  | .hbm, ⟨12, _⟩ => ⟨S1x1024, .f32⟩
  | .hbm, ⟨13, _⟩ => ⟨S1024, .f32⟩
  | .hbm, ⟨14, _⟩ => ⟨S2x8192x1024, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x1024, .f32⟩
  | .hbm, ⟨26, _⟩ => ⟨S2x8192x1024, .f32⟩
  | .hbm, ⟨27, _⟩ => ⟨S1x1x1024, .f32⟩
  | .hbm, ⟨28, _⟩ => ⟨S2x8192x1024, .f32⟩
  | .hbm, ⟨29, _⟩ => ⟨S2x8192x1024, .f32⟩
  | .hbm, ⟨30, _⟩ => ⟨S1x1024x2816, .f32⟩
  | .hbm, ⟨31, _⟩ => ⟨S1024x2816, .f32⟩
  | .hbm, ⟨32, _⟩ => ⟨S1x1024x2816, .f32⟩
  | .hbm, ⟨33, _⟩ => ⟨S1024x2816, .f32⟩
  | .hbm, ⟨34, _⟩ => ⟨S1x2816x1024, .f32⟩
  | .hbm, ⟨35, _⟩ => ⟨S2816x1024, .f32⟩
  | .hbm, ⟨36, _⟩ => ⟨S2x8192x2816, .f32⟩
  | .hbm, ⟨37, _⟩ => ⟨S2x8192x2816, .f32⟩
  | .hbm, ⟨38, _⟩ => ⟨S2x8192x2816, .f32⟩
  | .hbm, ⟨39, _⟩ => ⟨S_, .f32⟩
  | .hbm, ⟨40, _⟩ => ⟨S2x8192x2816, .f32⟩
  | .hbm, ⟨41, _⟩ => ⟨S2x8192x2816, .f32⟩
  | .hbm, ⟨42, _⟩ => ⟨S_, .f32⟩
  | .hbm, ⟨43, _⟩ => ⟨S2x8192x2816, .f32⟩
  | .hbm, ⟨44, _⟩ => ⟨S2x8192x2816, .f32⟩
  | .hbm, ⟨45, _⟩ => ⟨S2x8192x2816, .f32⟩
  | .hbm, ⟨46, _⟩ => ⟨S2x8192x2816, .f32⟩
  | .hbm, ⟨47, _⟩ => ⟨S2x8192x2816, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S_, .f32⟩
  | .hbm, ⟨52, _⟩ => ⟨S2x8192, .f32⟩
  | .hbm, ⟨53, _⟩ => ⟨S2x8192x1, .f32⟩
  | .hbm, ⟨54, _⟩ => ⟨S_, .f32⟩
  | .hbm, ⟨55, _⟩ => ⟨S2x8192x1, .f32⟩
  | .hbm, ⟨56, _⟩ => ⟨S2x8192x1, .f32⟩
  | .hbm, ⟨57, _⟩ => ⟨S_, .f32⟩
  | .hbm, ⟨58, _⟩ => ⟨S2x8192x1, .f32⟩
  | .hbm, ⟨59, _⟩ => ⟨S2x8192x1, .f32⟩
  | .hbm, ⟨60, _⟩ => ⟨S2x8192x1, .f32⟩
  | .hbm, ⟨61, _⟩ => ⟨S2x8192x1024, .f32⟩
  | .hbm, ⟨62, _⟩ => ⟨S2x8192x1024, .f32⟩
  | .hbm, ⟨63, _⟩ => ⟨S1x1x1024, .f32⟩
  | .hbm, ⟨64, _⟩ => ⟨S2x8192x1024, .f32⟩
  | .hbm, ⟨65, _⟩ => ⟨S2x8192x1024, .f32⟩
  | .hbm, ⟨66, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_2 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]
-- ==== Reference2.lean ====
abbrev S2x8192x1024 : Shape := ⟨3, ![2, 8192, 1024]⟩
abbrev S4x1024 : Shape := ⟨2, ![4, 1024]⟩
abbrev S1024 : Shape := ⟨1, ![1024]⟩
abbrev S2x1024x1024 : Shape := ⟨3, ![2, 1024, 1024]⟩
abbrev S4x1024x2816 : Shape := ⟨3, ![4, 1024, 2816]⟩
abbrev S4x2816x1024 : Shape := ⟨3, ![4, 2816, 1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S2x8192x2816 : Shape := ⟨3, ![2, 8192, 2816]⟩
abbrev S16384x1024 : Shape := ⟨2, ![16384, 1024]⟩

abbrev nBuf : Space → Nat
  | .hbm => 67
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S4x1024, .f32⟩
  | .hbm, ⟨3, _⟩ => ⟨S1024, .f32⟩
  | .hbm, ⟨4, _⟩ => ⟨S2x1024x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S1x1024x1024, .f32⟩
  | .hbm, ⟨9, _⟩ => ⟨S1024x1024, .f32⟩
  | .hbm, ⟨10, _⟩ => ⟨S2x8192x1024, .f32⟩
  | .hbm, ⟨11, _⟩ => ⟨S2x8192x1024, .f32⟩
  | .hbm, ⟨12, _⟩ => ⟨S1x1024, .f32⟩
  | .hbm, ⟨13, _⟩ => ⟨S1024, .f32⟩
  | .hbm, ⟨14, _⟩ => ⟨S2x8192x1024, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x1024, .f32⟩
  | .hbm, ⟨26, _⟩ => ⟨S2x8192x1024, .f32⟩
  | .hbm, ⟨27, _⟩ => ⟨S1x1x1024, .f32⟩
  | .hbm, ⟨28, _⟩ => ⟨S2x8192x1024, .f32⟩
  | .hbm, ⟨29, _⟩ => ⟨S2x8192x1024, .f32⟩
  | .hbm, ⟨30, _⟩ => ⟨S1x1024x2816, .f32⟩
  | .hbm, ⟨31, _⟩ => ⟨S1024x2816, .f32⟩
  | .hbm, ⟨32, _⟩ => ⟨S1x1024x2816, .f32⟩
  | .hbm, ⟨33, _⟩ => ⟨S1024x2816, .f32⟩
  | .hbm, ⟨34, _⟩ => ⟨S1x2816x1024, .f32⟩
  | .hbm, ⟨35, _⟩ => ⟨S2816x1024, .f32⟩
  | .hbm, ⟨36, _⟩ => ⟨S2x8192x2816, .f32⟩
  | .hbm, ⟨37, _⟩ => ⟨S2x8192x2816, .f32⟩
  | .hbm, ⟨38, _⟩ => ⟨S2x8192x2816, .f32⟩
  | .hbm, ⟨39, _⟩ => ⟨S_, .f32⟩
  | .hbm, ⟨40, _⟩ => ⟨S2x8192x2816, .f32⟩
  | .hbm, ⟨41, _⟩ => ⟨S2x8192x2816, .f32⟩
  | .hbm, ⟨42, _⟩ => ⟨S_, .f32⟩
  | .hbm, ⟨43, _⟩ => ⟨S2x8192x2816, .f32⟩
  | .hbm, ⟨44, _⟩ => ⟨S2x8192x2816, .f32⟩
  | .hbm, ⟨45, _⟩ => ⟨S2x8192x2816, .f32⟩
  | .hbm, ⟨46, _⟩ => ⟨S2x8192x2816, .f32⟩
  | .hbm, ⟨47, _⟩ => ⟨S2x8192x2816, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S_, .f32⟩
  | .hbm, ⟨52, _⟩ => ⟨S2x8192, .f32⟩
  | .hbm, ⟨53, _⟩ => ⟨S2x8192x1, .f32⟩
  | .hbm, ⟨54, _⟩ => ⟨S_, .f32⟩
  | .hbm, ⟨55, _⟩ => ⟨S2x8192x1, .f32⟩
  | .hbm, ⟨56, _⟩ => ⟨S2x8192x1, .f32⟩
  | .hbm, ⟨57, _⟩ => ⟨S_, .f32⟩
  | .hbm, ⟨58, _⟩ => ⟨S2x8192x1, .f32⟩
  | .hbm, ⟨59, _⟩ => ⟨S2x8192x1, .f32⟩
  | .hbm, ⟨60, _⟩ => ⟨S2x8192x1, .f32⟩
  | .hbm, ⟨61, _⟩ => ⟨S2x8192x1024, .f32⟩
  | .hbm, ⟨62, _⟩ => ⟨S2x8192x1024, .f32⟩
  | .hbm, ⟨63, _⟩ => ⟨S1x1x1024, .f32⟩
  | .hbm, ⟨64, _⟩ => ⟨S2x8192x1024, .f32⟩
  | .hbm, ⟨65, _⟩ => ⟨S2x8192x1024, .f32⟩
  | .hbm, ⟨66, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_2 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]
-- ==== Kernel6.lean ====
abbrev S128x1x1024 : Shape := ⟨3, ![128, 1, 1024]⟩
abbrev S4x1024 : Shape := ⟨2, ![4, 1024]⟩
abbrev S1024 : Shape := ⟨1, ![1024]⟩
abbrev S2x1024x1024 : Shape := ⟨3, ![2, 1024, 1024]⟩
abbrev S4x1024x2816 : Shape := ⟨3, ![4, 1024, 2816]⟩
abbrev S4x2816x1024 : Shape := ⟨3, ![4, 2816, 1024]⟩
abbrev S4x1x1024 : Shape := ⟨3, ![4, 1, 1024]⟩
abbrev S128x1024 : Shape := ⟨2, ![128, 1024]⟩
abbrev S1x1024 : Shape := ⟨2, ![1, 1024]⟩
abbrev S1x1024x1024 : Shape := ⟨3, ![1, 1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S128 : Shape := ⟨1, ![128]⟩
abbrev S128x1 : Shape := ⟨2, ![128, 1]⟩
abbrev S1024x2816 : Shape := ⟨2, ![1024, 2816]⟩
abbrev S128x2816 : Shape := ⟨2, ![128, 2816]⟩
abbrev S2816x1024 : Shape := ⟨2, ![2816, 1024]⟩

abbrev nBuf : Space → Nat
  | .hbm => 18
  | .vmem => 9
  | .smem => 0
  | _ => 0

abbrev bufTy : (tb : Table) → Fin (tcTables nBuf tb) → BufTy
  | .hbm, ⟨0, _⟩ => ⟨S128x1x1024, .f32⟩
  | .hbm, ⟨1, _⟩ => ⟨S128x1x1024, .f32⟩
  | .hbm, ⟨2, _⟩ => ⟨S4x1024, .f32⟩
  | .hbm, ⟨3, _⟩ => ⟨S1024, .f32⟩
  | .hbm, ⟨4, _⟩ => ⟨S2x1024x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S4x1x1024, .f32⟩
  | .hbm, ⟨9, _⟩ => ⟨S4x1024x2816, .bf16⟩
  | .hbm, ⟨10, _⟩ => ⟨S4x1024x2816, .bf16⟩
  | .hbm, ⟨11, _⟩ => ⟨S4x2816x1024, .bf16⟩
  | .hbm, ⟨12, _⟩ => ⟨S128x1024, .f32⟩
  | .hbm, ⟨13, _⟩ => ⟨S128x1024, .f32⟩
  | .hbm, ⟨14, _⟩ => ⟨S128x1024, .bf16⟩
  | .hbm, ⟨15, _⟩ => ⟨S2x1024x1024, .bf16⟩
  | .hbm, ⟨16, _⟩ => ⟨S1x1024, .f32⟩
  | .hbm, ⟨17, _⟩ => ⟨S128x1024, .f32⟩
  | .local _ .vmem, ⟨0, _⟩ => ⟨S128x1024, .f32⟩
  | .local _ .vmem, ⟨1, _⟩ => ⟨S128x1024, .bf16⟩
  | .local _ .vmem, ⟨2, _⟩ => ⟨S1x1024x1024, .bf16⟩
  | .local _ .vmem, ⟨3, _⟩ => ⟨S1x1x1024, .f32⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x1024, .f32⟩
  | .local _ .vmem, ⟨8, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference6.lean ====
abbrev S128x1x1024 : Shape := ⟨3, ![128, 1, 1024]⟩
abbrev S4x1024 : Shape := ⟨2, ![4, 1024]⟩
abbrev S1024 : Shape := ⟨1, ![1024]⟩
abbrev S2x1024x1024 : Shape := ⟨3, ![2, 1024, 1024]⟩
abbrev S4x1024x2816 : Shape := ⟨3, ![4, 1024, 2816]⟩
abbrev S4x2816x1024 : Shape := ⟨3, ![4, 2816, 1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S128x1x2816 : Shape := ⟨3, ![128, 1, 2816]⟩
abbrev S128x1024 : Shape := ⟨2, ![128, 1024]⟩

abbrev nBuf : Space → Nat
  | .hbm => 67
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x1x1024, .f32⟩
  | .hbm, ⟨2, _⟩ => ⟨S4x1024, .f32⟩
  | .hbm, ⟨3, _⟩ => ⟨S1024, .f32⟩
  | .hbm, ⟨4, _⟩ => ⟨S2x1024x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S1x1024x1024, .f32⟩
  | .hbm, ⟨9, _⟩ => ⟨S1024x1024, .f32⟩
  | .hbm, ⟨10, _⟩ => ⟨S128x1x1024, .f32⟩
  | .hbm, ⟨11, _⟩ => ⟨S128x1x1024, .f32⟩
  | .hbm, ⟨12, _⟩ => ⟨S1x1024, .f32⟩
  | .hbm, ⟨13, _⟩ => ⟨S1024, .f32⟩
  | .hbm, ⟨14, _⟩ => ⟨S128x1x1024, .f32⟩
  | .hbm, ⟨15, _⟩ => ⟨S_, .f32⟩
  | .hbm, ⟨16, _⟩ => ⟨S128x1, .f32⟩
  | .hbm, ⟨17, _⟩ => ⟨S128x1x1, .f32⟩
  | .hbm, ⟨18, _⟩ => ⟨S_, .f32⟩
  | .hbm, ⟨19, _⟩ => ⟨S128x1x1, .f32⟩
  | .hbm, ⟨20, _⟩ => ⟨S128x1x1, .f32⟩
  | .hbm, ⟨21, _⟩ => ⟨S_, .f32⟩
  | .hbm, ⟨22, _⟩ => ⟨S128x1x1, .f32⟩
  | .hbm, ⟨23, _⟩ => ⟨S128x1x1, .f32⟩
  | .hbm, ⟨24, _⟩ => ⟨S128x1x1, .f32⟩
  | .hbm, ⟨25, _⟩ => ⟨S128x1x1024, .f32⟩
  | .hbm, ⟨26, _⟩ => ⟨S128x1x1024, .f32⟩
  | .hbm, ⟨27, _⟩ => ⟨S1x1x1024, .f32⟩
  | .hbm, ⟨28, _⟩ => ⟨S128x1x1024, .f32⟩
  | .hbm, ⟨29, _⟩ => ⟨S128x1x1024, .f32⟩
  | .hbm, ⟨30, _⟩ => ⟨S1x1024x2816, .f32⟩
  | .hbm, ⟨31, _⟩ => ⟨S1024x2816, .f32⟩
  | .hbm, ⟨32, _⟩ => ⟨S1x1024x2816, .f32⟩
  | .hbm, ⟨33, _⟩ => ⟨S1024x2816, .f32⟩
  | .hbm, ⟨34, _⟩ => ⟨S1x2816x1024, .f32⟩
  | .hbm, ⟨35, _⟩ => ⟨S2816x1024, .f32⟩
  | .hbm, ⟨36, _⟩ => ⟨S128x1x2816, .f32⟩
  | .hbm, ⟨37, _⟩ => ⟨S128x1x2816, .f32⟩
  | .hbm, ⟨38, _⟩ => ⟨S128x1x2816, .f32⟩
  | .hbm, ⟨39, _⟩ => ⟨S_, .f32⟩
  | .hbm, ⟨40, _⟩ => ⟨S128x1x2816, .f32⟩
  | .hbm, ⟨41, _⟩ => ⟨S128x1x2816, .f32⟩
  | .hbm, ⟨42, _⟩ => ⟨S_, .f32⟩
  | .hbm, ⟨43, _⟩ => ⟨S128x1x2816, .f32⟩
  | .hbm, ⟨44, _⟩ => ⟨S128x1x2816, .f32⟩
  | .hbm, ⟨45, _⟩ => ⟨S128x1x2816, .f32⟩
  | .hbm, ⟨46, _⟩ => ⟨S128x1x2816, .f32⟩
  | .hbm, ⟨47, _⟩ => ⟨S128x1x2816, .f32⟩
  | .hbm, ⟨48, _⟩ => ⟨S128x1x1024, .f32⟩
  | .hbm, ⟨49, _⟩ => ⟨S128x1x1024, .f32⟩
  | .hbm, ⟨50, _⟩ => ⟨S128x1x1024, .f32⟩
  | .hbm, ⟨51, _⟩ => ⟨S_, .f32⟩
  | .hbm, ⟨52, _⟩ => ⟨S128x1, .f32⟩
  | .hbm, ⟨53, _⟩ => ⟨S128x1x1, .f32⟩
  | .hbm, ⟨54, _⟩ => ⟨S_, .f32⟩
  | .hbm, ⟨55, _⟩ => ⟨S128x1x1, .f32⟩
  | .hbm, ⟨56, _⟩ => ⟨S128x1x1, .f32⟩
  | .hbm, ⟨57, _⟩ => ⟨S_, .f32⟩
  | .hbm, ⟨58, _⟩ => ⟨S128x1x1, .f32⟩
  | .hbm, ⟨59, _⟩ => ⟨S128x1x1, .f32⟩
  | .hbm, ⟨60, _⟩ => ⟨S128x1x1, .f32⟩
  | .hbm, ⟨61, _⟩ => ⟨S128x1x1024, .f32⟩
  | .hbm, ⟨62, _⟩ => ⟨S128x1x1024, .f32⟩
  | .hbm, ⟨63, _⟩ => ⟨S1x1x1024, .f32⟩
  | .hbm, ⟨64, _⟩ => ⟨S128x1x1024, .f32⟩
  | .hbm, ⟨65, _⟩ => ⟨S128x1x1024, .f32⟩
  | .hbm, ⟨66, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_2 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]
-- ==== Kernel4.lean ====
abbrev S2x8192x1024 : Shape := ⟨3, ![2, 8192, 1024]⟩
abbrev S4x1024 : Shape := ⟨2, ![4, 1024]⟩
abbrev S2x1024x832 : Shape := ⟨3, ![2, 1024, 832]⟩
abbrev S2x512 : Shape := ⟨2, ![2, 512]⟩
abbrev S2x256 : Shape := ⟨2, ![2, 256]⟩
abbrev S2x512x1536 : Shape := ⟨3, ![2, 512, 1536]⟩
abbrev S2x256x8x128 : Shape := ⟨4, ![2, 256, 8, 128]⟩
abbrev S_ : Shape := ⟨0, ![]⟩
abbrev S2x1024x896 : Shape := ⟨3, ![2, 1024, 896]⟩
abbrev S2x512x8x192 : Shape := ⟨4, ![2, 512, 8, 192]⟩
abbrev S2x512x8x256 : Shape := ⟨4, ![2, 512, 8, 256]⟩
abbrev S2x512x2048 : Shape := ⟨3, ![2, 512, 2048]⟩
abbrev S2x256x1024 : Shape := ⟨3, ![2, 256, 1024]⟩
abbrev S2x1024x256 : Shape := ⟨3, ![2, 1024, 256]⟩
abbrev S2x1024 : Shape := ⟨2, ![2, 1024]⟩
abbrev S2x1x1024 : Shape := ⟨3, ![2, 1, 1024]⟩
abbrev S2x1x512 : Shape := ⟨3, ![2, 1, 512]⟩
abbrev S2x1x256 : Shape := ⟨3, ![2, 1, 256]⟩
abbrev S16384x1024 : Shape := ⟨2, ![16384, 1024]⟩
abbrev S8192 : Shape := ⟨1, ![8192]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S8192x128 : Shape := ⟨2, ![8192, 128]⟩
abbrev S8x16384x256 : Shape := ⟨3, ![8, 16384, 256]⟩
abbrev S8x16x128x1024 : Shape := ⟨4, ![8, 16, 128, 1024]⟩
abbrev S16384x256 : Shape := ⟨2, ![16384, 256]⟩
abbrev S16384x64 : Shape := ⟨2, ![16384, 64]⟩
abbrev S512x1024 : Shape := ⟨2, ![512, 1024]⟩
abbrev S1x1x1024 : Shape := ⟨3, ![1, 1, 1024]⟩
abbrev S1x1024x896 : Shape := ⟨3, ![1, 1024, 896]⟩
abbrev S1x1x512 : Shape := ⟨3, ![1, 1, 512]⟩
abbrev S1x1x256 : Shape := ⟨3, ![1, 1, 256]⟩
abbrev S1x512x2048 : Shape := ⟨3, ![1, 512, 2048]⟩
abbrev S1x256x1024 : Shape := ⟨3, ![1, 256, 1024]⟩
abbrev S1x1024x256 : Shape := ⟨3, ![1, 1024, 256]⟩
abbrev S512x128 : Shape := ⟨2, ![512, 128]⟩
abbrev S8x512x256 : Shape := ⟨3, ![8, 512, 256]⟩
abbrev S8x1x128x512 : Shape := ⟨4, ![8, 1, 128, 512]⟩
abbrev S512x256 : Shape := ⟨2, ![512, 256]⟩
abbrev S512x64 : Shape := ⟨2, ![512, 64]⟩
abbrev S1x1024 : Shape := ⟨2, ![1, 1024]⟩
abbrev S512 : Shape := ⟨1, ![512]⟩
abbrev S512x1 : Shape := ⟨2, ![512, 1]⟩
abbrev S1024x896 : Shape := ⟨2, ![1024, 896]⟩
abbrev S512x896 : Shape := ⟨2, ![512, 896]⟩
abbrev S512x512 : Shape := ⟨2, ![512, 512]⟩
abbrev S1x512 : Shape := ⟨2, ![1, 512]⟩
abbrev S1x256 : Shape := ⟨2, ![1, 256]⟩
abbrev S512x2048 : Shape := ⟨2, ![512, 2048]⟩
abbrev S1x512x128 : Shape := ⟨3, ![1, 512, 128]⟩
abbrev S256x1024 : Shape := ⟨2, ![256, 1024]⟩
abbrev S1024x256 : Shape := ⟨2, ![1024, 256]⟩
abbrev S1024x512 : Shape := ⟨2, ![1024, 512]⟩
abbrev S128x512 : Shape := ⟨2, ![128, 512]⟩
abbrev S1x1x128x512 : Shape := ⟨4, ![1, 1, 128, 512]⟩

abbrev nBuf : Space → Nat
  | .hbm => 58
  | .vmem => 25
  | .smem => 0
  | _ => 0

abbrev bufTy : (tb : Table) → Fin (tcTables nBuf tb) → BufTy
  | .hbm, ⟨0, _⟩ => ⟨S2x8192x1024, .f32⟩
  | .hbm, ⟨1, _⟩ => ⟨S4x1024, .f32⟩
  | .hbm, ⟨2, _⟩ => ⟨S2x1024x832, .f32⟩
  | .hbm, ⟨3, _⟩ => ⟨S2x512, .f32⟩
  | .hbm, ⟨4, _⟩ => ⟨S2x256, .f32⟩
  | .hbm, ⟨5, _⟩ => ⟨S2x512x1536, .f32⟩
  | .hbm, ⟨6, _⟩ => ⟨S2x256x8x128, .f32⟩
  | .hbm, ⟨7, _⟩ => ⟨S2x256x8x128, .f32⟩
  | .hbm, ⟨8, _⟩ => ⟨S_, .i32⟩
  | .hbm, ⟨9, _⟩ => ⟨S_, .f32⟩
  | .hbm, ⟨10, _⟩ => ⟨S2x1024x896, .f32⟩
  | .hbm, ⟨11, _⟩ => ⟨S2x1024x896, .bf16⟩
  | .hbm, ⟨12, _⟩ => ⟨S2x512x8x192, .f32⟩
  | .hbm, ⟨13, _⟩ => ⟨S_, .i32⟩
  | .hbm, ⟨14, _⟩ => ⟨S_, .f32⟩
  | .hbm, ⟨15, _⟩ => ⟨S2x512x8x256, .f32⟩
  | .hbm, ⟨16, _⟩ => ⟨S2x512x2048, .f32⟩
  | .hbm, ⟨17, _⟩ => ⟨S2x512x2048, .bf16⟩
  | .hbm, ⟨18, _⟩ => ⟨S2x256x1024, .f32⟩
  | .hbm, ⟨19, _⟩ => ⟨S2x256x1024, .bf16⟩
  | .hbm, ⟨20, _⟩ => ⟨S2x256x1024, .f32⟩
  | .hbm, ⟨21, _⟩ => ⟨S2x1024x256, .f32⟩
  | .hbm, ⟨22, _⟩ => ⟨S2x1024x256, .bf16⟩
  | .hbm, ⟨23, _⟩ => ⟨S2x1024, .f32⟩
  | .hbm, ⟨24, _⟩ => ⟨S2x1x1024, .f32⟩
  | .hbm, ⟨25, _⟩ => ⟨S2x1x512, .f32⟩
  | .hbm, ⟨26, _⟩ => ⟨S2x1x256, .f32⟩
  | .hbm, ⟨27, _⟩ => ⟨S16384x1024, .f32⟩
  | .hbm, ⟨28, _⟩ => ⟨S8192, .i32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S8192, .f32⟩
  | .hbm, ⟨38, _⟩ => ⟨S8192x1, .f32⟩
  | .hbm, ⟨39, _⟩ => ⟨S1x32, .f32⟩
  | .hbm, ⟨40, _⟩ => ⟨S8192x32, .f32⟩
  | .hbm, ⟨41, _⟩ => ⟨S8192x32, .f32⟩
  | .hbm, ⟨42, _⟩ => ⟨S8192x32, .f32⟩
  | .hbm, ⟨43, _⟩ => ⟨S8192x32, .f32⟩
  | .hbm, ⟨44, _⟩ => ⟨S8192x32, .f32⟩
  | .hbm, ⟨45, _⟩ => ⟨S_, .f32⟩
  | .hbm, ⟨46, _⟩ => ⟨S8192x32, .f32⟩
  | .hbm, ⟨47, _⟩ => ⟨S_, .f32⟩
  | .hbm, ⟨48, _⟩ => ⟨S8192x64, .f32⟩
  | .hbm, ⟨49, _⟩ => ⟨S8192x128, .f32⟩
  | .hbm, ⟨50, _⟩ => ⟨S8192x32, .f32⟩
  | .hbm, ⟨51, _⟩ => ⟨S8192x128, .f32⟩
  | .hbm, ⟨52, _⟩ => ⟨S8192x128, .f32⟩
  | .hbm, ⟨53, _⟩ => ⟨S8x16384x256, .bf16⟩
  | .hbm, ⟨54, _⟩ => ⟨S8x16384x256, .bf16⟩
  | .hbm, ⟨55, _⟩ => ⟨S8x16x128x1024, .bf16⟩
  | .hbm, ⟨56, _⟩ => ⟨S16384x256, .f32⟩
  | .hbm, ⟨57, _⟩ => ⟨S16384x64, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x896, .bf16⟩
  | .local _ .vmem, ⟨4, _⟩ => ⟨S1x1x512, .f32⟩
  | .local _ .vmem, ⟨5, _⟩ => ⟨S1x1x256, .f32⟩
  | .local _ .vmem, ⟨6, _⟩ => ⟨S1x512x2048, .bf16⟩
  | .local _ .vmem, ⟨7, _⟩ => ⟨S1x256x1024, .bf16⟩
  | .local _ .vmem, ⟨8, _⟩ => ⟨S1x1024x256, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S8x512x256, .bf16⟩
  | .local _ .vmem, ⟨16, _⟩ => ⟨S8x512x256, .bf16⟩
  | .local _ .vmem, ⟨17, _⟩ => ⟨S8x512x256, .bf16⟩
  | .local _ .vmem, ⟨18, _⟩ => ⟨S8x512x256, .bf16⟩
  | .local _ .vmem, ⟨19, _⟩ => ⟨S8x1x128x512, .bf16⟩
  | .local _ .vmem, ⟨20, _⟩ => ⟨S8x1x128x512, .bf16⟩
  | .local _ .vmem, ⟨21, _⟩ => ⟨S512x256, .f32⟩
  | .local _ .vmem, ⟨22, _⟩ => ⟨S512x256, .f32⟩
  | .local _ .vmem, ⟨23, _⟩ => ⟨S512x64, .f32⟩
  | .local _ .vmem, ⟨24, _⟩ => ⟨S512x64, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37_0 : Ref sig .tc := ⟨.hbm, 53, rfl⟩
abbrev main_v37_1 : Ref sig .tc := ⟨.hbm, 54, rfl⟩
abbrev main_v37_2 : Ref sig .tc := ⟨.hbm, 55, rfl⟩
abbrev main_v37_3 : Ref sig .tc := ⟨.hbm, 56, rfl⟩
abbrev main_v37_4 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x1x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4.lean ====
abbrev S2x8192x1024 : Shape := ⟨3, ![2, 8192, 1024]⟩
abbrev S4x1024 : Shape := ⟨2, ![4, 1024]⟩
abbrev S2x1024x832 : Shape := ⟨3, ![2, 1024, 832]⟩
abbrev S2x512 : Shape := ⟨2, ![2, 512]⟩
abbrev S2x256 : Shape := ⟨2, ![2, 256]⟩
abbrev S2x512x1536 : Shape := ⟨3, ![2, 512, 1536]⟩
abbrev S2x256x8x128 : Shape := ⟨4, ![2, 256, 8, 128]⟩
abbrev S8192 : Shape := ⟨1, ![8192]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x832 : Shape := ⟨3, ![1, 1024, 832]⟩
abbrev S1024x832 : Shape := ⟨2, ![1024, 832]⟩
abbrev S2x8192x832 : Shape := ⟨3, ![2, 8192, 832]⟩
abbrev S2x8192x512 : Shape := ⟨3, ![2, 8192, 512]⟩
abbrev S2x8192x256 : Shape := ⟨3, ![2, 8192, 256]⟩
abbrev S2x8192x64 : Shape := ⟨3, ![2, 8192, 64]⟩
abbrev S1x512 : Shape := ⟨2, ![1, 512]⟩
abbrev S512 : Shape := ⟨1, ![512]⟩
abbrev S1x1x512 : Shape := ⟨3, ![1, 1, 512]⟩
abbrev S1x512x1536 : Shape := ⟨3, ![1, 512, 1536]⟩
abbrev S512x1536 : Shape := ⟨2, ![512, 1536]⟩
abbrev S2x8192x1536 : Shape := ⟨3, ![2, 8192, 1536]⟩
abbrev S2x8192x8x192 : Shape := ⟨4, ![2, 8192, 8, 192]⟩
abbrev S2x8192x8x128 : Shape := ⟨4, ![2, 8192, 8, 128]⟩
abbrev S2x8192x8x64 : Shape := ⟨4, ![2, 8192, 8, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S2x8192x8x32 : Shape := ⟨4, ![2, 8192, 8, 32]⟩
abbrev S1x256 : Shape := ⟨2, ![1, 256]⟩
abbrev S256 : Shape := ⟨1, ![256]⟩
abbrev S1x1x256 : Shape := ⟨3, ![1, 1, 256]⟩
abbrev S1x8192x32 : Shape := ⟨3, ![1, 8192, 32]⟩
abbrev S2x8192x32 : Shape := ⟨3, ![2, 8192, 32]⟩
abbrev S1x256x8x128 : Shape := ⟨4, ![1, 256, 8, 128]⟩
abbrev S256x8x128 : Shape := ⟨3, ![256, 8, 128]⟩
abbrev S2x8192x1x64 : Shape := ⟨4, ![2, 8192, 1, 64]⟩
abbrev S16x1024x8x128 : Shape := ⟨4, ![16, 1024, 8, 128]⟩
abbrev S8x16x128x1024 : Shape := ⟨4, ![8, 16, 128, 1024]⟩
abbrev S2x8192x8x256 : Shape := ⟨4, ![2, 8192, 8, 256]⟩
abbrev S8x2x8192x256 : Shape := ⟨4, ![8, 2, 8192, 256]⟩
abbrev S8x16384x256 : Shape := ⟨3, ![8, 16384, 256]⟩
abbrev S16384x256 : Shape := ⟨2, ![16384, 256]⟩
abbrev S16384x64 : Shape := ⟨2, ![16384, 64]⟩

abbrev nBuf : Space → Nat
  | .hbm => 167
  | .vmem => 0
  | .smem => 0
  | _ => 0

abbrev hbmTy0_0 (i : Nat) : BufTy := match i % 128 with
  | 0 => ⟨S2x8192x1024, .f32⟩
  | 1 => ⟨S4x1024, .f32⟩
  | 2 => ⟨S2x1024x832, .f32⟩
  | 3 => ⟨S2x512, .f32⟩
  | 4 => ⟨S2x256, .f32⟩
  | 5 => ⟨S2x512x1536, .f32⟩
  | 6 => ⟨S2x256x8x128, .f32⟩
  | 7 => ⟨S2x256x8x128, .f32⟩
  | 8 => ⟨S8192, .i32⟩
  | 9 => ⟨S1x1024, .f32⟩
  | 10 => ⟨S1024, .f32⟩
  | 11 => ⟨S2x8192x1024, .f32⟩
  | 12 => ⟨S_, .f32⟩
  | 13 => ⟨S2x8192, .f32⟩
  | 14 => ⟨S2x8192x1, .f32⟩
  | 15 => ⟨S_, .f32⟩
  | 16 => ⟨S2x8192x1, .f32⟩
  | 17 => ⟨S2x8192x1, .f32⟩
  | 18 => ⟨S_, .f32⟩
  | 19 => ⟨S2x8192x1, .f32⟩
  | 20 => ⟨S2x8192x1, .f32⟩
  | 21 => ⟨S2x8192x1, .f32⟩
  | 22 => ⟨S2x8192x1024, .f32⟩
  | 23 => ⟨S2x8192x1024, .f32⟩
  | 24 => ⟨S1x1x1024, .f32⟩
  | 25 => ⟨S2x8192x1024, .f32⟩
  | 26 => ⟨S2x8192x1024, .f32⟩
  | 27 => ⟨S1x1024x832, .f32⟩
  | 28 => ⟨S1024x832, .f32⟩
  | 29 => ⟨S2x8192x832, .f32⟩
  | 30 => ⟨S2x8192x512, .f32⟩
  | 31 => ⟨S2x8192x256, .f32⟩
  | 32 => ⟨S2x8192x64, .f32⟩
  | 33 => ⟨S1x512, .f32⟩
  | 34 => ⟨S512, .f32⟩
  | 35 => ⟨S2x8192x512, .f32⟩
  | 36 => ⟨S_, .f32⟩
  | 37 => ⟨S2x8192, .f32⟩
  | 38 => ⟨S2x8192x1, .f32⟩
  | 39 => ⟨S_, .f32⟩
  | 40 => ⟨S2x8192x1, .f32⟩
  | 41 => ⟨S2x8192x1, .f32⟩
  | 42 => ⟨S_, .f32⟩
  | 43 => ⟨S2x8192x1, .f32⟩
  | 44 => ⟨S2x8192x1, .f32⟩
  | 45 => ⟨S2x8192x1, .f32⟩
  | 46 => ⟨S2x8192x512, .f32⟩
  | 47 => ⟨S2x8192x512, .f32⟩
  | 48 => ⟨S1x1x512, .f32⟩
  | 49 => ⟨S2x8192x512, .f32⟩
  | 50 => ⟨S2x8192x512, .f32⟩
  | 51 => ⟨S1x512x1536, .f32⟩
  | 52 => ⟨S512x1536, .f32⟩
  | 53 => ⟨S2x8192x1536, .f32⟩
  | 54 => ⟨S2x8192x8x192, .f32⟩
  | 55 => ⟨S2x8192x8x128, .f32⟩
  | 56 => ⟨S2x8192x8x64, .f32⟩
  | 57 => ⟨S32, .f32⟩
  | 58 => ⟨S32, .f32⟩
  | 59 => ⟨S_, .f32⟩
  | 60 => ⟨S32, .f32⟩
  | 61 => ⟨S32, .f32⟩
  | 62 => ⟨S_, .f32⟩
  | 63 => ⟨S32, .f32⟩
  | 64 => ⟨S32, .f32⟩
  | 65 => ⟨S8192, .f32⟩
  | 66 => ⟨S8192x1, .f32⟩
  | 67 => ⟨S1x32, .f32⟩
  | 68 => ⟨S8192x32, .f32⟩
  | 69 => ⟨S8192x32, .f32⟩
  | 70 => ⟨S8192x32, .f32⟩
  | 71 => ⟨S8192x32, .f32⟩
  | 72 => ⟨S1x8192x1x32, .f32⟩
  | 73 => ⟨S8192x32, .f32⟩
  | 74 => ⟨S1x8192x1x32, .f32⟩
  | 75 => ⟨S2x8192x8x32, .f32⟩
  | 76 => ⟨S2x8192x8x32, .f32⟩
  | 77 => ⟨S2x8192x8x32, .f32⟩
  | 78 => ⟨S2x8192x8x32, .f32⟩
  | 79 => ⟨S2x8192x8x32, .f32⟩
  | 80 => ⟨S2x8192x8x32, .f32⟩
  | 81 => ⟨S2x8192x8x32, .f32⟩
  | 82 => ⟨S2x8192x8x32, .f32⟩
  | 83 => ⟨S2x8192x8x32, .f32⟩
  | 84 => ⟨S2x8192x8x32, .f32⟩
  | 85 => ⟨S2x8192x8x32, .f32⟩
  | 86 => ⟨S2x8192x8x32, .f32⟩
  | 87 => ⟨S2x8192x8x64, .f32⟩
  | 88 => ⟨S2x8192x8x192, .f32⟩
  | 89 => ⟨S1x256, .f32⟩
  | 90 => ⟨S256, .f32⟩
  | 91 => ⟨S2x8192x256, .f32⟩
  | 92 => ⟨S_, .f32⟩
  | 93 => ⟨S2x8192, .f32⟩
  | 94 => ⟨S2x8192x1, .f32⟩
  | 95 => ⟨S_, .f32⟩
  | 96 => ⟨S2x8192x1, .f32⟩
  | 97 => ⟨S2x8192x1, .f32⟩
  | 98 => ⟨S_, .f32⟩
  | 99 => ⟨S2x8192x1, .f32⟩
  | 100 => ⟨S2x8192x1, .f32⟩
  | 101 => ⟨S2x8192x1, .f32⟩
  | 102 => ⟨S2x8192x256, .f32⟩
  | 103 => ⟨S2x8192x256, .f32⟩
  | 104 => ⟨S1x1x256, .f32⟩
  | 105 => ⟨S2x8192x256, .f32⟩
  | 106 => ⟨S2x8192x256, .f32⟩
  | 107 => ⟨S32, .f32⟩
  | 108 => ⟨S32, .f32⟩
  | 109 => ⟨S_, .f32⟩
  | 110 => ⟨S32, .f32⟩
  | 111 => ⟨S32, .f32⟩
  | 112 => ⟨S_, .f32⟩
  | 113 => ⟨S32, .f32⟩
  | 114 => ⟨S32, .f32⟩
  | 115 => ⟨S8192, .f32⟩
  | 116 => ⟨S8192x1, .f32⟩
  | 117 => ⟨S1x32, .f32⟩
  | 118 => ⟨S8192x32, .f32⟩
  | 119 => ⟨S8192x32, .f32⟩
  | 120 => ⟨S8192x32, .f32⟩
  | 121 => ⟨S8192x32, .f32⟩
  | 122 => ⟨S1x8192x32, .f32⟩
  | 123 => ⟨S8192x32, .f32⟩
  | 124 => ⟨S1x8192x32, .f32⟩
  | 125 => ⟨S2x8192x32, .f32⟩
  | 126 => ⟨S2x8192x32, .f32⟩
  | 127 => ⟨S2x8192x32, .f32⟩
  | _ => ⟨S2x8192x1024, .f32⟩

abbrev hbmTy0_1 (i : Nat) : BufTy := match i % 128 with
  | 0 => ⟨S2x8192x32, .f32⟩
  | 1 => ⟨S2x8192x32, .f32⟩
  | 2 => ⟨S2x8192x32, .f32⟩
  | 3 => ⟨S2x8192x32, .f32⟩
  | 4 => ⟨S2x8192x32, .f32⟩
  | 5 => ⟨S2x8192x32, .f32⟩
  | 6 => ⟨S2x8192x32, .f32⟩
  | 7 => ⟨S2x8192x32, .f32⟩
  | 8 => ⟨S2x8192x32, .f32⟩
  | 9 => ⟨S2x8192x64, .f32⟩
  | 10 => ⟨S1x256x8x128, .f32⟩
  | 11 => ⟨S256x8x128, .f32⟩
  | 12 => ⟨S2x8192x8x128, .f32⟩
  | 13 => ⟨S1x256x8x128, .f32⟩
  | 14 => ⟨S256x8x128, .f32⟩
  | 15 => ⟨S2x8192x8x128, .f32⟩
  | 16 => ⟨S2x8192x1x64, .f32⟩
  | 17 => ⟨S2x8192x8x64, .f32⟩
  | 18 => ⟨S16x1024x8x128, .f32⟩
  | 19 => ⟨S8x16x128x1024, .f32⟩
  | 20 => ⟨S8x16x128x1024, .bf16⟩
  | 21 => ⟨S_, .f32⟩
  | 22 => ⟨S2x8192x8x192, .f32⟩
  | 23 => ⟨S2x8192x8x192, .f32⟩
  | 24 => ⟨S_, .f32⟩
  | 25 => ⟨S2x8192x8x64, .f32⟩
  | 26 => ⟨S2x8192x8x256, .f32⟩
  | 27 => ⟨S8x2x8192x256, .f32⟩
  | 28 => ⟨S8x16384x256, .f32⟩
  | 29 => ⟨S8x16384x256, .bf16⟩
  | 30 => ⟨S2x8192x8x192, .f32⟩
  | 31 => ⟨S_, .f32⟩
  | 32 => ⟨S2x8192x8x64, .f32⟩
  | 33 => ⟨S2x8192x8x256, .f32⟩
  | 34 => ⟨S8x2x8192x256, .f32⟩
  | 35 => ⟨S8x16384x256, .f32⟩
  | 36 => ⟨S8x16384x256, .bf16⟩
  | 37 => ⟨S16384x256, .f32⟩
  | 38 => ⟨S16384x64, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_7 : Ref sig .tc := ⟨.hbm, 92, rfl⟩
abbrev main_v76 : Ref sig .tc := ⟨.hbm, 93, rfl⟩
abbrev main_v77 : Ref sig .tc := ⟨.hbm, 94, rfl⟩
abbrev main_cst_8 : Ref sig .tc := ⟨.hbm, 95, rfl⟩
abbrev main_v78 : Ref sig .tc := ⟨.hbm, 96, rfl⟩
abbrev main_v79 : Ref sig .tc := ⟨.hbm, 97, rfl⟩
abbrev main_cst_9 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_10 : Ref sig .tc := ⟨.hbm, 109, rfl⟩
abbrev main_v90 : Ref sig .tc := ⟨.hbm, 110, rfl⟩
abbrev main_v91 : Ref sig .tc := ⟨.hbm, 111, rfl⟩
abbrev main_cst_11 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_cst_12 : Ref sig .tc := ⟨.hbm, 149, rfl⟩
abbrev main_v128 : Ref sig .tc := ⟨.hbm, 150, rfl⟩
abbrev main_v129 : Ref sig .tc := ⟨.hbm, 151, rfl⟩
abbrev main_cst_13 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_cst_14 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩

abbrev nD : Nat := 1
abbrev τ : Topo := Topo.v7x

variable {F : FTy → Type} [FloatOps F]
-- ==== Proof.Flash.Soft.lean ====
module

public import Idealize.ShloMosaic.PureOps.Ideal
public import Mathlib.Analysis.SpecialFunctions.Pow.Real

@[expose] public section

noncomputable section

/-! The online softmax over the extended reals: a running maximum, a running sum and a running weighted
sum, all rescaled when the maximum moves, end as the softmax-weighted sum. -/

namespace Cert.Softmax

open Idealize.ShloMosaic

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem mul_sum {ι : Type} (t : Finset ι) (f : ι → EReal) (r : ℝ) (hr : 0 ≤ r) : (r : EReal) * ∑ i ∈ t, f i = ∑ i ∈ t, (r : EReal) * f i := by
  classical
  induction t using Finset.induction_on with
  | empty => simp
  | insert a t ha ih =>
    rw [Finset.sum_insert ha, Finset.sum_insert ha, EReal.left_distrib_of_nonneg_of_ne_top (by exact_mod_cast hr) (EReal.coe_ne_top r), ih]

/-- The weight of key `i` against the base `M`. -/
def w (s : ℕ → ℝ) (M : ℝ) (i : ℕ) : ℝ := Real.rpow 2 (s i - M)

theorem w_pos (s : ℕ → ℝ) (M : ℝ) (i : ℕ) : 0 < w s M i := Real.rpow_pos_of_pos (by norm_num) _

theorem w_shift (s : ℕ → ℝ) (M M' : ℝ) (i : ℕ) : Real.rpow 2 (M - M') * w s M i = w s M' i := by
  unfold w
  rw [show s i - M' = (M - M') + (s i - M) by ring]
  exact (Real.rpow_add (by norm_num) _ _).symm

theorem exp2_w (s : ℕ → ℝ) (M : ℝ) (i : ℕ) : Ideal.exp2 ((s i : EReal) - (M : EReal)) = (w s M i : EReal) := by
  rw [← EReal.coe_sub, Ideal.exp2_coe]; rfl

/-- After the first `n` keys: nothing yet, or the sums against some real base. -/
def Soft (n : ℕ) (s : ℕ → ℝ) (v : ℕ → EReal) (m l a : EReal) : Prop :=
  (n = 0 ∧ m = ⊥ ∧ l = 0 ∧ a = 0)
    ∨ ∃ M : ℝ, m = (M : EReal) ∧ l = ∑ i ∈ Finset.range n, (w s M i : EReal) ∧ a = ∑ i ∈ Finset.range n, v i * (w s M i : EReal)

theorem Soft.ne_top {n : ℕ} {s : ℕ → ℝ} {v : ℕ → EReal} {m l a : EReal} (h : Soft n s v m l a) : m ≠ ⊤ := by
  rcases h with ⟨_, rfl, _, _⟩ | ⟨M, rfl, _, _⟩
  · exact bot_ne_top
  · exact EReal.coe_ne_top M

/-- `c` more keys, against a new real base. -/
theorem Soft.step {n : ℕ} {s : ℕ → ℝ} {v : ℕ → EReal} {m l a : EReal} (h : Soft n s v m l a) (M' : ℝ) (c : ℕ) :
    Soft (n + c) s v (M' : EReal)
      (Ideal.exp2 (m - (M' : EReal)) * l + ∑ i ∈ Finset.range c, Ideal.exp2 ((s (n + i) : EReal) - (M' : EReal)))
      (Ideal.exp2 (m - (M' : EReal)) * a + ∑ i ∈ Finset.range c, v (n + i) * Ideal.exp2 ((s (n + i) : EReal) - (M' : EReal))) := by
  refine Or.inr ⟨M', rfl, ?_, ?_⟩
  · simp only [exp2_w]
    rw [Finset.sum_range_add]
    congr 1
    rcases h with ⟨rfl, rfl, rfl, rfl⟩ | ⟨M, rfl, rfl, rfl⟩
    · simp
    · rw [← EReal.coe_sub, Ideal.exp2_coe, mul_sum _ _ (Real.rpow 2 (M - M')) (Real.rpow_nonneg (by norm_num) _)]
      refine Finset.sum_congr rfl fun i _ => ?_
      rw [← EReal.coe_mul, w_shift]
  · simp only [exp2_w]
    rw [Finset.sum_range_add]
    congr 1
    rcases h with ⟨rfl, rfl, rfl, rfl⟩ | ⟨M, rfl, rfl, rfl⟩
    · simp
    · rw [← EReal.coe_sub, Ideal.exp2_coe, mul_sum _ _ (Real.rpow 2 (M - M')) (Real.rpow_nonneg (by norm_num) _)]
      refine Finset.sum_congr rfl fun i _ => ?_
      rw [← w_shift s M M' i, EReal.coe_mul, mul_left_comm]

/-- The softmax-weighted sum over the first `n` keys, the scores in the natural base. -/
def attn (n : ℕ) (S : ℕ → ℝ) (v : ℕ → EReal) : EReal :=
  ∑ i ∈ Finset.range n, v i * ((Real.exp (S i) / ∑ k ∈ Finset.range n, Real.exp (S k) : ℝ) : EReal)

theorem div_sum {ι : Type} (t : Finset ι) (v : ι → EReal) (e : ι → ℝ) (L : ℝ) (hL : 0 < L) :
    Ideal.div (∑ i ∈ t, v i * (e i : EReal)) (L : EReal) = ∑ i ∈ t, v i * ((e i / L : ℝ) : EReal) := by
  unfold Ideal.div
  rw [if_neg (by exact_mod_cast hL.ne'), ← EReal.coe_inv, mul_comm, mul_sum _ _ _ (inv_nonneg.mpr hL.le)]
  refine Finset.sum_congr rfl fun i _ => ?_
  rw [div_eq_mul_inv, EReal.coe_mul, mul_comm, mul_assoc]

theorem Soft.div {n : ℕ} (hn : 0 < n) {s S : ℕ → ℝ} (hS : ∀ i < n, S i = s i * Real.log 2) {v : ℕ → EReal} {m l a : EReal} (h : Soft n s v m l a) :
    Ideal.div a l = attn n S v := by
  rcases h with ⟨h0, _⟩ | ⟨M, rfl, rfl, rfl⟩
  · omega
  have hne : (Finset.range n).Nonempty := Finset.nonempty_range_iff.mpr hn.ne'
  rw [← coe_sum, div_sum _ _ _ _ (Finset.sum_pos (fun i _ => w_pos s M i) hne)]
  unfold attn
  refine Finset.sum_congr rfl fun i hi => ?_
  congr 2
  have hw : ∀ k ∈ Finset.range n, w s M k = Real.exp (S k) * Real.exp (-(M * Real.log 2)) := fun k hk => by
    rw [hS k (Finset.mem_range.mp hk), ← Real.exp_add]
    show (2 : ℝ) ^ (s k - M) = _
    rw [Real.rpow_def_of_pos (by norm_num)]
    congr 1; ring
  rw [hw i hi, Finset.sum_congr rfl hw, ← Finset.sum_mul]
  exact mul_div_mul_right _ _ (Real.exp_pos _).ne'

/-- The softmax as it is written down: against any real base, a masked key counting nothing. -/
theorem attn_ref (N n : ℕ) (hn : 0 < n) (hN : n ≤ N) (S : ℕ → ℝ) (R : ℝ) (v : ℕ → EReal) :
    ∑ i ∈ Finset.range N, v i * Ideal.div (if i < n then ((Real.exp (S i - R) : ℝ) : EReal) else 0)
        (∑ k ∈ Finset.range N, if k < n then ((Real.exp (S k - R) : ℝ) : EReal) else 0) = attn n S v := by
  have hsub : Finset.range n ⊆ Finset.range N := Finset.range_subset_range.mpr hN
  have hne : (Finset.range n).Nonempty := Finset.nonempty_range_iff.mpr hn.ne'
  have hden : (∑ k ∈ Finset.range N, if k < n then ((Real.exp (S k - R) : ℝ) : EReal) else 0) = ((∑ k ∈ Finset.range n, Real.exp (S k - R) : ℝ) : EReal) := by
    rw [coe_sum, ← Finset.sum_subset hsub]
    · exact Finset.sum_congr rfl fun k hk => if_pos (Finset.mem_range.mp hk)
    · exact fun k _ hk => if_neg fun h => hk (Finset.mem_range.mpr h)
  have hpos : 0 < ∑ k ∈ Finset.range n, Real.exp (S k - R) := Finset.sum_pos (fun _ _ => Real.exp_pos _) hne
  rw [hden, ← Finset.sum_subset hsub]
  · unfold attn
    refine Finset.sum_congr rfl fun i hi => ?_
    rw [if_pos (Finset.mem_range.mp hi)]
    congr 1
    unfold Ideal.div
    rw [if_neg (by exact_mod_cast hpos.ne'), ← EReal.coe_inv, ← EReal.coe_mul, ← div_eq_mul_inv]
    congr 1
    simp only [Real.exp_sub]
    rw [← Finset.sum_div]
    exact div_div_div_cancel_right₀ (Real.exp_pos R).ne' _ _
  · intro i _ hi
    rw [if_neg fun h => hi (Finset.mem_range.mpr h)]
    unfold Ideal.div
    rw [if_neg (by exact_mod_cast hpos.ne'), zero_mul, mul_zero]

/-- A maximum of values none of which is `⊤` is not `⊤`. -/
theorem fold_ne_top {N : ℕ} (f : Fin N → EReal) (hf : ∀ i, f i ≠ ⊤) : Finset.univ.fold max ⊥ f ≠ ⊤ :=
  (Finset.fold_max_lt ⊤ |>.mpr ⟨bot_lt_top, fun i _ => lt_top_iff_ne_top.mpr (hf i)⟩).ne

theorem le_fold {N : ℕ} (f : Fin N → EReal) (i : Fin N) : f i ≤ Finset.univ.fold max ⊥ f :=
  (Finset.le_fold_max _).mpr (Or.inr ⟨i, Finset.mem_univ i, le_rfl⟩)

theorem real_of {x : EReal} (h1 : x ≠ ⊤) (r : ℝ) (h2 : (r : EReal) ≤ x) : ∃ M : ℝ, x = (M : EReal) :=
  ⟨x.toReal, (EReal.coe_toReal h1 (fun h => by rw [h] at h2; exact absurd (le_bot_iff.mp h2) (EReal.coe_ne_bot r))).symm⟩

theorem max_ne_top {x y : EReal} (hx : x ≠ ⊤) (hy : y ≠ ⊤) : max x y ≠ ⊤ :=
  (max_lt (lt_top_iff_ne_top.mpr hx) (lt_top_iff_ne_top.mpr hy)).ne

/-- A sum over 1024 keys, in four slabs. -/
theorem sum_slabs (f : ℕ → EReal) : ∑ i ∈ Finset.range 1024, f i
    = ∑ x : Fin 256, f x.val + ∑ x : Fin 256, f (256 + x.val) + ∑ x : Fin 256, f (512 + x.val) + ∑ x : Fin 256, f (768 + x.val) := by
  rw [Fin.sum_univ_eq_sum_range, Fin.sum_univ_eq_sum_range (fun x => f (256 + x)), Fin.sum_univ_eq_sum_range (fun x => f (512 + x)),
    Fin.sum_univ_eq_sum_range (fun x => f (768 + x)), ← Finset.sum_range_add f 256 256, ← Finset.sum_range_add f 512 256, ← Finset.sum_range_add f 768 256]

/-- The first `n` of `N` terms, as a masked sum. -/
theorem sum_masked (f : ℕ → EReal) (n N : ℕ) (h : n ≤ N) : ∑ i ∈ Finset.range N, (if i < n then f i else 0) = ∑ i ∈ Finset.range n, f i := by
  rw [← Finset.sum_subset (Finset.range_subset_range.mpr h)]
  · exact Finset.sum_congr rfl fun k hk => if_pos (Finset.mem_range.mp hk)
  · exact fun k _ hk => if_neg fun h => hk (Finset.mem_range.mpr h)

end Cert.Softmax

end
-- ==== Proof.Value.Spec.lean ====
module

public import proofs.«01_k».proof.Proof.Flash.Soft
public import Idealize.ShloMosaic.Lib.Pointwise

@[expose] public section

set_option maxRecDepth 16384
set_option maxHeartbeats 1000000

noncomputable section

namespace Cert.Spec

open Idealize.ShloMosaic

/-- The float words of the two programs' constants, as the reals they are. -/
theorem ofBits_192 : Ideal.ofBits .f32 0x43400000#32 = ((192 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem ofBits_1 : Ideal.ofBits .f32 0x3F800000#32 = ((1 : ℝ) : EReal) := by
  simp [Ideal.ofBits, Ideal.ieee, -EReal.coe_mul]; norm_num

theorem sqrt_192 : Ideal.sqrt (Ideal.ofBits .f32 0x43400000#32) = ((Real.sqrt 192 : ℝ) : EReal) := by
  rw [ofBits_192, Ideal.sqrt_coe, if_neg (by norm_num)]

theorem log_2 : Ideal.log (Ideal.ofBits .f32 0x40000000#32) = ((Real.log 2 : ℝ) : EReal) := by
  rw [ofBits_2, Ideal.log_coe, if_neg (by norm_num)]

theorem sqrt_pos : 0 < Real.sqrt 192 := Real.sqrt_pos.mpr (by norm_num)
theorem log_pos : 0 < Real.log 2 := Real.log_pos (by norm_num)

/-- The quotient of two reals, the divisor not zero. -/
theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

abbrev SQ : Shape := ⟨4, ![2, 8192, 8, 128]⟩
abbrev SP : Shape := ⟨4, ![2, 8192, 8, 64]⟩
abbrev SK : Shape := ⟨3, ![2, 8192, 64]⟩

section
variable (x0 : SQ.Idx → EReal) (x1 : SP.Idx → EReal) (x2 : SQ.Idx → EReal) (x3 : SK.Idx → EReal) (x4 : SQ.Idx → EReal)

/-- Every element of the queries and the keys is a real. -/
structure Fin4 : Prop where
  q0 : ∀ i, x0 i = ((x0 i).toReal : EReal)
  q1 : ∀ i, x1 i = ((x1 i).toReal : EReal)
  k0 : ∀ i, x2 i = ((x2 i).toReal : EReal)
  k1 : ∀ i, x3 i = ((x3 i).toReal : EReal)

/-- The product of query `q` and key `k`, head `h` of sequence `b`: of the parts without and with positions. -/
def dot (b : Fin 2) (h : Fin 8) (q k : Fin 8192) : ℝ :=
  ∑ n : Fin 128, (x0 (ix4 b q h n)).toReal * (x2 (ix4 b k h n)).toReal + ∑ p : Fin 64, (x1 (ix4 b q h p)).toReal * (x3 (ix3 b k p)).toReal

/-- The query's score of key `k`. -/
def score (b : Fin 2) (h : Fin 8) (q : Fin 8192) (k : ℕ) : ℝ := if hk : k < 8192 then dot x0 x1 x2 x3 b h q ⟨k, hk⟩ / Real.sqrt 192 else 0

/-- The score in base two. -/
def score2 (b : Fin 2) (h : Fin 8) (q : Fin 8192) (k : ℕ) : ℝ := if hk : k < 8192 then dot x0 x1 x2 x3 b h q ⟨k, hk⟩ * (1 / (Real.sqrt 192 * Real.log 2)) else 0

theorem score_eq (b : Fin 2) (h : Fin 8) (q : Fin 8192) (k : ℕ) : score x0 x1 x2 x3 b h q k = score2 x0 x1 x2 x3 b h q k * Real.log 2 := by
  unfold score score2
  split
  · have := sqrt_pos.ne'
    have := log_pos.ne'
    field_simp
  · rw [zero_mul]

/-- Coordinate `d` of key `k`'s value. -/
def value (b : Fin 2) (h : Fin 8) (d : Fin 128) (k : ℕ) : EReal := if hk : k < 8192 then x4 (ix4 b ⟨k, hk⟩ h d) else 0

/-- The causal attention: coordinate `d` of query `q`'s answer. -/
def out (b : Fin 2) (h : Fin 8) (q : Fin 8192) (d : Fin 128) : EReal :=
  Cert.Softmax.attn (q.val + 1) (score x0 x1 x2 x3 b h q) (value x4 b h d)

/-- The answer's array: the sequences' queries one below the other, the heads' coordinates side by side. -/
def outAll : (⟨2, ![16384, 1024]⟩ : Shape).Idx → EReal := fun i =>
  out x0 x1 x2 x3 x4 ⟨(i 0).val / 8192, Nat.div_lt_of_lt_mul (i 0).isLt⟩ ⟨(i 1).val / 128, Nat.div_lt_of_lt_mul (i 1).isLt⟩
    ⟨(i 0).val % 8192, Nat.mod_lt _ (by decide)⟩ ⟨(i 1).val % 128, Nat.mod_lt _ (by decide)⟩

end

end Cert.Spec
end
-- ==== Proof.Flash.State.lean ====
module

public import proofs.«01_k».proof.Proof.Gen.KernelIdeal.Loops
public import proofs.«01_k».proof.Proof.Gen.KernelIdeal.Frame
public import Idealize.ShloMosaic.Lib.VecWindow
public import Idealize.ShloMosaic.Lib.Pipeline.Value

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What the five buffers of the online softmax hold between two tiles of keys: the scores of the next
tile, its column maxima, and the running maximum, sum and weighted values of the tiles before. -/
structure St (F : FTy → Type) where
  st : Vec F S1024x1024 .f32
  mt : Vec F S1x1024 .f32
  m : Vec F S1x1024 .f32
  l : Vec F S1x1024 .f32
  acc : Vec F S128x1024 .f32

theorem St.mk_congr {a a' : Vec F S1024x1024 .f32} {b b' c c' d d' : Vec F S1x1024 .f32} {e e' : Vec F S128x1024 .f32}
    (h1 : a = a') (h2 : b = b') (h3 : c = c') (h4 : d = d') (h5 : e = e') : St.mk a b c d e = St.mk a' b' c' d' e' := by
  rw [h1, h2, h3, h4, h5]

/-- One unmasked tile of keys: the buffers' contents after it. `kt` is the tile whose scores are taken
for the next step, `vt` the values of the tile whose scores are held. -/
def step (q : Vec F S1x1024x256 .bf16) (kt : Vec F S1x1024x256 .bf16) (vt : Vec F S1x1x128x1024 .bf16) (s : St F) : St F where
  st := k0_pay36 (k0_pay8 (k0_pay30 q) kt)
  mt := k0_pay37 (k0_pay8 (k0_pay30 q) kt)
  m := k0_pay35 (k0_pay9 s.mt s.m)
  l := k0_pay17 s.st (k0_pay9 s.mt s.m) (k0_pay14 s.st s.mt s.m s.l)
  acc := k0_pay34 (k0_pay18 s.st (k0_pay9 s.mt s.m) (k0_pay10 s.mt s.m) (k0_pay12 s.st s.mt s.m vt)
    (k0_pay13 s.st s.mt s.m) vt vt vt s.acc)

/-- The five buffers read as the state. -/
abbrev rd (arg6 : Memref sig .tc .vmem S1024x1024 .f32) (arg7 arg8 arg9 : Memref sig .tc .vmem S1x1024 .f32)
    (arg10 : Memref sig .tc .vmem S128x1024 .f32) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) : St F :=
  ⟨arg6.view.read (Elt F) f_arg6, arg7.view.read (Elt F) f_arg7, arg8.view.read (Elt F) f_arg8,
    arg9.view.read (Elt F) f_arg9, arg10.view.read (Elt F) f_arg10⟩

/-- The tile of keys trip `k` of the inner loop reads. -/
abbrev kt2 (x3 : S1x8192x256.Idx → Elt F .bf16) (k0_t1 : Fin k0_t1_loop.trips) (k : Fin (k0_t2_loop k0_t1).trips) : Vec F S1x1024x256 .bf16 :=
  View.ld x3 (Rect.unit (s := S1x8192x256) (k0_off2 k0_t1 k) S1x1024x256.size (k0_off2_inb k0_t1 k))

/-- The tile of values trip `k` of the inner loop reads. -/
abbrev vt2 (x4 : S1x8x128x1024.Idx → Elt F .bf16) (k0_t1 : Fin k0_t1_loop.trips) (k : Fin (k0_t2_loop k0_t1).trips) : Vec F S1x1x128x1024 .bf16 :=
  View.ld x4 (Rect.unit (s := S1x8x128x1024) (k0_off3 k0_t1 k) S1x1x128x1024.size (k0_off3_inb k0_t1 k))

/-- The state before trip `k` of the inner loop, from the state at its entry. -/
def iter (q : Vec F S1x1024x256 .bf16) (x3 : S1x8192x256.Idx → Elt F .bf16) (x4 : S1x8x128x1024.Idx → Elt F .bf16)
    (k0_t1 : Fin k0_t1_loop.trips) (s : St F) : ℕ → St F
  | 0 => s
  | k + 1 => if h : k < (k0_t2_loop k0_t1).trips then
      step q (kt2 x3 k0_t1 ⟨k, h⟩) (vt2 x4 k0_t1 ⟨k, h⟩) (iter q x3 x4 k0_t1 s k)
    else iter q x3 x4 k0_t1 s k

section
variable (𝒱 : Variants) (c : Dev nD) (bd : Option 𝒱.V) (i : grid0.Coords) (arg2 : Memref sig .tc .vmem S1x8192x256 .bf16) (harg2 : arg2.IsWhole) (arg3 : Memref sig .tc .vmem S1x8192x256 .bf16) (harg3 : arg3.IsWhole) (arg4 : Memref sig .tc .vmem S1x8x128x1024 .bf16) (harg4 : arg4.IsWhole) (arg5 : Memref sig .tc .vmem S8192x128 .bf16) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .f32) (harg10 : arg10.IsWhole)
    (c0_i32_9 c1_i32 : BitVec 32) (k0_t1 : Fin k0_t1_loop.trips) (v21 : Vec F S1x1024x256 .bf16) (X_arg3 : BufTy.Contents (Elt F) arg3.view.ty) (X_arg4 : BufTy.Contents (Elt F) arg4.view.ty)

/-- What one trip of the inner loop leaves in the five buffers. -/
theorem trip_step (k : Fin (k0_t2_loop k0_t1).trips) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (p6 : List (View.Piece (Elt F) S1024x1024 .f32))
    (p7 p8 p9 : List (View.Piece (Elt F) S1x1024 .f32)) (p10 : List (View.Piece (Elt F) S128x1024 .f32)) (G_arg6 : BufTy.Contents (Elt F) arg6.view.ty) (G_arg7 : BufTy.Contents (Elt F) arg7.view.ty) (G_arg8 : BufTy.Contents (Elt F) arg8.view.ty) (G_arg9 : BufTy.Contents (Elt F) arg9.view.ty) (G_arg10 : BufTy.Contents (Elt F) arg10.view.ty)
    (e6 : f_arg6 = arg6.view.writes (Elt F) G_arg6 p6) (e7 : f_arg7 = arg7.view.writes (Elt F) G_arg7 p7)
    (e8 : f_arg8 = arg8.view.writes (Elt F) G_arg8 p8) (e9 : f_arg9 = arg9.view.writes (Elt F) G_arg9 p9)
    (e10 : f_arg10 = arg10.view.writes (Elt F) G_arg10 p10) :
    rd arg6 arg7 arg8 arg9 arg10
      (arg6.view.writes (Elt F) G_arg6 ((tripL_k0_t2 (F := F) 𝒱 c bd i arg2 harg2 arg3 harg3 arg4 harg4 arg5 harg5 arg6 harg6 arg7 harg7 arg8 harg8 arg9 harg9 arg10 harg10 c0_i32_9 c1_i32 k0_t1 v21 X_arg3 X_arg4 k f_arg6 f_arg7 f_arg8 f_arg9 f_arg10).1 ++ p6))
      (arg7.view.writes (Elt F) G_arg7 ((tripL_k0_t2 (F := F) 𝒱 c bd i arg2 harg2 arg3 harg3 arg4 harg4 arg5 harg5 arg6 harg6 arg7 harg7 arg8 harg8 arg9 harg9 arg10 harg10 c0_i32_9 c1_i32 k0_t1 v21 X_arg3 X_arg4 k f_arg6 f_arg7 f_arg8 f_arg9 f_arg10).2.1 ++ p7))
      (arg8.view.writes (Elt F) G_arg8 ((tripL_k0_t2 (F := F) 𝒱 c bd i arg2 harg2 arg3 harg3 arg4 harg4 arg5 harg5 arg6 harg6 arg7 harg7 arg8 harg8 arg9 harg9 arg10 harg10 c0_i32_9 c1_i32 k0_t1 v21 X_arg3 X_arg4 k f_arg6 f_arg7 f_arg8 f_arg9 f_arg10).2.2.1 ++ p8))
      (arg9.view.writes (Elt F) G_arg9 ((tripL_k0_t2 (F := F) 𝒱 c bd i arg2 harg2 arg3 harg3 arg4 harg4 arg5 harg5 arg6 harg6 arg7 harg7 arg8 harg8 arg9 harg9 arg10 harg10 c0_i32_9 c1_i32 k0_t1 v21 X_arg3 X_arg4 k f_arg6 f_arg7 f_arg8 f_arg9 f_arg10).2.2.2.1 ++ p9))
      (arg10.view.writes (Elt F) G_arg10 ((tripL_k0_t2 (F := F) 𝒱 c bd i arg2 harg2 arg3 harg3 arg4 harg4 arg5 harg5 arg6 harg6 arg7 harg7 arg8 harg8 arg9 harg9 arg10 harg10 c0_i32_9 c1_i32 k0_t1 v21 X_arg3 X_arg4 k f_arg6 f_arg7 f_arg8 f_arg9 f_arg10).2.2.2.2 ++ p10))
    = step v21 (kt2 (arg3.view.read (Elt F) X_arg3) k0_t1 k) (vt2 (arg4.view.read (Elt F) X_arg4) k0_t1 k)
        (rd arg6 arg7 arg8 arg9 arg10 f_arg6 f_arg7 f_arg8 f_arg9 f_arg10) := by
  clear e6 e7 e8 e9 e10
  unfold tripL_k0_t2 trip_k0_t2
  dsimp only [List.cons_append, List.nil_append]
  unfold rd step
  refine St.mk_congr ?_ ?_ ?_ ?_ ?_
  · rw [View.read_writes_full]; rfl
  · rw [View.read_writes_full]; rfl
  · rw [View.read_writes_full, ← View.readAt_full arg7.view _ inb_S1x1024_S1x1024_0_0, ← View.readAt_full arg8.view _ inb_S1x1024_S1x1024_0_0]; rfl
  · rw [View.read_writes_full, ← View.readAt_full arg7.view _ inb_S1x1024_S1x1024_0_0, ← View.readAt_full arg8.view _ inb_S1x1024_S1x1024_0_0, ← View.readAt_full arg9.view _ inb_S1x1024_S1x1024_0_0, ← View.readAt_full arg6.view _ inb_S1024x1024_S1024x1024_0_0]; rfl
  · rw [View.read_writes_full, ← View.readAt_full arg7.view _ inb_S1x1024_S1x1024_0_0, ← View.readAt_full arg8.view _ inb_S1x1024_S1x1024_0_0, ← View.readAt_full arg10.view _ inb_S128x1024_S128x1024_0_0, ← View.readAt_full arg6.view _ inb_S1024x1024_S1024x1024_0_0]; rfl

/-- What the inner loop's trips before `k` leave in the five buffers. -/
theorem pb_iter (G_arg6 : BufTy.Contents (Elt F) arg6.view.ty) (G_arg7 : BufTy.Contents (Elt F) arg7.view.ty) (G_arg8 : BufTy.Contents (Elt F) arg8.view.ty) (G_arg9 : BufTy.Contents (Elt F) arg9.view.ty) (G_arg10 : BufTy.Contents (Elt F) arg10.view.ty) : ∀ k : ℕ, k ≤ (k0_t2_loop k0_t1).trips →
    rd arg6 arg7 arg8 arg9 arg10
      (arg6.view.writes (Elt F) G_arg6 (pb_k0_t2 (F := F) 𝒱 c bd i arg2 harg2 arg3 harg3 arg4 harg4 arg5 harg5 arg6 harg6 arg7 harg7 arg8 harg8 arg9 harg9 arg10 harg10 c0_i32_9 c1_i32 k0_t1 v21 X_arg3 X_arg4 G_arg6 G_arg7 G_arg8 G_arg9 G_arg10 k).1)
      (arg7.view.writes (Elt F) G_arg7 (pb_k0_t2 (F := F) 𝒱 c bd i arg2 harg2 arg3 harg3 arg4 harg4 arg5 harg5 arg6 harg6 arg7 harg7 arg8 harg8 arg9 harg9 arg10 harg10 c0_i32_9 c1_i32 k0_t1 v21 X_arg3 X_arg4 G_arg6 G_arg7 G_arg8 G_arg9 G_arg10 k).2.1)
      (arg8.view.writes (Elt F) G_arg8 (pb_k0_t2 (F := F) 𝒱 c bd i arg2 harg2 arg3 harg3 arg4 harg4 arg5 harg5 arg6 harg6 arg7 harg7 arg8 harg8 arg9 harg9 arg10 harg10 c0_i32_9 c1_i32 k0_t1 v21 X_arg3 X_arg4 G_arg6 G_arg7 G_arg8 G_arg9 G_arg10 k).2.2.1)
      (arg9.view.writes (Elt F) G_arg9 (pb_k0_t2 (F := F) 𝒱 c bd i arg2 harg2 arg3 harg3 arg4 harg4 arg5 harg5 arg6 harg6 arg7 harg7 arg8 harg8 arg9 harg9 arg10 harg10 c0_i32_9 c1_i32 k0_t1 v21 X_arg3 X_arg4 G_arg6 G_arg7 G_arg8 G_arg9 G_arg10 k).2.2.2.1)
      (arg10.view.writes (Elt F) G_arg10 (pb_k0_t2 (F := F) 𝒱 c bd i arg2 harg2 arg3 harg3 arg4 harg4 arg5 harg5 arg6 harg6 arg7 harg7 arg8 harg8 arg9 harg9 arg10 harg10 c0_i32_9 c1_i32 k0_t1 v21 X_arg3 X_arg4 G_arg6 G_arg7 G_arg8 G_arg9 G_arg10 k).2.2.2.2)
    = iter v21 (arg3.view.read (Elt F) X_arg3) (arg4.view.read (Elt F) X_arg4) k0_t1 (rd arg6 arg7 arg8 arg9 arg10 G_arg6 G_arg7 G_arg8 G_arg9 G_arg10) k
  | 0, _ => rfl
  | k + 1, hk => by
    have h : k < (k0_t2_loop k0_t1).trips := hk
    have ih := pb_iter G_arg6 G_arg7 G_arg8 G_arg9 G_arg10 k (le_of_lt h)
    rw [iter, dif_pos h, ← ih]
    have e := pb_k0_t2_succ (F := F) 𝒱 c bd i arg2 harg2 arg3 harg3 arg4 harg4 arg5 harg5 arg6 harg6 arg7 harg7 arg8 harg8 arg9 harg9 arg10 harg10 c0_i32_9 c1_i32 k0_t1 v21 X_arg3 X_arg4 G_arg6 G_arg7 G_arg8 G_arg9 G_arg10 ⟨k, h⟩
    dsimp only at e
    rw [e]
    exact trip_step 𝒱 c bd i arg2 harg2 arg3 harg3 arg4 harg4 arg5 harg5 arg6 harg6 arg7 harg7 arg8 harg8 arg9 harg9 arg10 harg10 c0_i32_9 c1_i32 k0_t1 v21 X_arg3 X_arg4 ⟨k, h⟩ _ _ _ _ _ _ _ _ _ _ G_arg6 G_arg7 G_arg8 G_arg9 G_arg10 rfl rfl rfl rfl rfl

/-- The remainder loop makes no trips. -/
theorem t3_trips : ∀ k0_t1 : Fin k0_t1_loop.trips, (k0_t3_loop k0_t1).trips = 0 := by decide +kernel

/-- The inner loop makes as many trips as there are tiles of keys before the tile of queries. -/
theorem t2_trips : ∀ k0_t1 : Fin k0_t1_loop.trips, (k0_t2_loop k0_t1).trips = k0_t1.val := by decide +kernel

end

end Cert.KernelIdeal.Flash

end
-- ==== Proof.Flash.Outer.lean ====
module

public import proofs.«01_k».proof.Proof.Flash.State

@[expose] public section

set_option maxRecDepth 16384
set_option maxHeartbeats 4000000

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- One trip's resources: the three operands' blocks at their contents, the output's block and the five
buffers of the online softmax at any. -/
abbrev Trip (c : Dev nD) (arg2 : Memref sig .tc .vmem S1x8192x256 .bf16) (arg3 : Memref sig .tc .vmem S1x8192x256 .bf16) (arg4 : Memref sig .tc .vmem S1x8x128x1024 .bf16) (arg5 : Memref sig .tc .vmem S8192x128 .bf16) (arg6 : Memref sig .tc .vmem S1024x1024 .f32) (arg7 : Memref sig .tc .vmem S1x1024 .f32) (arg8 : Memref sig .tc .vmem S1x1024 .f32) (arg9 : Memref sig .tc .vmem S1x1024 .f32) (arg10 : Memref sig .tc .vmem S128x1024 .f32) (X_arg2 : BufTy.Contents (Elt F) arg2.view.ty) (X_arg3 : BufTy.Contents (Elt F) arg3.view.ty) (X_arg4 : BufTy.Contents (Elt F) arg4.view.ty) (f_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} f_arg5) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10))

/-- One trip of the outer loop, run at a symbolic trip: the pieces it writes are found by the run. -/
@[irreducible] def trip (𝒱 : Variants) (c : Dev nD) (bd : Option 𝒱.V) (i : grid0.Coords) (arg2 : Memref sig .tc .vmem S1x8192x256 .bf16) (harg2 : arg2.IsWhole) (arg3 : Memref sig .tc .vmem S1x8192x256 .bf16) (harg3 : arg3.IsWhole) (arg4 : Memref sig .tc .vmem S1x8x128x1024 .bf16) (harg4 : arg4.IsWhole) (arg5 : Memref sig .tc .vmem S8192x128 .bf16) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .f32) (harg10 : arg10.IsWhole) (X_arg2 : BufTy.Contents (Elt F) arg2.view.ty) (X_arg3 : BufTy.Contents (Elt F) arg3.view.ty) (X_arg4 : BufTy.Contents (Elt F) arg4.view.ty) (k : Fin k0_t1_loop.trips) :
    Σ' (L_arg5 : (BufTy.Contents (Elt F) arg5.view.ty → BufTy.Contents (Elt F) arg6.view.ty → BufTy.Contents (Elt F) arg7.view.ty → BufTy.Contents (Elt F) arg8.view.ty → BufTy.Contents (Elt F) arg9.view.ty → BufTy.Contents (Elt F) arg10.view.ty → List (View.Piece (Elt F) S8192x128 .bf16))) (L_arg6 : (BufTy.Contents (Elt F) arg5.view.ty → BufTy.Contents (Elt F) arg6.view.ty → BufTy.Contents (Elt F) arg7.view.ty → BufTy.Contents (Elt F) arg8.view.ty → BufTy.Contents (Elt F) arg9.view.ty → BufTy.Contents (Elt F) arg10.view.ty → List (View.Piece (Elt F) S1024x1024 .f32))), { L_arg7 : (BufTy.Contents (Elt F) arg5.view.ty → BufTy.Contents (Elt F) arg6.view.ty → BufTy.Contents (Elt F) arg7.view.ty → BufTy.Contents (Elt F) arg8.view.ty → BufTy.Contents (Elt F) arg9.view.ty → BufTy.Contents (Elt F) arg10.view.ty → List (View.Piece (Elt F) S1x1024 .f32)) // ∀ (f_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty),
      Trip (F := F) c arg2 arg3 arg4 arg5 arg6 arg7 arg8 arg9 arg10 X_arg2 X_arg3 X_arg4 f_arg5 f_arg6 f_arg7 f_arg8 f_arg9 f_arg10
      ⊢ wp frame (wpE (defs₀ (F := F)) 𝒱 (c : Thread nD τ) bd) Set.univ (k0_t1_body (F := F) i arg2 harg2 arg3 harg3 arg4 harg4 arg5 harg5 arg6 harg6 arg7 harg7 arg8 harg8 arg9 harg9 arg10 harg10 k PUnit.unit)
          (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} arg5.view.writes (Elt F) f_arg5 (L_arg5 f_arg5 f_arg6 f_arg7 f_arg8 f_arg9 f_arg10)) ∗ (arg6.view.loc (c : Thread nD τ) ↦[arg6.view.set]{fullShare} arg6.view.writes (Elt F) f_arg6 (L_arg6 f_arg5 f_arg6 f_arg7 f_arg8 f_arg9 f_arg10)) ∗ (arg7.view.loc (c : Thread nD τ) ↦[arg7.view.set]{fullShare} arg7.view.writes (Elt F) f_arg7 (L_arg7 f_arg5 f_arg6 f_arg7 f_arg8 f_arg9 f_arg10)) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f))) } := by
  refine ⟨?_, ?_, ?_, fun f_arg5 f_arg6 f_arg7 f_arg8 f_arg9 f_arg10 => ?run⟩
  case run =>
    unfold k0_t1_body
    iintro ⟨HR_arg2, HR_arg3, HR_arg4, HW_arg5, HW_arg6, HW_arg7, HW_arg8, HW_arg9, HW_arg10⟩
    sl_exec
    sl_step
    sl_close

/-- The masked tile on the diagonal: the sum and the weighted values after it, from the state before it. -/
def diagL (s : St F) : Vec F S1x1024 .f32 :=
  k0_pay59 (k0_pay48 s.st) (k0_pay50 (k0_pay47 s.st) (k0_pay49 s.st) s.m)
    (k0_pay54 (k0_pay44 s.st) (k0_pay45 s.st) (k0_pay47 s.st) (k0_pay49 s.st) s.m s.l)
    (k0_pay57 (k0_pay46 s.st) (k0_pay47 s.st) (k0_pay49 s.st) s.m)

def diagAcc (vt : Vec F S1x1x128x1024 .bf16) (s : St F) : Vec F S128x1024 .f32 :=
  k0_pay60 (k0_pay48 s.st) (k0_pay50 (k0_pay47 s.st) (k0_pay49 s.st) s.m) (k0_pay51 (k0_pay47 s.st) (k0_pay49 s.st) s.m)
    (k0_pay55 (k0_pay44 s.st) (k0_pay45 s.st) (k0_pay47 s.st) (k0_pay49 s.st) s.m vt vt)
    (k0_pay56 (k0_pay46 s.st) (k0_pay47 s.st) (k0_pay49 s.st) s.m) vt vt s.acc

/-- The tile of queries of trip `k`. -/
abbrev qt (x2 : S1x8192x256.Idx → Elt F .bf16) (k : Fin k0_t1_loop.trips) : Vec F S1x1024x256 .bf16 :=
  View.ld x2 (Rect.unit (s := S1x8192x256) (k0_off1 k) S1x1024x256.size (k0_off1_inb k))

/-- The tile of queries whose first scores trip `k` takes for the next trip. -/
abbrev qn (x2 : S1x8192x256.Idx → Elt F .bf16) (k : Fin k0_t1_loop.trips) : Vec F S1x1024x256 .bf16 :=
  View.ld x2 (Rect.unit (s := S1x8192x256) (k0_off6 k) S1x1024x256.size (k0_off6_inb k))

/-- The first tile of keys, and the first of queries. -/
abbrev k00 (x3 : S1x8192x256.Idx → Elt F .bf16) : Vec F S1x1024x256 .bf16 :=
  View.ld x3 (Rect.unit (s := S1x8192x256) ![0, 0, 0] S1x1024x256.size inb_S1x8192x256_S1x1024x256_0_0_0)

/-- The tile of values on the diagonal. -/
abbrev vtd (x4 : S1x8x128x1024.Idx → Elt F .bf16) (k : Fin k0_t1_loop.trips) : Vec F S1x1x128x1024 .bf16 :=
  View.ld x4 (Rect.unit (s := S1x8x128x1024) (k0_off7 k) S1x1x128x1024.size (k0_off7_inb k))

/-- The state when trip `k` meets the diagonal, from the scores `a` and maxima `b` it finds. -/
def atDiag (x2 x3 : S1x8192x256.Idx → Elt F .bf16) (x4 : S1x8x128x1024.Idx → Elt F .bf16) (k : Fin k0_t1_loop.trips)
    (a : Vec F S1024x1024 .f32) (b : Vec F S1x1024 .f32) : St F :=
  iter (qt x2 k) x3 x4 k ⟨a, b, k0_pay31, k0_pay32, k0_pay33⟩ (k0_t2_loop k).trips

/-- The tile of the output trip `k` writes. -/
def outT (x2 x3 : S1x8192x256.Idx → Elt F .bf16) (x4 : S1x8x128x1024.Idx → Elt F .bf16) (k : Fin k0_t1_loop.trips)
    (a : Vec F S1024x1024 .f32) (b : Vec F S1x1024 .f32) : FVec F S1024x128 .bf16 :=
  k0_pay7 (diagAcc (vtd x4 k) (atDiag x2 x3 x4 k a b)) (diagL (atDiag x2 x3 x4 k a b))

section
variable (𝒱 : Variants) (c : Dev nD) (bd : Option 𝒱.V) (i : grid0.Coords) (arg2 : Memref sig .tc .vmem S1x8192x256 .bf16) (harg2 : arg2.IsWhole) (arg3 : Memref sig .tc .vmem S1x8192x256 .bf16) (harg3 : arg3.IsWhole) (arg4 : Memref sig .tc .vmem S1x8x128x1024 .bf16) (harg4 : arg4.IsWhole) (arg5 : Memref sig .tc .vmem S8192x128 .bf16) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .f32) (harg10 : arg10.IsWhole) (X_arg2 : BufTy.Contents (Elt F) arg2.view.ty) (X_arg3 : BufTy.Contents (Elt F) arg3.view.ty) (X_arg4 : BufTy.Contents (Elt F) arg4.view.ty) (k : Fin k0_t1_loop.trips)
  (f_arg6 : BufTy.Contents (Elt F) arg6.view.ty) (f_arg7 : BufTy.Contents (Elt F) arg7.view.ty)

theorem pb3_zero (w : BitVec 32) (v : Vec F S1x1024x256 .bf16) (x3 : BufTy.Contents (Elt F) arg3.view.ty) (x4 : BufTy.Contents (Elt F) arg4.view.ty) (G_arg6 : BufTy.Contents (Elt F) arg6.view.ty) (G_arg7 : BufTy.Contents (Elt F) arg7.view.ty) (G_arg8 : BufTy.Contents (Elt F) arg8.view.ty) (G_arg9 : BufTy.Contents (Elt F) arg9.view.ty) (G_arg10 : BufTy.Contents (Elt F) arg10.view.ty) :
    pb_k0_t3 (F := F) 𝒱 c bd i arg2 harg2 arg3 harg3 arg4 harg4 arg5 harg5 arg6 harg6 arg7 harg7 arg8 harg8 arg9 harg9 arg10 harg10 0#32 1#32 k v w x3 x4 G_arg6 G_arg7 G_arg8 G_arg9 G_arg10 (Scf.trips (k0_t3_loop k).lb (k0_t3_loop k).ub (k0_t3_loop k).st) = ([], [], [], [], []) := by
  have e : Scf.trips (k0_t3_loop k).lb (k0_t3_loop k).ub (k0_t3_loop k).st = 0 := t3_trips k
  rw [e]; rfl

theorem at_diag :
    (⟨trip.sl.v40 (F := F) 𝒱 c bd i arg2 harg2 arg3 harg3 arg4 harg4 arg5 harg5 arg6 harg6 arg7 harg7 arg8 harg8 arg9 harg9 arg10 harg10 X_arg2 X_arg3 X_arg4 k f_arg6 f_arg7, trip.sl.v94 (F := F) 𝒱 c bd i arg2 harg2 arg3 harg3 arg4 harg4 arg5 harg5 arg6 harg6 arg7 harg7 arg8 harg8 arg9 harg9 arg10 harg10 X_arg2 X_arg3 X_arg4 k f_arg6 f_arg7,
      trip.sl.v98 (F := F) 𝒱 c bd i arg2 harg2 arg3 harg3 arg4 harg4 arg5 harg5 arg6 harg6 arg7 harg7 arg8 harg8 arg9 harg9 arg10 harg10 X_arg2 X_arg3 X_arg4 k f_arg6 f_arg7,
      trip.sl.v169 (F := F) 𝒱 c bd i arg2 harg2 arg3 harg3 arg4 harg4 arg5 harg5 arg6 harg6 arg7 harg7 arg8 harg8 arg9 harg9 arg10 harg10 X_arg2 X_arg3 X_arg4 k f_arg6 f_arg7⟩ : _ × _ × _ × _)
    = (fun s : St F => (s.st, s.m, s.l, s.acc)) (atDiag (arg2.view.read (Elt F) X_arg2) (arg3.view.read (Elt F) X_arg3) (arg4.view.read (Elt F) X_arg4) k
        (arg6.view.read (Elt F) f_arg6) (arg7.view.read (Elt F) f_arg7)) := by
  have h := pb_iter 𝒱 c bd i arg2 harg2 arg3 harg3 arg4 harg4 arg5 harg5 arg6 harg6 arg7 harg7 arg8 harg8 arg9 harg9 arg10 harg10 0#32 1#32 k (qt (arg2.view.read (Elt F) X_arg2) k) X_arg3 X_arg4 f_arg6 f_arg7
    (arg8.view.writes (Elt F) arg8.view.junk trip.sl.HW_arg8_1) (arg9.view.writes (Elt F) arg9.view.junk trip.sl.HW_arg9_1)
    (arg10.view.writes (Elt F) arg10.view.junk trip.sl.HW_arg10_1) (k0_t2_loop k).trips le_rfl
  have h8 : arg8.view.read (Elt F) (arg8.view.writes (Elt F) arg8.view.junk (trip.sl.HW_arg8_1 (F := F))) = k0_pay31 := View.read_writes_full _ _ _ _ _
  have h9 : arg9.view.read (Elt F) (arg9.view.writes (Elt F) arg9.view.junk (trip.sl.HW_arg9_1 (F := F))) = k0_pay32 := View.read_writes_full _ _ _ _ _
  have h10 : arg10.view.read (Elt F) (arg10.view.writes (Elt F) arg10.view.junk (trip.sl.HW_arg10_1 (F := F))) = k0_pay33 := View.read_writes_full _ _ _ _ _
  unfold rd at h
  rw [h8, h9, h10] at h
  unfold atDiag
  rw [← h]
  unfold trip.sl.v40 trip.sl.v94 trip.sl.v98 trip.sl.v169
  dsimp only
  unfold View.readCov
  rw [pb3_zero, View.readAt_full, View.readAt_full, View.readAt_full, View.readAt_full]
  dsimp only [List.nil_append]
  rw [View.writes_append, View.writes_append, View.writes_append]
  rfl

theorem v188_eq : trip.sl.v188 (F := F) 𝒱 c bd i arg2 harg2 arg3 harg3 arg4 harg4 arg5 harg5 arg6 harg6 arg7 harg7 arg8 harg8 arg9 harg9 arg10 harg10 X_arg2 X_arg3 X_arg4 k f_arg6 f_arg7
    = diagL (atDiag (arg2.view.read (Elt F) X_arg2) (arg3.view.read (Elt F) X_arg3) (arg4.view.read (Elt F) X_arg4) k
        (arg6.view.read (Elt F) f_arg6) (arg7.view.read (Elt F) f_arg7)) := by
  have h := at_diag 𝒱 c bd i arg2 harg2 arg3 harg3 arg4 harg4 arg5 harg5 arg6 harg6 arg7 harg7 arg8 harg8 arg9 harg9 arg10 harg10 X_arg2 X_arg3 X_arg4 k f_arg6 f_arg7
  have h1 := congrArg (fun p => p.1) h
  have h2 := congrArg (fun p => p.2.1) h
  have h3 := congrArg (fun p => p.2.2.1) h
  dsimp only at h1 h2 h3
  unfold diagL
  rw [← h1, ← h2, ← h3]
  unfold trip.sl.v188
  exact View.readCov_full _ _ _ _ _

theorem v187_eq : trip.sl.v187 (F := F) 𝒱 c bd i arg2 harg2 arg3 harg3 arg4 harg4 arg5 harg5 arg6 harg6 arg7 harg7 arg8 harg8 arg9 harg9 arg10 harg10 X_arg2 X_arg3 X_arg4 k f_arg6 f_arg7
    = diagAcc (vtd (arg4.view.read (Elt F) X_arg4) k) (atDiag (arg2.view.read (Elt F) X_arg2) (arg3.view.read (Elt F) X_arg3) (arg4.view.read (Elt F) X_arg4) k
        (arg6.view.read (Elt F) f_arg6) (arg7.view.read (Elt F) f_arg7)) := by
  have h := at_diag 𝒱 c bd i arg2 harg2 arg3 harg3 arg4 harg4 arg5 harg5 arg6 harg6 arg7 harg7 arg8 harg8 arg9 harg9 arg10 harg10 X_arg2 X_arg3 X_arg4 k f_arg6 f_arg7
  have h1 := congrArg (fun p => p.1) h
  have h2 := congrArg (fun p => p.2.1) h
  have h4 := congrArg (fun p => p.2.2.2) h
  dsimp only at h1 h2 h4
  unfold diagAcc
  rw [← h1, ← h2, ← h4]
  unfold trip.sl.v187
  exact View.readCov_full _ _ _ _ _

/-- The pieces of trip `k`: its tile of the output, and whole contents of the scores and their maxima. -/
theorem trip_out (f_arg5 : BufTy.Contents (Elt F) arg5.view.ty) (f_arg8 : BufTy.Contents (Elt F) arg8.view.ty)
    (f_arg9 : BufTy.Contents (Elt F) arg9.view.ty) (f_arg10 : BufTy.Contents (Elt F) arg10.view.ty) :
    (trip (F := F) 𝒱 c bd i arg2 harg2 arg3 harg3 arg4 harg4 arg5 harg5 arg6 harg6 arg7 harg7 arg8 harg8 arg9 harg9 arg10 harg10 X_arg2 X_arg3 X_arg4 k).1 f_arg5 f_arg6 f_arg7 f_arg8 f_arg9 f_arg10
      = [⟨Rect.unit (s := S8192x128) (k0_off8 k) S1024x128.size (k0_off8_inb k),
          outT (arg2.view.read (Elt F) X_arg2) (arg3.view.read (Elt F) X_arg3) (arg4.view.read (Elt F) X_arg4) k
            (arg6.view.read (Elt F) f_arg6) (arg7.view.read (Elt F) f_arg7)⟩] := by
  unfold outT
  rw [← v187_eq 𝒱 c bd i arg2 harg2 arg3 harg3 arg4 harg4 arg5 harg5 arg6 harg6 arg7 harg7 arg8 harg8 arg9 harg9 arg10 harg10 X_arg2 X_arg3 X_arg4 k f_arg6 f_arg7, ← v188_eq 𝒱 c bd i arg2 harg2 arg3 harg3 arg4 harg4 arg5 harg5 arg6 harg6 arg7 harg7 arg8 harg8 arg9 harg9 arg10 harg10 X_arg2 X_arg3 X_arg4 k f_arg6 f_arg7]
  unfold trip
  rfl

theorem trip_st (f_arg5 : BufTy.Contents (Elt F) arg5.view.ty) (f_arg8 : BufTy.Contents (Elt F) arg8.view.ty)
    (f_arg9 : BufTy.Contents (Elt F) arg9.view.ty) (f_arg10 : BufTy.Contents (Elt F) arg10.view.ty) :
    arg6.view.read (Elt F) (arg6.view.writes (Elt F) f_arg6 ((trip (F := F) 𝒱 c bd i arg2 harg2 arg3 harg3 arg4 harg4 arg5 harg5 arg6 harg6 arg7 harg7 arg8 harg8 arg9 harg9 arg10 harg10 X_arg2 X_arg3 X_arg4 k).2.1 f_arg5 f_arg6 f_arg7 f_arg8 f_arg9 f_arg10))
      = k0_pay5 (k0_pay43 (k0_pay42 (k00 (arg3.view.read (Elt F) X_arg3))) (qn (arg2.view.read (Elt F) X_arg2) k)) := by
  unfold trip
  dsimp only
  rw [View.read_writes_full]
  rfl

theorem trip_mt (f_arg5 : BufTy.Contents (Elt F) arg5.view.ty) (f_arg8 : BufTy.Contents (Elt F) arg8.view.ty)
    (f_arg9 : BufTy.Contents (Elt F) arg9.view.ty) (f_arg10 : BufTy.Contents (Elt F) arg10.view.ty) :
    arg7.view.read (Elt F) (arg7.view.writes (Elt F) f_arg7 ((trip (F := F) 𝒱 c bd i arg2 harg2 arg3 harg3 arg4 harg4 arg5 harg5 arg6 harg6 arg7 harg7 arg8 harg8 arg9 harg9 arg10 harg10 X_arg2 X_arg3 X_arg4 k).2.2.1 f_arg5 f_arg6 f_arg7 f_arg8 f_arg9 f_arg10))
      = k0_pay6 (k0_pay43 (k0_pay42 (k00 (arg3.view.read (Elt F) X_arg3))) (qn (arg2.view.read (Elt F) X_arg2) k)) := by
  unfold trip
  dsimp only
  rw [View.read_writes_full]
  rfl

end

end Cert.KernelIdeal.Flash

end
-- ==== Proof.Flash.Inv.lean ====
module

public import proofs.«01_k».proof.Proof.Flash.Outer

@[expose] public section

set_option maxRecDepth 16384
set_option maxHeartbeats 4000000

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The first tile of queries. -/
abbrev q00 (x2 : S1x8192x256.Idx → Elt F .bf16) : Vec F S1x1024x256 .bf16 :=
  View.ld x2 (Rect.unit (s := S1x8192x256) ![0, 0, 0] S1x1024x256.size inb_S1x8192x256_S1x1024x256_0_0_0)

/-- The scores trip `k` of the outer loop finds, and their maxima. -/
def sc (x2 x3 : S1x8192x256.Idx → Elt F .bf16) : ℕ → Vec F S1024x1024 .f32 × Vec F S1x1024 .f32
  | 0 => (k0_pay2 (k00 x3) (q00 x2), k0_pay3 (k00 x3) (q00 x2))
  | k + 1 => if h : k < k0_t1_loop.trips then
      (k0_pay5 (k0_pay43 (k0_pay42 (k00 x3)) (qn x2 ⟨k, h⟩)), k0_pay6 (k0_pay43 (k0_pay42 (k00 x3)) (qn x2 ⟨k, h⟩)))
    else sc x2 x3 k

theorem sc_zero (x2 x3 : S1x8192x256.Idx → Elt F .bf16) : sc x2 x3 0 = (k0_pay2 (k00 x3) (q00 x2), k0_pay3 (k00 x3) (q00 x2)) := by rw [sc]

theorem sc_succ (x2 x3 : S1x8192x256.Idx → Elt F .bf16) (k : Fin k0_t1_loop.trips) : sc x2 x3 (k.val + 1)
    = (k0_pay5 (k0_pay43 (k0_pay42 (k00 x3)) (qn x2 k)), k0_pay6 (k0_pay43 (k0_pay42 (k00 x3)) (qn x2 k))) := by
  rw [sc, dif_pos k.isLt]

attribute [irreducible] sc

/-- The pieces of the output the trips before `k` write, last first. -/
def outs (x2 x3 : S1x8192x256.Idx → Elt F .bf16) (x4 : S1x8x128x1024.Idx → Elt F .bf16) : ℕ → List (View.Piece (Elt F) S8192x128 .bf16)
  | 0 => []
  | k + 1 => if h : k < k0_t1_loop.trips then
      ⟨Rect.unit (s := S8192x128) (k0_off8 ⟨k, h⟩) S1024x128.size (k0_off8_inb ⟨k, h⟩), outT x2 x3 x4 ⟨k, h⟩ (sc x2 x3 k).1 (sc x2 x3 k).2⟩ :: outs x2 x3 x4 k
    else outs x2 x3 x4 k

/-- The outer loop's invariant before trip `k`. -/
abbrev inv (c : Dev nD) (arg2 : Memref sig .tc .vmem S1x8192x256 .bf16) (arg3 : Memref sig .tc .vmem S1x8192x256 .bf16) (arg4 : Memref sig .tc .vmem S1x8x128x1024 .bf16) (arg5 : Memref sig .tc .vmem S8192x128 .bf16) (arg6 : Memref sig .tc .vmem S1024x1024 .f32) (arg7 : Memref sig .tc .vmem S1x1024 .f32) (arg8 : Memref sig .tc .vmem S1x1024 .f32) (arg9 : Memref sig .tc .vmem S1x1024 .f32) (arg10 : Memref sig .tc .vmem S128x1024 .f32) (X_arg2 : BufTy.Contents (Elt F) arg2.view.ty) (X_arg3 : BufTy.Contents (Elt F) arg3.view.ty) (X_arg4 : BufTy.Contents (Elt F) arg4.view.ty) (G_arg5 : BufTy.Contents (Elt F) arg5.view.ty) (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4)
    ∗ (∃ f, (arg5.view.loc (c : Thread nD τ) ↦[arg5.view.set]{fullShare} f) ∗ ⌜f = arg5.view.writes (Elt F) G_arg5 (outs (arg2.view.read (Elt F) X_arg2) (arg3.view.read (Elt F) X_arg3) (arg4.view.read (Elt F) X_arg4) k)⌝)
    ∗ (∃ f, (arg6.view.loc (c : Thread nD τ) ↦[arg6.view.set]{fullShare} f) ∗ ⌜arg6.view.read (Elt F) f = (sc (arg2.view.read (Elt F) X_arg2) (arg3.view.read (Elt F) X_arg3) k).1⌝)
    ∗ (∃ f, (arg7.view.loc (c : Thread nD τ) ↦[arg7.view.set]{fullShare} f) ∗ ⌜arg7.view.read (Elt F) f = (sc (arg2.view.read (Elt F) X_arg2) (arg3.view.read (Elt F) X_arg3) k).2⌝)
    ∗ (∃ f, arg8.view.loc (c : Thread nD τ) ↦[arg8.view.set]{fullShare} f)
    ∗ (∃ f, arg9.view.loc (c : Thread nD τ) ↦[arg9.view.set]{fullShare} f)
    ∗ (∃ f, arg10.view.loc (c : Thread nD τ) ↦[arg10.view.set]{fullShare} f))

set_option warn.classDefReducibility false in
/-- The outer loop by its invariant. -/
@[sl_loop] def loopInv (𝒱 : Variants) (c : Dev nD) (bd : Option 𝒱.V) (i : grid0.Coords) (arg2 : Memref sig .tc .vmem S1x8192x256 .bf16) (harg2 : arg2.IsWhole) (arg3 : Memref sig .tc .vmem S1x8192x256 .bf16) (harg3 : arg3.IsWhole) (arg4 : Memref sig .tc .vmem S1x8x128x1024 .bf16) (harg4 : arg4.IsWhole) (arg5 : Memref sig .tc .vmem S8192x128 .bf16) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .f32) (harg10 : arg10.IsWhole) (X_arg2 : BufTy.Contents (Elt F) arg2.view.ty) (X_arg3 : BufTy.Contents (Elt F) arg3.view.ty) (X_arg4 : BufTy.Contents (Elt F) arg4.view.ty) (G_arg5 : BufTy.Contents (Elt F) arg5.view.ty) :
    LoopInvTy_k0_t1 (F := F) Unit ℕ (UR sig nD τ) ℕ 𝒱 c bd Set.univ i arg2 harg2 arg3 harg3 arg4 harg4 arg5 harg5 arg6 harg6 arg7 harg7 arg8 harg8 arg9 harg9 arg10 harg10 where
  inv := inv (F := F) c arg2 arg3 arg4 arg5 arg6 arg7 arg8 arg9 arg10 X_arg2 X_arg3 X_arg4 G_arg5
  step k acc := by
    iintro ⟨HR_arg2, HR_arg3, HR_arg4, ⟨%f_arg5, HW_arg5, %h5⟩, ⟨%f_arg6, HW_arg6, %h6⟩, ⟨%f_arg7, HW_arg7, %h7⟩, ⟨%f_arg8, HW_arg8⟩, ⟨%f_arg9, HW_arg9⟩, ⟨%f_arg10, HW_arg10⟩⟩
    iapply (wp_wand_r Idealize.ShloMosaic.frame (wpE (defs₀ (F := F)) 𝒱 (c : Thread nD τ) bd) Set.univ)
    isplitl [HR_arg2 HR_arg3 HR_arg4 HW_arg5 HW_arg6 HW_arg7 HW_arg8 HW_arg9 HW_arg10]
    · iapply ((trip (F := F) 𝒱 c bd i arg2 harg2 arg3 harg3 arg4 harg4 arg5 harg5 arg6 harg6 arg7 harg7 arg8 harg8 arg9 harg9 arg10 harg10 X_arg2 X_arg3 X_arg4 k).2.2.2 f_arg5 f_arg6 f_arg7 f_arg8 f_arg9 f_arg10)
      isplitl [HR_arg2]; · iexact HR_arg2
      isplitl [HR_arg3]; · iexact HR_arg3
      isplitl [HR_arg4]; · iexact HR_arg4
      isplitl [HW_arg5]; · iexact HW_arg5
      isplitl [HW_arg6]; · iexact HW_arg6
      isplitl [HW_arg7]; · iexact HW_arg7
      isplitl [HW_arg8]; · iexact HW_arg8
      isplitl [HW_arg9]; · iexact HW_arg9
      iexact HW_arg10
    · iintro %_ ⟨HR_arg2, HR_arg3, HR_arg4, HW_arg5, HW_arg6, HW_arg7, HW_arg8, HW_arg9, HW_arg10⟩
      isplitl [HR_arg2]; · iexact HR_arg2
      isplitl [HR_arg3]; · iexact HR_arg3
      isplitl [HR_arg4]; · iexact HR_arg4
      isplitl [HW_arg5]
      · iexists _; isplitl [HW_arg5]; · iexact HW_arg5
        ipureintro
        rw [trip_out, h5, h6, h7, ← View.writes_append, outs, dif_pos k.isLt]
        rfl
      isplitl [HW_arg6]
      · iexists _; isplitl [HW_arg6]; · iexact HW_arg6
        ipureintro
        rw [trip_st, sc_succ]
      isplitl [HW_arg7]
      · iexists _; isplitl [HW_arg7]; · iexact HW_arg7
        ipureintro
        rw [trip_mt, sc_succ]
      isplitl [HW_arg8]; · iexact HW_arg8
      isplitl [HW_arg9]; · iexact HW_arg9
      iexact HW_arg10

/-- The body at a grid point: the operands' blocks unread, the output's block at the tiles the trips write. -/
theorem body_run (𝒱 : Variants) (c : Dev nD) (bd : Option 𝒱.V) (i : grid0.Coords) (arg2 : Memref sig .tc .vmem S1x8192x256 .bf16) (harg2 : arg2.IsWhole) (arg3 : Memref sig .tc .vmem S1x8192x256 .bf16) (harg3 : arg3.IsWhole) (arg4 : Memref sig .tc .vmem S1x8x128x1024 .bf16) (harg4 : arg4.IsWhole) (arg5 : Memref sig .tc .vmem S8192x128 .bf16) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .f32) (harg10 : arg10.IsWhole) (X_arg2 : BufTy.Contents (Elt F) arg2.view.ty) (X_arg3 : BufTy.Contents (Elt F) arg3.view.ty) (X_arg4 : BufTy.Contents (Elt F) arg4.view.ty) (f_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) :
    Trip (F := F) c arg2 arg3 arg4 arg5 arg6 arg7 arg8 arg9 arg10 X_arg2 X_arg3 X_arg4 f_arg5 f_arg6 f_arg7 f_arg8 f_arg9 f_arg10
      ⊢ wp frame (wpE (defs₀ (F := F)) 𝒱 (c : Thread nD τ) bd) Set.univ (cc0_flash (F := F) i arg2 harg2 arg3 harg3 arg4 harg4 arg5 harg5 arg6 harg6 arg7 harg7 arg8 harg8 arg9 harg9 arg10 harg10)
          (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4)
    ∗ (arg5.view.loc (c : Thread nD τ) ↦[arg5.view.set]{fullShare} arg5.view.writes (Elt F) f_arg5 (outs (arg2.view.read (Elt F) X_arg2) (arg3.view.read (Elt F) X_arg3) (arg4.view.read (Elt F) X_arg4) k0_t1_loop.trips))
    ∗ (∃ f, arg6.view.loc (c : Thread nD τ) ↦[arg6.view.set]{fullShare} f)
    ∗ (∃ f, arg7.view.loc (c : Thread nD τ) ↦[arg7.view.set]{fullShare} f)
    ∗ (∃ f, arg8.view.loc (c : Thread nD τ) ↦[arg8.view.set]{fullShare} f)
    ∗ (∃ f, arg9.view.loc (c : Thread nD τ) ↦[arg9.view.set]{fullShare} f)
    ∗ (∃ f, arg10.view.loc (c : Thread nD τ) ↦[arg10.view.set]{fullShare} f))) := by
  iintro ⟨HR_arg2, HR_arg3, HR_arg4, HW_arg5, HW_arg6, HW_arg7, HW_arg8, HW_arg9, HW_arg10⟩
  have h6 : arg6.view.read (Elt F) (arg6.view.writes (Elt F) arg6.view.junk [⟨Rect.unit (s := S1024x1024) ![0, 0] S1024x1024.size inb_S1024x1024_S1024x1024_0_0,
      k0_pay2 (k00 (arg3.view.read (Elt F) X_arg3)) (q00 (arg2.view.read (Elt F) X_arg2))⟩])
      = (sc (arg2.view.read (Elt F) X_arg2) (arg3.view.read (Elt F) X_arg3) 0).1 := by rw [View.read_writes_full, sc_zero]
  have h7 : arg7.view.read (Elt F) (arg7.view.writes (Elt F) arg7.view.junk [⟨Rect.unit (s := S1x1024) ![0, 0] S1x1024.size inb_S1x1024_S1x1024_0_0,
      k0_pay3 (k00 (arg3.view.read (Elt F) X_arg3)) (q00 (arg2.view.read (Elt F) X_arg2))⟩])
      = (sc (arg2.view.read (Elt F) X_arg2) (arg3.view.read (Elt F) X_arg3) 0).2 := by rw [View.read_writes_full, sc_zero]
  rw [cc0_flash_eq_skeleton]
  unfold cc0_flash_skel
  sl_exec
  sl_step
  sl_close

end Cert.KernelIdeal.Flash

end
-- ==== Proof.Flash.Frame.lean ====
module

public import proofs.«01_k».proof.Proof.Flash.Inv
public import proofs.«01_k».proof.Proof.Gen.KernelIdeal.Frame

@[expose] public section

set_option maxRecDepth 16384
set_option maxHeartbeats 4000000

noncomputable section

namespace Cert.KernelIdeal.Flash

open Cert.KernelIdeal Cert.KernelIdeal.Gen
open Idealize.ShloMosaic Idealize.ShloMosaic.TcCoe Idealize.ShloMosaic.Tactic Idealize.ShloMosaic.Rounds
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem t1_trips : k0_t1_loop.trips = 8 := by decide +kernel

/-- Where trip `k` writes its tile of the output's block. -/
theorem off8_eq : ∀ k : Fin k0_t1_loop.trips, k0_off8 k = ![1024 * k.val, 0] := by decide +kernel

/-- The trip that writes row `i` of the block. -/
def tripOf (y : S8192x128.Idx) : Fin k0_t1_loop.trips := ⟨(y 0).val / 1024, by have := (y 0).isLt; rw [t1_trips]; dsimp at this; omega⟩

/-- Row `i`'s place in its trip's tile. -/
def inTile (y : S8192x128.Idx) : S1024x128.Idx := fun | 0 => ⟨(y 0).val % 1024, Nat.mod_lt _ (by decide)⟩ | 1 => ⟨(y 1).val, (y 1).isLt⟩

/-- The output's block, as a function of the operands' blocks. -/
def blkV (x2 x3 : S1x8192x256.Idx → Elt F .bf16) (x4 : S1x8x128x1024.Idx → Elt F .bf16) : S8192x128.Idx → Elt F .bf16 := fun y =>
  outT x2 x3 x4 (tripOf y) (sc x2 x3 (tripOf y)).1 (sc x2 x3 (tripOf y)).2 (inTile y)

theorem outs_mem (x2 x3 : S1x8192x256.Idx → Elt F .bf16) (x4 : S1x8x128x1024.Idx → Elt F .bf16) : ∀ n, ∀ p ∈ outs x2 x3 x4 n, ∃ k : Fin k0_t1_loop.trips,
    p = ⟨Rect.unit (s := S8192x128) (k0_off8 k) S1024x128.size (k0_off8_inb k), outT x2 x3 x4 k (sc x2 x3 k).1 (sc x2 x3 k).2⟩
  | 0, p, h => absurd h (by rw [outs]; exact List.not_mem_nil)
  | n + 1, p, h => by
    rw [outs] at h
    split at h
    · rename_i hn
      rcases List.mem_cons.mp h with h | h
      · exact ⟨⟨n, hn⟩, h⟩
      · exact outs_mem x2 x3 x4 n p h
    · exact outs_mem x2 x3 x4 n p h

theorem mem_outs (x2 x3 : S1x8192x256.Idx → Elt F .bf16) (x4 : S1x8x128x1024.Idx → Elt F .bf16) (k : Fin k0_t1_loop.trips) : ∀ n, k.val < n →
    (⟨Rect.unit (s := S8192x128) (k0_off8 k) S1024x128.size (k0_off8_inb k), outT x2 x3 x4 k (sc x2 x3 k).1 (sc x2 x3 k).2⟩ : View.Piece (Elt F) S8192x128 .bf16) ∈ outs x2 x3 x4 n
  | 0, h => absurd h (Nat.not_lt_zero _)
  | n + 1, h => by
    rw [outs]
    split
    · rename_i hn
      rcases Nat.lt_succ_iff_lt_or_eq.mp h with h | h
      · exact List.mem_cons_of_mem _ (mem_outs x2 x3 x4 k n h)
      · subst h
        exact List.mem_cons_self
    · rename_i hn
      exact mem_outs x2 x3 x4 k n (by have := k.isLt; omega)

theorem outs_agree (x2 x3 : S1x8192x256.Idx → Elt F .bf16) (x4 : S1x8x128x1024.Idx → Elt F .bf16) (k : Fin k0_t1_loop.trips)
    (x : S1024x128.Idx) : outT x2 x3 x4 k (sc x2 x3 k).1 (sc x2 x3 k).2 x
      = blkV x2 x3 x4 ((Rect.unit (s := S8192x128) (k0_off8 k) S1024x128.size (k0_off8_inb k)).emb x) := by
  have e0 : (((Rect.unit (s := S8192x128) (k0_off8 k) S1024x128.size (k0_off8_inb k)).emb x) 0).val = 1024 * k.val + (x 0).val := by
    show k0_off8 k 0 + 1 * (x 0).val = _
    rw [off8_eq]
    show 1024 * k.val + 1 * (x 0).val = _
    omega
  have e1 : (((Rect.unit (s := S8192x128) (k0_off8 k) S1024x128.size (k0_off8_inb k)).emb x) 1).val = (x 1).val := by
    show k0_off8 k 1 + 1 * (x 1).val = _
    rw [off8_eq]
    show 0 + 1 * (x 1).val = _
    omega
  have hx : (x 0).val < 1024 := (x 0).isLt
  have hk : tripOf ((Rect.unit (s := S8192x128) (k0_off8 k) S1024x128.size (k0_off8_inb k)).emb x) = k := by
    apply Fin.ext
    show (((Rect.unit (s := S8192x128) (k0_off8 k) S1024x128.size (k0_off8_inb k)).emb x) 0).val / 1024 = _
    rw [e0]; omega
  have hi : inTile ((Rect.unit (s := S8192x128) (k0_off8 k) S1024x128.size (k0_off8_inb k)).emb x) = x := by
    funext a
    apply Fin.ext
    match a with
    | 0 =>
      show (((Rect.unit (s := S8192x128) (k0_off8 k) S1024x128.size (k0_off8_inb k)).emb x) 0).val % 1024 = _
      rw [e0]; omega
    | 1 => exact e1
  unfold blkV
  rw [hk, hi]

/-- What the trips' tiles leave in the output's block, whatever it held. -/
theorem read_outs {κ : Kind} {sp : Space} (v : View sig κ sp S8192x128 .bf16) (f : v.ty.Contents (Elt F))
    (x2 x3 : S1x8192x256.Idx → Elt F .bf16) (x4 : S1x8x128x1024.Idx → Elt F .bf16) :
    v.read (Elt F) (v.writes (Elt F) f (outs x2 x3 x4 k0_t1_loop.trips)) = blkV x2 x3 x4 := by
  funext y
  refine View.read_writes_apply_of_pieces v f (blkV x2 x3 x4) _ ?_ y ?_
  · intro p hp x
    obtain ⟨k, rfl⟩ := outs_mem x2 x3 x4 _ p hp
    exact outs_agree x2 x3 x4 k x
  · refine ⟨_, mem_outs x2 x3 x4 (tripOf y) _ (tripOf y).isLt, ?_⟩
    refine (Rect.unit (s := S8192x128) (k0_off8 (tripOf y)) S1024x128.size (k0_off8_inb (tripOf y))).mem_set.mpr fun a => ?_
    match a with
    | 0 =>
      refine ⟨(y 0).val % 1024, Nat.mod_lt _ (by decide), ?_⟩
      show (y 0).val = k0_off8 (tripOf y) 0 + 1 * ((y 0).val % 1024)
      rw [off8_eq]
      show (y 0).val = 1024 * ((y 0).val / 1024) + 1 * ((y 0).val % 1024)
      omega
    | 1 =>
      refine ⟨(y 1).val, (y 1).isLt, ?_⟩
      show (y 1).val = k0_off8 (tripOf y) 1 + 1 * (y 1).val
      rw [off8_eq]
      show (y 1).val = 0 + 1 * (y 1).val
      omega

theorem blkV_congr {x2 x2' x3 x3' : S1x8192x256.Idx → Elt F .bf16} {x4 x4' : S1x8x128x1024.Idx → Elt F .bf16} (h2 : x2 = x2') (h3 : x3 = x3') (h4 : x4 = x4') :
    blkV x2 x3 x4 = blkV x2' x3' x4' := by rw [h2, h3, h4]

/-- The output's block at a point. -/
def outAt (c : Dev nD) (t : Fin cfg0.N) : S8192x128.Idx → Elt F .bf16 := blkV (iblk m c 0 t) (iblk m c 1 t) (iblk m c 2 t)

/-- The launch's data: each operand's block left as fetched, the output's block as computed. -/
def dats (_ : Fin 1) (c : Dev nD) : Dat τ (Elt F) Unit ℕ (UR sig nD τ) ℕ cfg0 c where
  A w := V m c (Pipeline.arrRef spec0 w)
  after w t := match w with | ⟨0, _⟩ => iblk m c 0 t | ⟨1, _⟩ => iblk m c 1 t | ⟨2, _⟩ => iblk m c 2 t | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before 0 t d = iblk m c 0 t :=
  before0_0_of m (dats m 0 c) (A_eq m c 0) (fun _ => rfl) t d
theorem before1 (c : Dev nD) (t : Fin cfg0.N) (d) : (dats m 0 c).before 1 t d = iblk m c 1 t :=
  before0_1_of m (dats m 0 c) (A_eq m c 1) (fun _ => rfl) t d
theorem before2 (c : Dev nD) (t : Fin cfg0.N) (d) : (dats m 0 c).before 2 t d = iblk m c 2 t :=
  before0_2_of m (dats m 0 c) (A_eq m c 2) (fun _ => rfl) t d

theorem after0 (c : Dev nD) (t : Fin cfg0.N) : (dats m 0 c).after 0 t = iblk m c 0 t := rfl
theorem after1 (c : Dev nD) (t : Fin cfg0.N) : (dats m 0 c).after 1 t = iblk m c 1 t := rfl
theorem after2 (c : Dev nD) (t : Fin cfg0.N) : (dats m 0 c).after 2 t = iblk m c 2 t := rfl
theorem after3 (c : Dev nD) (t : Fin cfg0.N) : (dats m 0 c).after 3 t = outAt m c t := rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl]
  unfold Pipeline.ΦA
  rw [scopedRest0_eq]
  simp only [before0, before1, before2, after0, after1, after2, after3]
  rw [show (dats m 0 c).owesAt () t.succ = (dats m 0 c).owesAt () t.castSucc from rfl]
  unfold owns
  iintro ⟨⟨⟨⟨%g0, S0⟩, ⟨%g1, S1⟩, ⟨%g2, S2⟩, ⟨%g3, S3⟩, ⟨%g4, S4⟩⟩, Hg⟩, HW, ⟨%d0, %f0, %e0, H0⟩, ⟨%d1, %f1, %e1, H1⟩, ⟨%d2, %f2, %e2, H2⟩, ⟨%d3, %f3, %e3, H3⟩⟩
  have run := body_run (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f0 f1 f2 f3 g0 g1 g2 g3 g4
  unfold Trip at run
  simp only [Memref.view_whole, View.set_whole] at run
  iapply (wp_wand_r Idealize.ShloMosaic.frame (wpE (defs₀ (F := F)) Variants.none c none) Set.univ)
  isplitl [S0 S1 S2 S3 S4 H0 H1 H2 H3]
  · iapply run
    isplitl [H0]; · iexact H0
    isplitl [H1]; · iexact H1
    isplitl [H2]; · iexact H2
    isplitl [H3]; · iexact H3
    isplitl [S0]; · iexact S0
    isplitl [S1]; · iexact S1
    isplitl [S2]; · iexact S2
    isplitl [S3]; · iexact S3
    iexact S4
  iintro %_ ⟨H0, H1, H2, H3, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [HW]; · iexact HW
  isplitl [H0]
  · iexists f0; isplitr; · (ipureintro; exact e0)
    iexact H0
  isplitl [H1]
  · iexists f1; isplitr; · (ipureintro; exact e1)
    iexact H1
  isplitl [H2]
  · iexists f2; isplitr; · (ipureintro; exact e2)
    iexact H2
  iexists _; isplitr
  · ipureintro
    exact (read_outs _ f3 _ _ _).trans (blkV_congr e0 e1 e2)
  iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program ends, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.KernelIdeal.Flash

end
-- ==== Proof.Value.Host.lean ====
module

public import proofs.«01_k».proof.Proof.Value.Spec
public import proofs.«01_k».proof.Proof.Flash.Frame
public import Idealize.ShloMosaic.Lib.Claim
public import Idealize.ShloMosaic.Lib.StableHlo.RunRead

@[expose] public section

set_option maxRecDepth 16384
set_option maxHeartbeats 1000000

noncomputable section

namespace Cert.KernelIdeal.Pack

open Cert.KernelIdeal Cert.KernelIdeal.Gen Cert.Spec
open Idealize.ShloMosaic Idealize.ShloMosaic.TcCoe

variable (m : (ℓ : Loc nD τ sig) → Buf (Elt Ideal) ℓ) (c : Dev nD)

/-- The scale of the packed queries. -/
def scl : FVec Ideal S_ .f32 := Host.divf (constant S_ .f32 0x3F800000#32) (mulf (Host.sqrt (constant S_ .f32 0x43400000#32)) (Host.log (constant S_ .f32 0x40000000#32)))

/-- The zeros beside a query or a key. -/
def pad : FVec Ideal S2x8192x8x64 .f32 := broadcastInDim S2x8192x8x64 ![] bcast_S_S2x8192x8x64 (constant S_ .f32 0x00000000#32)

/-- The queries, packed. -/
def packQ (x0 : FVec Ideal S2x8192x8x128 .f32) (x1 : FVec Ideal S2x8192x8x64 .f32) : FVec Ideal S8x16384x256 .bf16 :=
  truncf .bf16 (transpose S8x16384x256 [1, 0, 2] (shapeCast S16384x8x256 (mulf (concatenate S2x8192x8x256 3 [⟨S2x8192x8x128, x0⟩, ⟨S2x8192x8x64, x1⟩, ⟨S2x8192x8x64, pad⟩] concatenates_S2x8192x8x128_S2x8192x8x64_S2x8192x8x64_S2x8192x8x256_d3)
    (broadcastInDim S2x8192x8x256 ![] bcast_S_S2x8192x8x256 scl)) shapeCasts_S2x8192x8x256_S16384x8x256) transposes_S16384x8x256_S8x16384x256_1_0_2) bitsLt_bf16_f32

/-- The keys, packed. -/
def packK (x2 : FVec Ideal S2x8192x8x128 .f32) (x3 : FVec Ideal S2x8192x64 .f32) : FVec Ideal S8x16384x256 .bf16 :=
  truncf .bf16 (transpose S8x16384x256 [1, 0, 2] (shapeCast S16384x8x256 (concatenate S2x8192x8x256 3 [⟨S2x8192x8x128, x2⟩, ⟨S2x8192x8x64, broadcastInDim S2x8192x8x64 ![0, 1, 2, 3] bcast_S2x8192x1x64_S2x8192x8x64_0_1_2_3 (broadcastInDim S2x8192x1x64 ![0, 1, 3] bcast_S2x8192x64_S2x8192x1x64_0_1_3 x3)⟩, ⟨S2x8192x8x64, pad⟩] concatenates_S2x8192x8x128_S2x8192x8x64_S2x8192x8x64_S2x8192x8x256_d3)
    shapeCasts_S2x8192x8x256_S16384x8x256) transposes_S16384x8x256_S8x16384x256_1_0_2) bitsLt_bf16_f32

/-- The values, packed. -/
def packV (x4 : FVec Ideal S2x8192x8x128 .f32) : FVec Ideal S8x16x128x1024 .bf16 :=
  truncf .bf16 (transpose S8x16x128x1024 [2, 0, 3, 1] (shapeCast S16x1024x8x128 x4 shapeCasts_S2x8192x8x128_S16x1024x8x128) transposes_S16x1024x8x128_S8x16x128x1024_2_0_3_1) bitsLt_bf16_f32

theorem V_v19 : V m c main_v19 = packV (m (c.tc.loc main_arg4)) := by
  unfold_abbrev_sides
  after_reads_simp
  rfl

theorem V_v10 : V m c main_v10 = packQ (m (c.tc.loc main_arg0)) (m (c.tc.loc main_arg1)) := by
  unfold_abbrev_sides
  after_reads_simp
  rfl

theorem V_v16 : V m c main_v16 = packK (m (c.tc.loc main_arg2)) (m (c.tc.loc main_arg3)) := by
  unfold_abbrev_sides
  after_reads_simp
  rfl

theorem packV_at (x4 : SQ.Idx → EReal) (h : Fin 8) (t : Fin 16) (d : Fin 128) (i : Fin 1024) :
    packV x4 (ix4 h t d i) = x4 (ix4 ⟨t.val / 8, by omega⟩ ⟨t.val % 8 * 1024 + i.val, by omega⟩ h d) := by
  pointwise [packV]

theorem packQ_at (x0 : SQ.Idx → EReal) (x1 : SP.Idx → EReal) (h : Fin 8) (r : Fin 16384) (x : Fin 256) :
    packQ x0 x1 (ix3 h r x) = (if h1 : x.val < 128 then x0 (ix4 ⟨r.val / 8192, by omega⟩ ⟨r.val % 8192, by omega⟩ h ⟨x.val, h1⟩)
      else if h2 : x.val - 128 < 64 then x1 (ix4 ⟨r.val / 8192, by omega⟩ ⟨r.val % 8192, by omega⟩ h ⟨x.val - 128, h2⟩) else 0) *
      Ideal.div 1 (Ideal.sqrt (Ideal.ofBits .f32 0x43400000#32) * Ideal.log (Ideal.ofBits .f32 0x40000000#32)) := by
  pointwise [packQ, pad, scl]

theorem packK_at (x2 : SQ.Idx → EReal) (x3 : SK.Idx → EReal) (h : Fin 8) (r : Fin 16384) (x : Fin 256) :
    packK x2 x3 (ix3 h r x) = if h1 : x.val < 128 then x2 (ix4 ⟨r.val / 8192, by omega⟩ ⟨r.val % 8192, by omega⟩ h ⟨x.val, h1⟩)
      else if h2 : x.val - 128 < 64 then x3 (ix3 ⟨r.val / 8192, by omega⟩ ⟨r.val % 8192, by omega⟩ ⟨x.val - 128, h2⟩) else 0 := by
  pointwise [packK, pad]

theorem scale_real : Ideal.div 1 (Ideal.sqrt (Ideal.ofBits .f32 0x43400000#32) * Ideal.log (Ideal.ofBits .f32 0x40000000#32))
    = ((1 / (Real.sqrt 192 * Real.log 2) : ℝ) : EReal) := by
  rw [sqrt_192, log_2, ← EReal.coe_mul, ← EReal.coe_one, div_real _ _ (mul_pos sqrt_pos log_pos).ne']

theorem sum_256 {M : Type} [AddCommMonoid M] (f : Fin 256 → M) : ∑ x, f x
    = ∑ n : Fin 128, f ⟨n.val, by omega⟩ + (∑ p : Fin 64, f ⟨128 + p.val, by omega⟩ + ∑ p : Fin 64, f ⟨192 + p.val, by omega⟩) := by
  have e1 := Fin.sum_univ_add (a := 128) (b := 128) f
  have e2 := Fin.sum_univ_add (a := 64) (b := 64) fun i : Fin (64 + 64) => f (Fin.natAdd 128 i)
  refine e1.trans (congrArg₂ (· + ·) rfl (e2.trans (congrArg₂ (· + ·) rfl ?_)))
  exact Finset.sum_congr rfl fun p _ => congrArg f (Fin.ext (by show 128 + (64 + p.val) = 192 + p.val; omega))

/-- A packed query times a packed key is the score in base two. -/
theorem packed_dot (x0 : SQ.Idx → EReal) (x1 : SP.Idx → EReal) (x2 : SQ.Idx → EReal) (x3 : SK.Idx → EReal) (hf : Fin4 x0 x1 x2 x3)
    (b : Fin 2) (h : Fin 8) (q k : Fin 8192) (rq rk : Fin 16384) (hq : rq.val = b.val * 8192 + q.val) (hk : rk.val = b.val * 8192 + k.val) :
    ∑ x : Fin 256, (packK x2 x3 (ix3 h rk x) * packQ x0 x1 (ix3 h rq x) : EReal) = ((score2 x0 x1 x2 x3 b h q k.val : ℝ) : EReal) := by
  have eq1 : (⟨rq.val / 8192, by omega⟩ : Fin 2) = b := Fin.ext (by show rq.val / 8192 = b.val; omega)
  have eq2 : (⟨rq.val % 8192, by omega⟩ : Fin 8192) = q := Fin.ext (by show rq.val % 8192 = q.val; omega)
  have ek1 : (⟨rk.val / 8192, by omega⟩ : Fin 2) = b := Fin.ext (by show rk.val / 8192 = b.val; omega)
  have ek2 : (⟨rk.val % 8192, by omega⟩ : Fin 8192) = k := Fin.ext (by show rk.val % 8192 = k.val; omega)
  rw [score2, dif_pos k.isLt, sum_256]
  simp only [packK_at, packQ_at, scale_real, eq1, eq2, ek1, ek2]
  generalize (1 / (Real.sqrt 192 * Real.log 2) : ℝ) = κ
  have s1 : ∑ n : Fin 128, ((if h1 : n.val < 128 then x2 (ix4 b k h ⟨n.val, h1⟩) else if h2 : n.val - 128 < 64 then x3 (ix3 b k ⟨n.val - 128, h2⟩) else 0)
      * ((if h1 : n.val < 128 then x0 (ix4 b q h ⟨n.val, h1⟩) else if h2 : n.val - 128 < 64 then x1 (ix4 b q h ⟨n.val - 128, h2⟩) else 0) * (κ : EReal)) : EReal)
      = ((∑ n : Fin 128, (x0 (ix4 b q h n)).toReal * (x2 (ix4 b k h n)).toReal * κ : ℝ) : EReal) := by
    rw [Cert.Softmax.coe_sum]
    refine Finset.sum_congr rfl fun n _ => ?_
    rw [dif_pos n.isLt, dif_pos n.isLt, EReal.coe_mul, EReal.coe_mul, ← hf.q0, ← hf.k0, ← mul_assoc, mul_comm (x2 _)]
  have s2 : ∑ p : Fin 64, ((if h1 : 128 + p.val < 128 then x2 (ix4 b k h ⟨128 + p.val, h1⟩) else if h2 : 128 + p.val - 128 < 64 then x3 (ix3 b k ⟨128 + p.val - 128, h2⟩) else 0)
      * ((if h1 : 128 + p.val < 128 then x0 (ix4 b q h ⟨128 + p.val, h1⟩) else if h2 : 128 + p.val - 128 < 64 then x1 (ix4 b q h ⟨128 + p.val - 128, h2⟩) else 0) * (κ : EReal)) : EReal)
      = ((∑ p : Fin 64, (x1 (ix4 b q h p)).toReal * (x3 (ix3 b k p)).toReal * κ : ℝ) : EReal) := by
    rw [Cert.Softmax.coe_sum]
    refine Finset.sum_congr rfl fun p _ => ?_
    have e : ∀ hp, (⟨128 + p.val - 128, hp⟩ : Fin 64) = p := fun _ => Fin.ext (by show 128 + p.val - 128 = p.val; omega)
    have h1 : ¬ 128 + p.val < 128 := by omega
    have h2 : 128 + p.val - 128 < 64 := by omega
    rw [dif_neg h1, dif_neg h1, dif_pos h2, dif_pos h2, e, EReal.coe_mul, EReal.coe_mul, ← hf.q1, ← hf.k1, ← mul_assoc, mul_comm (x3 _)]
  have s3 : ∑ p : Fin 64, ((if h1 : 192 + p.val < 128 then x2 (ix4 b k h ⟨192 + p.val, h1⟩) else if h2 : 192 + p.val - 128 < 64 then x3 (ix3 b k ⟨192 + p.val - 128, h2⟩) else 0)
      * ((if h1 : 192 + p.val < 128 then x0 (ix4 b q h ⟨192 + p.val, h1⟩) else if h2 : 192 + p.val - 128 < 64 then x1 (ix4 b q h ⟨192 + p.val - 128, h2⟩) else 0) * (κ : EReal)) : EReal)
      = 0 := by
    refine Finset.sum_eq_zero fun p _ => ?_
    have h1 : ¬ 192 + p.val < 128 := by omega
    have h2 : ¬ 192 + p.val - 128 < 64 := by omega
    rw [dif_neg h1, dif_neg h2, zero_mul]
  refine (congrArg₂ (· + ·) s1 (congrArg₂ (· + ·) s2 s3)).trans ?_
  show ((_ : ℝ) : EReal) + (((_ : ℝ) : EReal) + 0) = _
  rw [add_zero, ← EReal.coe_add, ← Finset.sum_mul, ← Finset.sum_mul, ← add_mul, dot]

end Cert.KernelIdeal.Pack
end
-- ==== Proof.Flash.Pay.lean ====
module

public import proofs.«01_k».proof.Proof.Flash.Outer
public import Idealize.ShloMosaic.Lib.Pointwise

@[expose] public section

set_option maxRecDepth 16384
set_option maxHeartbeats 4000000

noncomputable section

namespace Cert.KernelIdeal.Flash

open Cert.KernelIdeal Cert.KernelIdeal.Gen
open Idealize.ShloMosaic Idealize.ShloMosaic.TcCoe

/-! What the payloads compute, element by element, on the extended reals. -/

abbrev ninf : EReal := Ideal.ofBits FTy.f32 4286578688#32

theorem ninf_eq : ninf = ⊥ := by
  unfold ninf
  simp [Ideal.ofBits, Ideal.ieee]

theorem pay2_at (kt q : Vec Ideal S1x1024x256 .bf16) (i j : Fin 1024) :
    k0_pay2 kt q (ix2 i j) = ∑ x : Fin 256, kt (ix3 0 i x) * q (ix3 0 j x) := by
  pointwise [k0_pay2, k0_pay1]

theorem pay3_at (kt q : Vec Ideal S1x1024x256 .bf16) (j : Fin 1024) :
    k0_pay3 kt q (ix2 0 j) = Finset.univ.fold max ninf (fun i : Fin 1024 => ∑ x : Fin 256, kt (ix3 0 i x) * q (ix3 0 j x)) := by
  pointwise [k0_pay3, k0_pay1]

theorem pay5_at (kt q : Vec Ideal S1x1024x256 .bf16) (i j : Fin 1024) :
    k0_pay5 (k0_pay43 (k0_pay42 kt) q) (ix2 i j) = ∑ x : Fin 256, kt (ix3 0 i x) * q (ix3 0 j x) := by
  pointwise [k0_pay5, k0_pay43, k0_pay42]

theorem pay6_at (kt q : Vec Ideal S1x1024x256 .bf16) (j : Fin 1024) :
    k0_pay6 (k0_pay43 (k0_pay42 kt) q) (ix2 0 j) = Finset.univ.fold max ninf (fun i : Fin 1024 => ∑ x : Fin 256, kt (ix3 0 i x) * q (ix3 0 j x)) := by
  pointwise [k0_pay6, k0_pay43, k0_pay42]

theorem pay36_at (kt q : Vec Ideal S1x1024x256 .bf16) (i j : Fin 1024) :
    k0_pay36 (k0_pay8 (k0_pay30 q) kt) (ix2 i j) = ∑ x : Fin 256, kt (ix3 0 i x) * q (ix3 0 j x) := by
  pointwise [k0_pay36, k0_pay8, k0_pay30]

theorem pay37_at (kt q : Vec Ideal S1x1024x256 .bf16) (j : Fin 1024) :
    k0_pay37 (k0_pay8 (k0_pay30 q) kt) (ix2 0 j) = Finset.univ.fold max ninf (fun i : Fin 1024 => ∑ x : Fin 256, kt (ix3 0 i x) * q (ix3 0 j x)) := by
  pointwise [k0_pay37, k0_pay8, k0_pay30]

theorem pay31_at (j : Fin 1024) : (k0_pay31 (F := Ideal)) (ix2 0 j) = ninf := by
  pointwise [k0_pay31]
theorem pay32_at (j : Fin 1024) : (k0_pay32 (F := Ideal)) (ix2 0 j) = 0 := by
  pointwise [k0_pay32]
theorem pay33_at (d : Fin 128) (j : Fin 1024) : (k0_pay33 (F := Ideal)) (ix2 d j) = 0 := by
  pointwise [k0_pay33]

theorem pay7_at (acc : Vec Ideal S128x1024 .f32) (l : Vec Ideal S1x1024 .f32) (d : Fin 128) (j : Fin 1024) :
    k0_pay7 acc l (ix2 j d) = Ideal.div (acc (ix2 d j)) (l (ix2 0 j)) := by
  pointwise [k0_pay7]

/-- The column's maximum after a tile. -/
abbrev mnew (s : St Ideal) (j : Fin 1024) : EReal := max (s.m (ix2 0 j)) (s.mt (ix2 0 j))

theorem step_m (q kt : Vec Ideal S1x1024x256 .bf16) (vt : Vec Ideal S1x1x128x1024 .bf16) (s : St Ideal) (j : Fin 1024) :
    (step q kt vt s).m (ix2 0 j) = mnew s j := by
  unfold step
  pointwise [k0_pay35, k0_pay9]

theorem step_l (q kt : Vec Ideal S1x1024x256 .bf16) (vt : Vec Ideal S1x1x128x1024 .bf16) (s : St Ideal) (j : Fin 1024) :
    (step q kt vt s).l (ix2 0 j) = Ideal.exp2 (s.m (ix2 0 j) - mnew s j) * s.l (ix2 0 j)
      + ∑ x : Fin 256, Ideal.exp2 (s.st (ix2 ⟨x.val, by omega⟩ j) - mnew s j)
      + ∑ x : Fin 256, Ideal.exp2 (s.st (ix2 ⟨256 + x.val, by omega⟩ j) - mnew s j)
      + ∑ x : Fin 256, Ideal.exp2 (s.st (ix2 ⟨512 + x.val, by omega⟩ j) - mnew s j)
      + ∑ x : Fin 256, Ideal.exp2 (s.st (ix2 ⟨768 + x.val, by omega⟩ j) - mnew s j) := by
  unfold step
  pointwise [k0_pay17, k0_pay14, k0_pay9, k0_pay10, k0_pay11, k0_pay13, k0_pay15, k0_pay16]
  rfl

theorem step_acc (q kt : Vec Ideal S1x1024x256 .bf16) (vt : Vec Ideal S1x1x128x1024 .bf16) (s : St Ideal) (d : Fin 128) (j : Fin 1024) :
    (step q kt vt s).acc (ix2 d j) = Ideal.exp2 (s.m (ix2 0 j) - mnew s j) * s.acc (ix2 d j)
      + (∑ x : Fin 256, vt (ix4 0 0 d ⟨x.val, by omega⟩) * Ideal.exp2 (s.st (ix2 ⟨x.val, by omega⟩ j) - mnew s j)
      + ∑ x : Fin 256, vt (ix4 0 0 d ⟨256 + x.val, by omega⟩) * Ideal.exp2 (s.st (ix2 ⟨256 + x.val, by omega⟩ j) - mnew s j)
      + ∑ x : Fin 256, vt (ix4 0 0 d ⟨512 + x.val, by omega⟩) * Ideal.exp2 (s.st (ix2 ⟨512 + x.val, by omega⟩ j) - mnew s j)
      + ∑ x : Fin 256, vt (ix4 0 0 d ⟨768 + x.val, by omega⟩) * Ideal.exp2 (s.st (ix2 ⟨768 + x.val, by omega⟩ j) - mnew s j)) := by
  unfold step
  pointwise [k0_pay34, k0_pay18, k0_pay12, k0_pay9, k0_pay10, k0_pay11, k0_pay13, k0_pay15, k0_pay16]
  rfl

/-- A masked score of the diagonal: slab `g`'s key `x` for the query `j'` places after the slab's first. -/
theorem mask_at (x j : ℕ) (hx : x < 1024) (hj : j < 1024) (a b : EReal) :
    Scalar.select (IntOp.cmpi CmpIPredicate.sle (BitVec.ofNat 32 x) (BitVec.ofNat 32 j)) a b = if x ≤ j then a else b := by
  rw [Scalar.select_def]
  refine if_congr ?_ rfl rfl
  exact WordCmp.cmpi_sle_ofNat_eq_one_iff (by omega) (by omega)

theorem pay44_at (v : Vec Ideal S1024x1024 .f32) (i : Fin 256) (j : Fin 1024) : k0_pay44 v (ix2 i j)
    = if i.val ≤ j.val then v (ix2 ⟨i.val, by omega⟩ j) else ⊥ := by
  pointwise [k0_pay44]
  rw [mask_at _ _ (by omega) j.isLt]
  exact if_congr Iff.rfl rfl ninf_eq
theorem pay45_at (v : Vec Ideal S1024x1024 .f32) (i : Fin 256) (j : Fin 768) : k0_pay45 v (ix2 i j)
    = if i.val ≤ j.val then v (ix2 ⟨256 + i.val, by omega⟩ ⟨256 + j.val, by omega⟩) else ⊥ := by
  pointwise [k0_pay45]
  rw [mask_at _ _ (by omega) (by omega)]
  exact if_congr Iff.rfl rfl ninf_eq
theorem pay46_at (v : Vec Ideal S1024x1024 .f32) (i : Fin 256) (j : Fin 512) : k0_pay46 v (ix2 i j)
    = if i.val ≤ j.val then v (ix2 ⟨512 + i.val, by omega⟩ ⟨512 + j.val, by omega⟩) else ⊥ := by
  pointwise [k0_pay46]
  rw [mask_at _ _ (by omega) (by omega)]
  exact if_congr Iff.rfl rfl ninf_eq
theorem pay48_at (v : Vec Ideal S1024x1024 .f32) (i : Fin 256) (j : Fin 256) : k0_pay48 v (ix2 i j)
    = if i.val ≤ j.val then v (ix2 ⟨768 + i.val, by omega⟩ ⟨768 + j.val, by omega⟩) else ⊥ := by
  pointwise [k0_pay48]
  rw [mask_at _ _ (by omega) (by omega)]
  exact if_congr Iff.rfl rfl ninf_eq

/-- The maximum after the diagonal's tile. -/
abbrev mdiag (s : St Ideal) : Vec Ideal S1x1024 .f32 := k0_pay50 (k0_pay47 s.st) (k0_pay49 s.st) s.m

theorem mdiag_at (s : St Ideal) (j : Fin 1024) : mdiag s (ix2 0 j) = max (s.m (ix2 0 j)) (max (max (max
    (Finset.univ.fold max ninf fun x : Fin 256 => k0_pay44 s.st (ix2 x j))
    (if h : j.val < 256 then ninf else Finset.univ.fold max ninf fun x : Fin 256 => k0_pay45 s.st (ix2 x ⟨j.val - 256, by omega⟩)))
    (if h : j.val < 512 then ninf else Finset.univ.fold max ninf fun x : Fin 256 => k0_pay46 s.st (ix2 x ⟨j.val - 512, by omega⟩)))
    (if h : j.val < 768 then ninf else Finset.univ.fold max ninf fun x : Fin 256 => k0_pay48 s.st (ix2 x ⟨j.val - 768, by omega⟩))) := by
  pointwise [k0_pay50, k0_pay47, k0_pay49]

theorem diagL_at (s : St Ideal) (j : Fin 1024) : diagL s (ix2 0 j) = Ideal.exp2 (s.m (ix2 0 j) - mdiag s (ix2 0 j)) * s.l (ix2 0 j)
      + ∑ x : Fin 256, Ideal.exp2 (k0_pay44 s.st (ix2 x j) - mdiag s (ix2 0 j))
      + (if h : j.val < 256 then 0 else ∑ x : Fin 256, Ideal.exp2 (k0_pay45 s.st (ix2 x ⟨j.val - 256, by omega⟩) - mdiag s (ix2 0 ⟨256 + (j.val - 256), by omega⟩)))
      + (if h : j.val < 512 then 0 else ∑ x : Fin 256, Ideal.exp2 (k0_pay46 s.st (ix2 x ⟨j.val - 512, by omega⟩) - mdiag s (ix2 0 ⟨512 + (j.val - 512), by omega⟩)))
      + (if h : j.val < 768 then 0 else ∑ x : Fin 256, Ideal.exp2 (k0_pay48 s.st (ix2 x ⟨j.val - 768, by omega⟩) - mdiag s (ix2 0 ⟨768 + (j.val - 768), by omega⟩))) := by
  unfold diagL
  pointwise [k0_pay59, k0_pay54, k0_pay51, k0_pay52, k0_pay53, k0_pay56, k0_pay57, k0_pay58]
  rfl

theorem diagAcc_at (vt : Vec Ideal S1x1x128x1024 .bf16) (s : St Ideal) (d : Fin 128) (j : Fin 1024) : diagAcc vt s (ix2 d j)
    = Ideal.exp2 (s.m (ix2 0 j) - mdiag s (ix2 0 j)) * s.acc (ix2 d j)
      + (∑ x : Fin 256, vt (ix4 0 0 d ⟨x.val, by omega⟩) * Ideal.exp2 (k0_pay44 s.st (ix2 x j) - mdiag s (ix2 0 j))
      + (if h : j.val < 256 then 0 else ∑ x : Fin 256, vt (ix4 0 0 d ⟨256 + x.val, by omega⟩) * Ideal.exp2 (k0_pay45 s.st (ix2 x ⟨j.val - 256, by omega⟩) - mdiag s (ix2 0 ⟨256 + (j.val - 256), by omega⟩)))
      + (if h : j.val < 512 then 0 else ∑ x : Fin 256, vt (ix4 0 0 d ⟨512 + x.val, by omega⟩) * Ideal.exp2 (k0_pay46 s.st (ix2 x ⟨j.val - 512, by omega⟩) - mdiag s (ix2 0 ⟨512 + (j.val - 512), by omega⟩)))
      + (if h : j.val < 768 then 0 else ∑ x : Fin 256, vt (ix4 0 0 d ⟨768 + x.val, by omega⟩) * Ideal.exp2 (k0_pay48 s.st (ix2 x ⟨j.val - 768, by omega⟩) - mdiag s (ix2 0 ⟨768 + (j.val - 768), by omega⟩)))) := by
  unfold diagAcc
  pointwise [k0_pay60, k0_pay51, k0_pay52, k0_pay53, k0_pay55, k0_pay56, k0_pay57, k0_pay58]
  rfl

end Cert.KernelIdeal.Flash
end
-- ==== Proof.Flash.Col.lean ====
module

public import proofs.«01_k».proof.Proof.Flash.Pay
public import proofs.«01_k».proof.Proof.Flash.Soft

@[expose] public section

set_option maxRecDepth 16384
set_option maxHeartbeats 1000000

noncomputable section

namespace Cert.KernelIdeal.Flash

open Cert.KernelIdeal Cert.KernelIdeal.Gen Cert.Softmax
open Idealize.ShloMosaic Idealize.ShloMosaic.TcCoe

/-! One column of the online softmax: a query `j` of the tile, and one coordinate `d` of the values. -/

/-- The column before the tile of keys from `n`: its scores held, its maximum bounded, its sums those of the keys before. -/
structure Col (n : ℕ) (s : ℕ → ℝ) (v : ℕ → EReal) (j : Fin 1024) (d : Fin 128) (σ : St Ideal) : Prop where
  st : ∀ i : Fin 1024, σ.st (ix2 i j) = (s (n + i.val) : EReal)
  mt_top : σ.mt (ix2 0 j) ≠ ⊤
  mt_ge : (s n : EReal) ≤ σ.mt (ix2 0 j)
  soft : Soft n s v (σ.m (ix2 0 j)) (σ.l (ix2 0 j)) (σ.acc (ix2 d j))

theorem mnew_real {n : ℕ} {s : ℕ → ℝ} {v : ℕ → EReal} {j : Fin 1024} {d : Fin 128} {σ : St Ideal} (h : Col n s v j d σ) :
    ∃ M : ℝ, mnew σ j = (M : EReal) :=
  real_of (Cert.Softmax.max_ne_top h.soft.ne_top h.mt_top) (s n) (h.mt_ge.trans (le_max_right _ _))

/-- The maxima of a tile whose scores are real. -/
theorem fold_tile (n : ℕ) (s : ℕ → ℝ) (f : Fin 1024 → EReal) (hf : ∀ i, f i = (s (n + i.val) : EReal)) :
    Finset.univ.fold max ninf f ≠ ⊤ ∧ (s n : EReal) ≤ Finset.univ.fold max ninf f := by
  rw [ninf_eq]
  refine ⟨fold_ne_top f fun i => by rw [hf]; exact EReal.coe_ne_top _, ?_⟩
  have := le_fold f 0
  rw [hf] at this
  exact this

theorem step_st (q kt : Vec Ideal S1x1024x256 .bf16) (vt : Vec Ideal S1x1x128x1024 .bf16) (s : St Ideal) (i j : Fin 1024) :
    (step q kt vt s).st (ix2 i j) = ∑ x : Fin 256, kt (ix3 0 i x) * q (ix3 0 j x) := by
  unfold step
  dsimp only
  rw [pay36_at]

theorem step_mt (q kt : Vec Ideal S1x1024x256 .bf16) (vt : Vec Ideal S1x1x128x1024 .bf16) (s : St Ideal) (j : Fin 1024) :
    (step q kt vt s).mt (ix2 0 j) = Finset.univ.fold max ninf (fun i : Fin 1024 => ∑ x : Fin 256, kt (ix3 0 i x) * q (ix3 0 j x)) := by
  unfold step
  dsimp only
  rw [pay37_at]

/-- An unmasked tile of keys. -/
theorem Col.step {n : ℕ} {s : ℕ → ℝ} {v : ℕ → EReal} {j : Fin 1024} {d : Fin 128} {σ : St Ideal} (h : Col n s v j d σ)
    (q kt : Vec Ideal S1x1024x256 .bf16) (vt : Vec Ideal S1x1x128x1024 .bf16)
    (hk : ∀ i : Fin 1024, ∑ x : Fin 256, kt (ix3 0 i x) * q (ix3 0 j x) = (s (n + 1024 + i.val) : EReal))
    (hv : ∀ i : Fin 1024, vt (ix4 0 0 d i) = v (n + i.val)) : Col (n + 1024) s v j d (step q kt vt σ) where
  st i := by rw [step_st]; exact hk i
  mt_top := by rw [step_mt]; exact (fold_tile (n + 1024) s _ hk).1
  mt_ge := by rw [step_mt]; exact (fold_tile (n + 1024) s _ hk).2
  soft := by
    obtain ⟨M, hM⟩ := mnew_real h
    have := h.soft.step M 1024
    rw [step_m, step_l, step_acc, hM]
    simp only [h.st, hv]
    rw [sum_slabs, sum_slabs] at this
    simp only [add_assoc] at this ⊢
    exact this

end Cert.KernelIdeal.Flash
end
-- ==== Proof.Flash.Diag.lean ====
module

public import proofs.«01_k».proof.Proof.Flash.Col

@[expose] public section

set_option maxRecDepth 16384
set_option maxHeartbeats 1000000

noncomputable section

namespace Cert.KernelIdeal.Flash

open Cert.KernelIdeal Cert.KernelIdeal.Gen Cert.Softmax
open Idealize.ShloMosaic Idealize.ShloMosaic.TcCoe

theorem mdiag_real {n : ℕ} {s : ℕ → ℝ} {v : ℕ → EReal} {j : Fin 1024} {d : Fin 128} {σ : St Ideal} (h : Col n s v j d σ) :
    ∃ M : ℝ, mdiag σ (ix2 0 j) = (M : EReal) := by
  have hst : ∀ (a : Fin 1024) (b : Fin 1024), b = j → σ.st (ix2 a b) ≠ ⊤ := fun a b e => by
    rw [e, h.st]; exact EReal.coe_ne_top _
  have hm := mdiag_at σ j
  rw [ninf_eq] at hm
  rw [hm]
  refine real_of ?_ (s n) ?_
  · refine Cert.Softmax.max_ne_top h.soft.ne_top (Cert.Softmax.max_ne_top (Cert.Softmax.max_ne_top (Cert.Softmax.max_ne_top ?_ ?_) ?_) ?_)
    · refine fold_ne_top _ fun x => ?_
      rw [pay44_at]; split
      · exact hst _ _ rfl
      · exact bot_ne_top
    · split
      · exact bot_ne_top
      · refine fold_ne_top _ fun x => ?_
        rw [pay45_at]; split
        · exact hst _ _ (Fin.ext (by dsimp only; omega))
        · exact bot_ne_top
    · split
      · exact bot_ne_top
      · refine fold_ne_top _ fun x => ?_
        rw [pay46_at]; split
        · exact hst _ _ (Fin.ext (by dsimp only; omega))
        · exact bot_ne_top
    · split
      · exact bot_ne_top
      · refine fold_ne_top _ fun x => ?_
        rw [pay48_at]; split
        · exact hst _ _ (Fin.ext (by dsimp only; omega))
        · exact bot_ne_top
  · refine le_trans ?_ (le_max_right _ _)
    refine le_trans ?_ (le_max_left _ _)
    refine le_trans ?_ (le_max_left _ _)
    refine le_trans ?_ (le_max_left _ _)
    refine le_trans (le_of_eq ?_) (le_fold _ 0)
    rw [pay44_at]
    exact ((if_pos (Nat.zero_le j.val)).trans (h.st ⟨0, by omega⟩)).symm

/-- The diagonal's tile: the keys up to the query. -/
theorem Col.diag {n : ℕ} {s : ℕ → ℝ} {v : ℕ → EReal} {j : Fin 1024} {d : Fin 128} {σ : St Ideal} (h : Col n s v j d σ)
    (vt : Vec Ideal S1x1x128x1024 .bf16) (hv : ∀ i : Fin 1024, vt (ix4 0 0 d i) = v (n + i.val)) :
    Soft (n + (j.val + 1)) s v (mdiag σ (ix2 0 j)) (diagL σ (ix2 0 j)) (diagAcc vt σ (ix2 d j)) := by
  obtain ⟨M, hM⟩ := mdiag_real h
  have := h.soft.step M (j.val + 1)
  have ex : ∀ (a : ℕ) (c : Prop) [Decidable c] (x : Fin 1024) (b : Fin 1024), b = j → Ideal.exp2 ((if c then σ.st (ix2 x b) else ⊥) - (M : EReal))
      = if c then Ideal.exp2 ((s (n + x.val) : EReal) - (M : EReal)) else 0 := fun a c _ x b e => by
    split
    · rw [e, h.st]
    · simp
  have e44 : ∀ x : Fin 256, Ideal.exp2 (k0_pay44 σ.st (ix2 x j) - (M : EReal))
      = if x.val < j.val + 1 then Ideal.exp2 ((s (n + x.val) : EReal) - (M : EReal)) else 0 := fun x => by
    rw [pay44_at, ex 0 _ _ _ rfl]
    exact if_congr (by omega) rfl rfl
  have e45 : ∀ (x : Fin 256) (hj : ¬ j.val < 256), Ideal.exp2 (k0_pay45 σ.st (ix2 x ⟨j.val - 256, by omega⟩) - (M : EReal))
      = if 256 + x.val < j.val + 1 then Ideal.exp2 ((s (n + (256 + x.val)) : EReal) - (M : EReal)) else 0 := fun x hj => by
    rw [pay45_at, ex 0 _ _ _ (Fin.ext (by dsimp only; omega))]
    exact if_congr (by dsimp only; omega) rfl rfl
  have e46 : ∀ (x : Fin 256) (hj : ¬ j.val < 512), Ideal.exp2 (k0_pay46 σ.st (ix2 x ⟨j.val - 512, by omega⟩) - (M : EReal))
      = if 512 + x.val < j.val + 1 then Ideal.exp2 ((s (n + (512 + x.val)) : EReal) - (M : EReal)) else 0 := fun x hj => by
    rw [pay46_at, ex 0 _ _ _ (Fin.ext (by dsimp only; omega))]
    exact if_congr (by dsimp only; omega) rfl rfl
  have e48 : ∀ (x : Fin 256) (hj : ¬ j.val < 768), Ideal.exp2 (k0_pay48 σ.st (ix2 x ⟨j.val - 768, by omega⟩) - (M : EReal))
      = if 768 + x.val < j.val + 1 then Ideal.exp2 ((s (n + (768 + x.val)) : EReal) - (M : EReal)) else 0 := fun x hj => by
    rw [pay48_at, ex 0 _ _ _ (Fin.ext (by dsimp only; omega))]
    exact if_congr (by dsimp only; omega) rfl rfl
  have m45 : ∀ hj : ¬ j.val < 256, mdiag σ (ix2 0 ⟨256 + (j.val - 256), by omega⟩) = (M : EReal) := fun hj => by
    rw [← hM]; congr 2; exact Fin.ext (by dsimp only; omega)
  have m46 : ∀ hj : ¬ j.val < 512, mdiag σ (ix2 0 ⟨512 + (j.val - 512), by omega⟩) = (M : EReal) := fun hj => by
    rw [← hM]; congr 2; exact Fin.ext (by dsimp only; omega)
  have m48 : ∀ hj : ¬ j.val < 768, mdiag σ (ix2 0 ⟨768 + (j.val - 768), by omega⟩) = (M : EReal) := fun hj => by
    rw [← hM]; congr 2; exact Fin.ext (by dsimp only; omega)
  rw [← sum_masked (fun i => Ideal.exp2 ((s (n + i) : EReal) - (M : EReal))) (j.val + 1) 1024 (by omega),
    ← sum_masked (fun i => v (n + i) * Ideal.exp2 ((s (n + i) : EReal) - (M : EReal))) (j.val + 1) 1024 (by omega), sum_slabs, sum_slabs] at this
  have hL : diagL σ (ix2 0 j) = Ideal.exp2 (σ.m (ix2 0 j) - (M : EReal)) * σ.l (ix2 0 j)
      + (∑ x : Fin 256, (if x.val < j.val + 1 then Ideal.exp2 ((s (n + x.val) : EReal) - (M : EReal)) else 0)
      + ∑ x : Fin 256, (if 256 + x.val < j.val + 1 then Ideal.exp2 ((s (n + (256 + x.val)) : EReal) - (M : EReal)) else 0)
      + ∑ x : Fin 256, (if 512 + x.val < j.val + 1 then Ideal.exp2 ((s (n + (512 + x.val)) : EReal) - (M : EReal)) else 0)
      + ∑ x : Fin 256, (if 768 + x.val < j.val + 1 then Ideal.exp2 ((s (n + (768 + x.val)) : EReal) - (M : EReal)) else 0)) := by
    rw [diagL_at, hM]
    simp only [← add_assoc (G := EReal)]
    congr 1
    congr 1
    congr 1
    congr 1
    · exact Finset.sum_congr rfl fun x _ => e44 x
    · split
      · exact (Finset.sum_eq_zero fun x _ => if_neg (by omega)).symm
      · rename_i hj; exact Finset.sum_congr rfl fun x _ => by rw [m45 hj]; exact e45 x hj
    · split
      · exact (Finset.sum_eq_zero fun x _ => if_neg (by omega)).symm
      · rename_i hj; exact Finset.sum_congr rfl fun x _ => by rw [m46 hj]; exact e46 x hj
    · split
      · exact (Finset.sum_eq_zero fun x _ => if_neg (by omega)).symm
      · rename_i hj; exact Finset.sum_congr rfl fun x _ => by rw [m48 hj]; exact e48 x hj
  have hA : diagAcc vt σ (ix2 d j) = Ideal.exp2 (σ.m (ix2 0 j) - (M : EReal)) * σ.acc (ix2 d j)
      + (∑ x : Fin 256, (if x.val < j.val + 1 then v (n + x.val) * Ideal.exp2 ((s (n + x.val) : EReal) - (M : EReal)) else 0)
      + ∑ x : Fin 256, (if 256 + x.val < j.val + 1 then v (n + (256 + x.val)) * Ideal.exp2 ((s (n + (256 + x.val)) : EReal) - (M : EReal)) else 0)
      + ∑ x : Fin 256, (if 512 + x.val < j.val + 1 then v (n + (512 + x.val)) * Ideal.exp2 ((s (n + (512 + x.val)) : EReal) - (M : EReal)) else 0)
      + ∑ x : Fin 256, (if 768 + x.val < j.val + 1 then v (n + (768 + x.val)) * Ideal.exp2 ((s (n + (768 + x.val)) : EReal) - (M : EReal)) else 0)) := by
    rw [diagAcc_at, hM]
    congr 1
    congr 1
    congr 1
    congr 1
    · exact Finset.sum_congr rfl fun x _ => by rw [e44 x, hv, mul_ite, mul_zero]
    · split
      · exact (Finset.sum_eq_zero fun x _ => if_neg (by omega)).symm
      · rename_i hj; exact Finset.sum_congr rfl fun x _ => by rw [m45 hj, e45 x hj, hv, mul_ite, mul_zero]
    · split
      · exact (Finset.sum_eq_zero fun x _ => if_neg (by omega)).symm
      · rename_i hj; exact Finset.sum_congr rfl fun x _ => by rw [m46 hj, e46 x hj, hv, mul_ite, mul_zero]
    · split
      · exact (Finset.sum_eq_zero fun x _ => if_neg (by omega)).symm
      · rename_i hj; exact Finset.sum_congr rfl fun x _ => by rw [m48 hj, e48 x hj, hv, mul_ite, mul_zero]
  rw [hM, hL, hA]
  exact this

end Cert.KernelIdeal.Flash
end
-- ==== Proof.Flash.Loads.lean ====
module

public import proofs.«01_k».proof.Proof.Flash.Frame
public import Idealize.ShloMosaic.Lib.Pointwise

@[expose] public section

set_option maxRecDepth 16384
set_option maxHeartbeats 1000000

noncomputable section

namespace Cert.KernelIdeal.Flash

open Cert.KernelIdeal Cert.KernelIdeal.Gen
open Idealize.ShloMosaic Idealize.ShloMosaic.TcCoe

/-! ## The loads -/

theorem ld3 {α : Type} (x : S1x8192x256.Idx → α) (off : Fin 3 → ℕ) (n : ℕ) (h : off = ![0, n, 0]) (inb : ∀ a, off a + S1x1024x256.size a ≤ S1x8192x256.size a)
    (i : Fin 1024) (c : Fin 256) (k : Fin 8192) (hk : k.val = n + i.val) :
    x ((Rect.unit (s := S1x8192x256) off S1x1024x256.size inb).idx (ix3 0 i c)) = x (ix3 0 k c) := by
  subst h
  refine congrArg x (funext fun a => Fin.ext ?_)
  match a with
  | 0 => rfl
  | 1 => show n + 1 * i.val = k.val; omega
  | 2 => show 0 + 1 * c.val = c.val; omega

theorem ld4 {α : Type} (x : S1x8x128x1024.Idx → α) (off : Fin 4 → ℕ) (n : ℕ) (h : off = ![0, n, 0, 0]) (inb : ∀ a, off a + S1x1x128x1024.size a ≤ S1x8x128x1024.size a)
    (d : Fin 128) (i : Fin 1024) (k : Fin 8) (hk : k.val = n) :
    x ((Rect.unit (s := S1x8x128x1024) off S1x1x128x1024.size inb).idx (ix4 0 0 d i)) = x (ix4 0 k d i) := by
  subst h
  refine congrArg x (funext fun a => Fin.ext ?_)
  match a with
  | 0 => rfl
  | 1 => show n + 1 * 0 = k.val; omega
  | 2 => show 0 + 1 * d.val = d.val; omega
  | 3 => show 0 + 1 * i.val = i.val; omega

theorem off1_eq : ∀ k : Fin k0_t1_loop.trips, k0_off1 k = ![0, 1024 * k.val, 0] := by decide +kernel
theorem off2_eq : ∀ (k : Fin k0_t1_loop.trips) (i : Fin (k0_t2_loop k).trips), k0_off2 k i = ![0, 1024 * (i.val + 1), 0] := by decide +kernel
theorem off3_eq : ∀ (k : Fin k0_t1_loop.trips) (i : Fin (k0_t2_loop k).trips), k0_off3 k i = ![0, i.val, 0, 0] := by decide +kernel
theorem off6_eq : ∀ k : Fin k0_t1_loop.trips, k.val + 1 < 8 → k0_off6 k = ![0, 1024 * (k.val + 1), 0] := by decide +kernel
theorem off7_eq : ∀ k : Fin k0_t1_loop.trips, k0_off7 k = ![0, k.val, 0, 0] := by decide +kernel

end Cert.KernelIdeal.Flash
end
-- ==== Proof.Flash.Tile.lean ====
module

public import proofs.«01_k».proof.Proof.Flash.Diag
public import proofs.«01_k».proof.Proof.Flash.Loads
public import proofs.«01_k».proof.Proof.Flash.Frame

@[expose] public section

set_option maxRecDepth 16384
set_option maxHeartbeats 1000000

noncomputable section

namespace Cert.KernelIdeal.Flash

open Cert.KernelIdeal Cert.KernelIdeal.Gen Cert.Softmax
open Idealize.ShloMosaic Idealize.ShloMosaic.TcCoe

section
variable (x2 x3 : S1x8192x256.Idx → EReal) (x4 : S1x8x128x1024.Idx → EReal) (s : ℕ → ℝ) (v : ℕ → EReal) (k : Fin k0_t1_loop.trips) (j : Fin 1024) (d : Fin 128)
  (hs : ∀ (y : Fin 8192) (i : Fin 8192), y.val = 1024 * k.val + j.val → ∑ x : Fin 256, x3 (ix3 0 i x) * x2 (ix3 0 y x) = (s i.val : EReal))
  (hv : ∀ (t : Fin 8) (i : Fin 1024), x4 (ix4 0 t d i) = v (1024 * t.val + i.val))

theorem k_lt : k.val < 8 := lt_of_lt_of_eq k.isLt t1_trips

include hs in
/-- The scores the outer loop's trip finds are those of the first tile of keys. -/
theorem sc_col : (∀ i : Fin 1024, (sc (F := Ideal) x2 x3 k.val).1 (ix2 i j) = (s (0 + i.val) : EReal))
    ∧ (sc (F := Ideal) x2 x3 k.val).2 (ix2 0 j) ≠ ⊤ ∧ (s 0 : EReal) ≤ (sc (F := Ideal) x2 x3 k.val).2 (ix2 0 j) := by
  have hk := k_lt k
  obtain ⟨n, hn⟩ := k
  dsimp only at hs hk ⊢
  cases n with
  | zero =>
    have e : ∀ i : Fin 1024, ∑ x : Fin 256, (k00 (F := Ideal) x3) (ix3 0 i x) * (q00 (F := Ideal) x2) (ix3 0 j x) = (s (0 + i.val) : EReal) := fun i => by
      rw [← hs ⟨j.val, by omega⟩ ⟨0 + i.val, by omega⟩ (by dsimp only; omega)]
      refine Finset.sum_congr rfl fun x _ => ?_
      exact congrArg₂ (· * ·) (ld3 x3 _ 0 rfl _ i x _ rfl) (ld3 x2 _ 0 rfl _ j x _ (by dsimp only; omega))
    rw [sc_zero]
    dsimp only
    rw [pay3_at]
    exact ⟨fun i => (pay2_at _ _ i j).trans (e i), fold_tile 0 s _ e⟩
  | succ n =>
    have hn' : n < k0_t1_loop.trips := by omega
    have e : ∀ i : Fin 1024, ∑ x : Fin 256, (k00 (F := Ideal) x3) (ix3 0 i x) * (qn (F := Ideal) x2 ⟨n, hn'⟩) (ix3 0 j x) = (s (0 + i.val) : EReal) := fun i => by
      rw [← hs ⟨1024 * (n + 1) + j.val, by omega⟩ ⟨0 + i.val, by omega⟩ rfl]
      refine Finset.sum_congr rfl fun x _ => ?_
      exact congrArg₂ (· * ·) (ld3 x3 _ 0 rfl _ i x _ rfl) (ld3 x2 _ (1024 * (n + 1)) (off6_eq ⟨n, hn'⟩ hk) _ j x _ rfl)
    have e' := sc_succ (F := Ideal) x2 x3 ⟨n, hn'⟩
    dsimp only at e'
    rw [e']
    dsimp only
    rw [pay6_at]
    exact ⟨fun i => (pay5_at _ _ i j).trans (e i), fold_tile 0 s _ e⟩

include hs hv in
/-- The column before trip `i` of the inner loop. -/
theorem iter_col : ∀ i : ℕ, i ≤ k.val → Col (1024 * i) s v j d
    (iter (F := Ideal) (qt x2 k) x3 x4 k ⟨(sc x2 x3 k.val).1, (sc x2 x3 k.val).2, k0_pay31 (F := Ideal), k0_pay32 (F := Ideal), k0_pay33 (F := Ideal)⟩ i)
  | 0, _ => by
    obtain ⟨h1, h2, h3⟩ := sc_col x2 x3 s k j hs
    exact ⟨h1, h2, h3, Or.inl ⟨rfl, (pay31_at j).trans ninf_eq, pay32_at j, pay33_at d j⟩⟩
  | i + 1, hi => by
    have ih := iter_col i (by omega)
    have hk := k_lt k
    have ht : i < (k0_t2_loop k).trips := by rw [t2_trips]; omega
    rw [iter, dif_pos ht]
    refine ih.step _ _ _ (fun a => ?_) (fun a => ?_)
    · rw [← hs ⟨1024 * k.val + j.val, by omega⟩ ⟨1024 * i + 1024 + a.val, by omega⟩ rfl]
      refine Finset.sum_congr rfl fun x _ => ?_
      exact congrArg₂ (· * ·) (ld3 x3 _ _ (off2_eq k ⟨i, ht⟩) _ a x _ (by dsimp only; omega)) (ld3 x2 _ _ (off1_eq k) _ j x _ rfl)
    · exact (ld4 x4 _ _ (off3_eq k ⟨i, ht⟩) _ d a ⟨i, by omega⟩ rfl).trans (hv _ a)

include hs hv in
/-- The output's tile: the softmax-weighted sum over the keys up to the query. -/
theorem outT_at (S : ℕ → ℝ) (hS : ∀ i, i < 1024 * k.val + j.val + 1 → S i = s i * Real.log 2) :
    outT (F := Ideal) x2 x3 x4 k (sc x2 x3 k.val).1 (sc x2 x3 k.val).2 (ix2 j d) = attn (1024 * k.val + j.val + 1) S v := by
  have hk := k_lt k
  have h := (iter_col x2 x3 x4 s v k j d hs hv k.val le_rfl).diag (vtd x4 k)
    (fun i => (ld4 x4 _ _ (off7_eq k) _ d i ⟨k.val, hk⟩ rfl).trans (hv _ i))
  unfold outT atDiag
  rw [pay7_at, t2_trips]
  exact h.div (by omega) hS

end

end Cert.KernelIdeal.Flash
end
-- ==== Proof.Value.Value.lean ====
module

public import proofs.«01_k».proof.Proof.Value.Host
public import proofs.«01_k».proof.Proof.Flash.Tile
public import Idealize.ShloMosaic.Lib.Pipeline.ValueKit

@[expose] public section

set_option maxRecDepth 16384
set_option maxHeartbeats 1000000

noncomputable section

namespace Cert.KernelIdeal.Attn

open Cert.KernelIdeal Cert.KernelIdeal.Gen Cert.KernelIdeal.Flash Cert.KernelIdeal.Pack Cert.Spec
open Idealize.ShloMosaic Idealize.ShloMosaic.TcCoe

variable (m : (ℓ : Loc nD τ sig) → Buf (Elt Ideal) ℓ) (c : Dev nD)

/-- Every window's block, from the output's. -/
theorem index_eq : ∀ t : Fin cfg0.N, win0_3.index t 0 < 2 ∧ win0_3.index t 1 < 8
    ∧ win0_0.index t = ![win0_3.index t 1, win0_3.index t 0, 0]
    ∧ win0_1.index t = ![win0_3.index t 1, win0_3.index t 0, 0]
    ∧ win0_2.index t = ![win0_3.index t 1, win0_3.index t 0, 0, 0] := by decide +kernel

/-- The sequence of a grid point, -/
def seqOf (t : Fin cfg0.N) : Fin 2 := ⟨win0_3.index t 0, (index_eq t).1⟩
/-- and its head. -/
def headOf (t : Fin cfg0.N) : Fin 8 := ⟨win0_3.index t 1, (index_eq t).2.1⟩

theorem row_lt (t : Fin cfg0.N) (q : Fin 8192) : (seqOf t).val * 8192 + q.val < 16384 := by
  have := (seqOf t).isLt; have := q.isLt; omega

theorem iblk0_at (t : Fin cfg0.N) (q : Fin 8192) (x : Fin 256) :
    iblk m c 0 t (ix3 0 q x) = packQ (m (c.tc.loc main_arg0)) (m (c.tc.loc main_arg1)) (ix3 (headOf t) ⟨(seqOf t).val * 8192 + q.val, row_lt t q⟩ x) := by
  obtain ⟨hb, hh, e0, e1, e2⟩ := index_eq t
  blk_simp [iblk]
  rw [V_v10]
  refine congrArg _ (funext fun a => Fin.ext ?_)
  match a with
  | ⟨0, _⟩ => show (((win0_0.blk t).view.emb (ix3 0 q x)) 0).val = win0_3.index t 1; blk_simp [e0] <;> simp
  | ⟨1, _⟩ => show (((win0_0.blk t).view.emb (ix3 0 q x)) 1).val = win0_3.index t 0 * 8192 + q.val; blk_simp [e0] <;> simp
  | ⟨2, _⟩ => show (((win0_0.blk t).view.emb (ix3 0 q x)) 2).val = x.val; blk_simp [e0] <;> simp

theorem iblk1_at (t : Fin cfg0.N) (q : Fin 8192) (x : Fin 256) :
    iblk m c 1 t (ix3 0 q x) = packK (m (c.tc.loc main_arg2)) (m (c.tc.loc main_arg3)) (ix3 (headOf t) ⟨(seqOf t).val * 8192 + q.val, row_lt t q⟩ x) := by
  obtain ⟨hb, hh, e0, e1, e2⟩ := index_eq t
  blk_simp [iblk]
  rw [V_v16]
  refine congrArg _ (funext fun a => Fin.ext ?_)
  match a with
  | ⟨0, _⟩ => show (((win0_1.blk t).view.emb (ix3 0 q x)) 0).val = win0_3.index t 1; blk_simp [e1] <;> simp
  | ⟨1, _⟩ => show (((win0_1.blk t).view.emb (ix3 0 q x)) 1).val = win0_3.index t 0 * 8192 + q.val; blk_simp [e1] <;> simp
  | ⟨2, _⟩ => show (((win0_1.blk t).view.emb (ix3 0 q x)) 2).val = x.val; blk_simp [e1] <;> simp

theorem slab_lt (t : Fin cfg0.N) (k : Fin 8) : (seqOf t).val * 8 + k.val < 16 := by
  have := (seqOf t).isLt; have := k.isLt; omega

theorem iblk2_at (t : Fin cfg0.N) (k : Fin 8) (d : Fin 128) (i : Fin 1024) :
    iblk m c 2 t (ix4 0 k d i) = packV (m (c.tc.loc main_arg4)) (ix4 (headOf t) ⟨(seqOf t).val * 8 + k.val, slab_lt t k⟩ d i) := by
  obtain ⟨hb, hh, e0, e1, e2⟩ := index_eq t
  blk_simp [iblk]
  rw [V_v19]
  refine congrArg _ (funext fun a => Fin.ext ?_)
  match a with
  | ⟨0, _⟩ => show (((win0_2.blk t).view.emb (ix4 0 k d i)) 0).val = win0_3.index t 1; blk_simp [e2] <;> simp
  | ⟨1, _⟩ => show (((win0_2.blk t).view.emb (ix4 0 k d i)) 1).val = win0_3.index t 0 * 8 + k.val; blk_simp [e2] <;> simp
  | ⟨2, _⟩ => show (((win0_2.blk t).view.emb (ix4 0 k d i)) 2).val = d.val; blk_simp [e2] <;> simp
  | ⟨3, _⟩ => show (((win0_2.blk t).view.emb (ix4 0 k d i)) 3).val = i.val; blk_simp [e2] <;> simp

/-- The block that a grid point writes: the attention of its sequence and head. -/
theorem outAt_at (x0 x2 x4 : SQ.Idx → EReal) (x1 : SP.Idx → EReal) (x3 : SK.Idx → EReal) (hf : Fin4 x0 x1 x2 x3)
    (h0 : m (c.tc.loc main_arg0) = x0) (h1 : m (c.tc.loc main_arg1) = x1) (h2 : m (c.tc.loc main_arg2) = x2) (h3 : m (c.tc.loc main_arg3) = x3) (h4 : m (c.tc.loc main_arg4) = x4)
    (t : Fin cfg0.N) (y : S8192x128.Idx) : outAt m c t y = out x0 x1 x2 x3 x4 (seqOf t) (headOf t) ⟨(y 0).val, (y 0).isLt⟩ ⟨(y 1).val, (y 1).isLt⟩ := by
  have hy : (y 0).val < 8192 := (y 0).isLt
  have ek : 1024 * (tripOf y).val + (y 0).val % 1024 = (y 0).val := by
    show 1024 * ((y 0).val / 1024) + _ = _; omega
  have e : inTile y = ix2 (⟨(y 0).val % 1024, Nat.mod_lt _ (by decide)⟩ : Fin 1024) (⟨(y 1).val, (y 1).isLt⟩ : Fin 128) := funext fun a => by
    match a with
    | ⟨0, _⟩ => rfl
    | ⟨1, _⟩ => rfl
  unfold outAt blkV
  rw [e]
  refine (outT_at _ _ _ (score2 x0 x1 x2 x3 (seqOf t) (headOf t) ⟨(y 0).val, hy⟩) (value x4 (seqOf t) (headOf t) ⟨(y 1).val, (y 1).isLt⟩) (tripOf y) _ _ ?_ ?_
    (score x0 x1 x2 x3 (seqOf t) (headOf t) ⟨(y 0).val, hy⟩) fun i _ => score_eq x0 x1 x2 x3 _ _ _ i).trans ?_
  · intro q i hq
    have hq' : q = ⟨(y 0).val, hy⟩ := Fin.ext (hq.trans ek)
    subst h0 h1 h2 h3
    simp only [iblk0_at, iblk1_at]
    rw [← hq']
    exact packed_dot _ _ _ _ hf (seqOf t) (headOf t) q i _ _ rfl rfl
  · intro k i
    subst h4
    rw [iblk2_at, packV_at, value, dif_pos (by have := k.isLt; have := i.isLt; omega)]
    refine congrArg _ (funext fun a => Fin.ext ?_)
    have := (seqOf t).isLt
    match a with
    | ⟨0, _⟩ => show ((seqOf t).val * 8 + k.val) / 8 = (seqOf t).val; omega
    | ⟨1, _⟩ => show ((seqOf t).val * 8 + k.val) % 8 * 1024 + i.val = 1024 * k.val + i.val; omega
    | ⟨2, _⟩ => rfl
    | ⟨3, _⟩ => rfl
  · show Cert.Softmax.attn (1024 * (tripOf y).val + (y 0).val % 1024 + 1) _ _ = _
    rw [ek]
    rfl

/-- The output's array after the run: the causal attention. -/
theorem result (x0 x2 x4 : SQ.Idx → EReal) (x1 : SP.Idx → EReal) (x3 : SK.Idx → EReal) (hf : Fin4 x0 x1 x2 x3)
    (h0 : m (c.tc.loc main_arg0) = x0) (h1 : m (c.tc.loc main_arg1) = x1) (h2 : m (c.tc.loc main_arg2) = x2) (h3 : m (c.tc.loc main_arg3) = x3) (h4 : m (c.tc.loc main_arg4) = x4) :
    (dats m 0 c).arrAt 3 (cfgs 0).N = outAll x0 x1 x2 x3 x4 := by
  refine (dats m 0 c).arrAt_eq_of_covers 3 _ (by decide +kernel) fun t _ y => ?_
  have c0 : (((win0_3.blk t).view.emb y) 0).val = (seqOf t).val * 8192 + (y 0).val := by
    show _ = win0_3.index t 0 * 8192 + (y 0).val
    blk_simp
  have c1 : (((win0_3.blk t).view.emb y) 1).val = (headOf t).val * 128 + (y 1).val := by
    show _ = win0_3.index t 1 * 128 + (y 1).val
    blk_simp
  blk_simp
  rw [after3]
  refine (outAt_at m c x0 x2 x4 x1 x3 hf h0 h1 h2 h3 h4 t y).trans ?_
  have b0 : (y 0).val < 8192 := (y 0).isLt
  have b1 : (y 1).val < 128 := (y 1).isLt
  have cg : ∀ (b b' : Fin 2) (h h' : Fin 8) (q q' : Fin 8192) (d d' : Fin 128), b = b' → h = h' → q = q' → d = d' →
      out x0 x1 x2 x3 x4 b h q d = out x0 x1 x2 x3 x4 b' h' q' d' := by
    rintro b b' h h' q q' d d' rfl rfl rfl rfl; rfl
  refine cg _ _ _ _ _ _ _ _ (Fin.ext ?_) (Fin.ext ?_) (Fin.ext ?_) (Fin.ext ?_)
  · show _ = (((win0_3.blk t).view.emb y) 0).val / 8192; rw [c0]; omega
  · show _ = (((win0_3.blk t).view.emb y) 1).val / 128; rw [c1]; omega
  · show (y 0).val = (((win0_3.blk t).view.emb y) 0).val % 8192; rw [c0]; omega
  · show (y 1).val = (((win0_3.blk t).view.emb y) 1).val % 128; rw [c1]; omega

end Cert.KernelIdeal.Attn
end
-- ==== Proof.Value.Ref.lean ====
module

public import proofs.«01_k».proof.Proof.Value.Spec
public import proofs.«01_k».proof.Proof.Gen.ReferenceIdeal.Read
public import Idealize.ShloMosaic.Lib.WordCmp

@[expose] public section

set_option maxRecDepth 16384
set_option maxHeartbeats 1000000

noncomputable section

namespace Cert.ReferenceIdeal.Attn

open Cert.ReferenceIdeal Cert.ReferenceIdeal.Read Cert.Spec Cert.Softmax
open Idealize.ShloMosaic

theorem ninf_eq : Ideal.ofBits .f32 0xFF800000#32 = ⊥ := by
  simp [Ideal.ofBits, Ideal.ieee]

variable (x0 : SQ.Idx → EReal) (x1 : SP.Idx → EReal) (x2 : SQ.Idx → EReal) (x3 : SK.Idx → EReal) (x4 : SQ.Idx → EReal)

theorem v3_at (b : Fin 2) (h : Fin 8) (q k : Fin 8192) : val_main_v3 (F := Ideal) x0 x1 x2 x3 (ix4 b h q k)
    = ∑ n : Fin 128, x0 (ix4 b q h n) * x2 (ix4 b k h n) + ∑ p : Fin 64, x3 (ix3 b k p) * x1 (ix4 b q h p) := by
  pointwise [val_main_v3, val_main_v2, val_main_v1, val_main_v0]

theorem v5_at (i : S2x8x8192x8192.Idx) : val_main_v5 (F := Ideal) i = ((Real.sqrt 192 : ℝ) : EReal) := by
  rw [val_main_v5_apply, val_main_v4_apply, val_main_cst_apply]
  exact sqrt_192

theorem mask_at (b : Fin 2) (h : Fin 8) (q k : Fin 8192) (x y : EReal) :
    Scalar.select (val_main_call0_v1 (F := Ideal) (ix4 b h q k)) x y = if k.val ≤ q.val then x else y := by
  rw [val_main_call0_v1_apply, val_main_v12_apply, val_main_v10_apply, val_main_v8_apply, val_main_v7_apply, val_main_v11_apply, val_main_v9_apply, val_main_v7_apply]
  rw [Scalar.select_def]
  refine if_congr ?_ rfl rfl
  exact WordCmp.cmpi_sle_ofNat_eq_one_iff (w := 32) (a := k.val) (b := q.val) (by have := k.isLt; omega) (by have := q.isLt; omega)

theorem v14_at (b : Fin 2) (h : Fin 8) (q : Fin 8192) : val_main_v14 (F := Ideal) x0 x1 x2 x3 (ix3 b h q)
    = Finset.univ.fold max (Ideal.ofBits .f32 0xFF800000#32) (fun k : Fin 8192 => val_main_v13 (F := Ideal) x0 x1 x2 x3 (ix4 b h q k)) := by
  unfold val_main_v14
  generalize val_main_v13 (F := Ideal) x0 x1 x2 x3 = y
  pointwise [val_main_cst_1]

section
variable (hf : Fin4 x0 x1 x2 x3)
include hf

theorem v6_at (b : Fin 2) (h : Fin 8) (q k : Fin 8192) : val_main_v6 (F := Ideal) x0 x1 x2 x3 (ix4 b h q k)
    = ((score x0 x1 x2 x3 b h q k.val : ℝ) : EReal) := by
  rw [val_main_v6_apply, v5_at, v3_at]
  unfold score
  rw [dif_pos k.isLt, ← div_real _ _ sqrt_pos.ne', dot, EReal.coe_add, coe_sum, coe_sum]
  refine congrArg (Ideal.div · _) (congrArg₂ (· + ·) ?_ ?_)
  · exact Finset.sum_congr rfl fun n _ => by rw [EReal.coe_mul, ← hf.q0, ← hf.k0]
  · exact Finset.sum_congr rfl fun n _ => by rw [EReal.coe_mul, ← hf.q1, ← hf.k1, mul_comm]

theorem v13_at (b : Fin 2) (h : Fin 8) (q k : Fin 8192) : val_main_v13 (F := Ideal) x0 x1 x2 x3 (ix4 b h q k)
    = if k.val ≤ q.val then ((score x0 x1 x2 x3 b h q k.val : ℝ) : EReal) else ⊥ := by
  rw [val_main_v13_apply, mask_at, v6_at x0 x1 x2 x3 hf, val_main_call0_v2_apply, val_main_call0_v0_apply, val_main_cst_0_apply]
  exact if_congr Iff.rfl rfl ninf_eq

/-- The base taken off the scores is a real. -/
theorem v18_at (b : Fin 2) (h : Fin 8) (q : Fin 8192) : ∃ R : ℝ, ∀ k : Fin 8192, val_main_v18 (F := Ideal) x0 x1 x2 x3 (ix4 b h q k) = (R : EReal) := by
  have e : ∀ k : Fin 8192, val_main_v18 (F := Ideal) x0 x1 x2 x3 (ix4 b h q k) = val_main_v16 (F := Ideal) x0 x1 x2 x3 (ix3 b h q) := fun k => by
    rw [val_main_v18_apply, val_main_v17_apply]
    exact congrArg _ (funext fun a => by fin_cases a <;> rfl)
  have hr : ∃ R : ℝ, val_main_v16 (F := Ideal) x0 x1 x2 x3 (ix3 b h q) = (R : EReal) := by
    rw [val_main_v16_apply, val_main_v15_apply, val_main_cst_2_apply, v14_at]
    show ∃ R : ℝ, max (Ideal.ofBits .f32 0xFF800000#32) _ = (R : EReal)
    rw [ninf_eq]
    refine real_of (Cert.Softmax.max_ne_top bot_ne_top (fold_ne_top _ fun k => ?_)) (score x0 x1 x2 x3 b h q 0) ((le_of_eq ?_).trans ((le_fold _ 0).trans (le_max_right _ _)))
    · rw [v13_at x0 x1 x2 x3 hf]
      split
      · exact EReal.coe_ne_top _
      · exact bot_ne_top
    · rw [v13_at x0 x1 x2 x3 hf]
      exact (if_pos (Nat.zero_le _)).symm
  obtain ⟨R, hR⟩ := hr
  exact ⟨R, fun k => (e k).trans hR⟩

/-- Coordinate `d` of the reference's answer to query `q`. -/
theorem v25_at (b : Fin 2) (h : Fin 8) (d : Fin 128) (q : Fin 8192) : val_main_v25 (F := Ideal) x0 x1 x2 x3 x4 (ix4 b h d q) = out x0 x1 x2 x3 x4 b h q d := by
  obtain ⟨R, hR⟩ := v18_at x0 x1 x2 x3 hf b h q
  have hex : ∀ k : Fin 8192, val_main_v20 (F := Ideal) x0 x1 x2 x3 (ix4 b h q k)
      = if k.val < q.val + 1 then ((Real.exp (score x0 x1 x2 x3 b h q k.val - R) : ℝ) : EReal) else 0 := fun k => by
    rw [val_main_v20_apply, val_main_v19_apply, hR, v13_at x0 x1 x2 x3 hf]
    show Ideal.exp ((if k.val ≤ q.val then _ else _) - _) = _
    by_cases hk : k.val ≤ q.val
    · rw [if_pos hk, if_pos (Nat.lt_succ_of_le hk), ← EReal.coe_sub, Ideal.exp_coe]
    · rw [if_neg hk, if_neg (fun h => hk (Nat.le_of_lt_succ h)), EReal.bot_sub, Ideal.exp_bot]
  have hsum : ∀ k : Fin 8192, val_main_v23 (F := Ideal) x0 x1 x2 x3 (ix4 b h q k)
      = ∑ k ∈ Finset.range 8192, if k < q.val + 1 then ((Real.exp (score x0 x1 x2 x3 b h q k - R) : ℝ) : EReal) else 0 := fun k => by
    rw [val_main_v23_apply, val_main_v22_apply, val_main_v21_apply, val_main_cst_3_apply, Finset.sum_range]
    show Ideal.ofBits .f32 0#32 + _ = _
    rw [show Ideal.ofBits .f32 0#32 = 0 by simp [Ideal.ofBits, Ideal.ieee], zero_add]
    exact Finset.sum_congr rfl fun k _ => (congrArg _ (funext fun a => by fin_cases a <;> rfl)).trans (hex k)
  rw [val_main_v25_apply, out, ← attn_ref 8192 (q.val + 1) (Nat.succ_pos _) q.isLt _ R, Finset.sum_range]
  refine Finset.sum_congr rfl fun k _ => ?_
  refine congrArg₂ (· * ·) ?_ ?_
  · rw [value, dif_pos k.isLt]
    exact congrArg x4 (funext fun a => by fin_cases a <;> rfl)
  · have e : ridx_main_v25 (ix4 b h d q) k = ix4 b h q k := funext fun a => by fin_cases a <;> rfl
    rw [e, val_main_v24_apply, hex, hsum]
    rfl

/-- The reference's result is the attention's array. -/
theorem result : val_main_v28 (F := Ideal) x0 x1 x2 x3 x4 = outAll x0 x1 x2 x3 x4 := by
  funext i
  rw [val_main_v28_apply]
  show val_main_v27 (F := Ideal) x0 x1 x2 x3 x4 i = _
  rw [val_main_v27_apply, val_main_v26_apply]
  have h0 : (i 0).val < 16384 := (i 0).isLt
  have h1 : (i 1).val < 1024 := (i 1).isLt
  have e : idx_main_v26 (idx_main_v27 i) = ix4 ⟨(i 0).val / 8192, by omega⟩ ⟨(i 1).val / 128, by omega⟩ ⟨(i 1).val % 128, by omega⟩ ⟨(i 0).val % 8192, by omega⟩ := funext fun a => Fin.ext (by
    match a with
    | ⟨0, _⟩ => show ((i 0).val * 1024 + (i 1).val) / 8388608 = (i 0).val / 8192; omega
    | ⟨1, _⟩ => show ((i 0).val * 1024 + (i 1).val) / 128 % 8 = (i 1).val / 128; omega
    | ⟨2, _⟩ => show ((i 0).val * 1024 + (i 1).val) % 128 = (i 1).val % 128; omega
    | ⟨3, _⟩ => show ((i 0).val * 1024 + (i 1).val) / 1024 % 8192 = (i 0).val % 8192; omega)
  rw [e, v25_at x0 x1 x2 x3 x4 hf]
  rfl

end

end Cert.ReferenceIdeal.Attn
end
-- ==== Proof.Value.Pre.lean ====
module

public import proofs.«01_k».proof.Proof.Value.Spec
public import proofs.«01_k».proof.Defs
public import Idealize.ShloMosaic.Lib.ReduceAll
public import Idealize.ShloMosaic.Lib.Affine

@[expose] public section

set_option maxRecDepth 16384
set_option maxHeartbeats 1000000

noncomputable section

namespace Cert.Pre

open Cert.Spec Idealize.ShloMosaic Cert.Pre_finite_scores
open scoped Idealize.ShloMosaic.TcCoe

theorem ofBits_inf : Ideal.ofBits .f32 0x7F800000#32 = ⊤ := by
  simp [Ideal.ofBits, Ideal.ieee]

/-- A value whose magnitude is below infinity is a real. -/
theorem real_of_abs (x : EReal) (h : Ideal.cmp .olt (max x (-x)) (Ideal.ofBits .f32 0x7F800000#32) = 1#1) : x = (x.toReal : EReal) := by
  rw [ofBits_inf] at h
  have hlt : max x (-x) < ⊤ := by
    by_contra hn
    have : Ideal.cmp .olt (max x (-x)) ⊤ = 0#1 := by
      simp [Ideal.cmp, hn]
    rw [this] at h
    exact absurd h (by decide)
  refine (EReal.coe_toReal (fun e => ?_) (fun e => ?_)).symm
  · rw [e] at hlt; simp at hlt
  · rw [e] at hlt; simp at hlt

instance : Subsingleton S_.Idx := ⟨fun a b => funext fun i => i.elim0⟩

/-- What the precondition says of the arrays: the queries and the keys are reals. -/
theorem fin4 [hP : Cert.Pre_finite_scores.Facts] (x0 : SQ.Idx → EReal) (x1 : SP.Idx → EReal) (x2 : SQ.Idx → EReal) (x3 : SK.Idx → EReal) (x4 : SQ.Idx → EReal)
    (h : Cert.Pre_finite_scores.fn (F := Ideal) x0 x1 x2 x3 x4 (fun a => a.elim0) = 1#1) : Fin4 x0 x1 x2 x3 := by
  dsimp only [Cert.Pre_finite_scores.fn, Cert.Pre_finite_scores.fn_part1] at h
  obtain ⟨h, h3⟩ := (IntOp.andi_eq_one).mp h
  obtain ⟨h, h2⟩ := (IntOp.andi_eq_one).mp h
  obtain ⟨h0, h1⟩ := (IntOp.andi_eq_one).mp h
  refine ⟨fun i => real_of_abs _ ?_, fun i => real_of_abs _ ?_, fun i => real_of_abs _ ?_, fun i => real_of_abs _ ?_⟩
  · exact Host.reduce_andi_all _ _ _ _ _ h0 i
  · exact Host.reduce_andi_all _ _ _ _ _ h1 i
  · exact Host.reduce_andi_all _ _ _ _ _ h2 i
  · exact Host.reduce_andi_all _ _ _ _ _ h3 i

end Cert.Pre
end
-- ==== Proof.Ffn.Spec.lean ====
module

public import Idealize.ShloMosaic.Lib.Pointwise
public import Idealize.ShloMosaic.PureOps.Ideal.Laws

@[expose] public section

noncomputable section

namespace Cert.Ffn

open Idealize.ShloMosaic

/-! One row through the last layer's feed-forward part, on the extended reals. -/

/-- A row over its root mean square, times a weight. -/
def rowNorm (x g : Fin 1024 → EReal) (j : Fin 1024) : EReal :=
  x j * Ideal.rsqrt (Ideal.div (∑ k, x k * x k) (Ideal.ofBits .f32 0x44800000#32) + Ideal.ofBits .f32 0x358637BD#32) * g j

/-- A row plus the attention's output projected. -/
def resid (x o : Fin 1024 → EReal) (w : Fin 1024 → Fin 1024 → EReal) (j : Fin 1024) : EReal :=
  x j + ∑ k, o k * w k j

/-- The gated hidden row. -/
def hid (h : Fin 1024 → EReal) (wg wu : Fin 1024 → Fin 2816 → EReal) (f : Fin 2816) : EReal :=
  (∑ k, h k * wg k f) * Ideal.logistic (∑ k, h k * wg k f) * ∑ k, h k * wu k f

/-- A row plus its feed-forward part. -/
def mix (x g : Fin 1024 → EReal) (wg wu : Fin 1024 → Fin 2816 → EReal) (wd : Fin 2816 → Fin 1024 → EReal) (j : Fin 1024) : EReal :=
  x j + ∑ f, hid (rowNorm x g) wg wu f * wd f j

/-- The row that the last layer ends with, normalised. -/
def out (x o : Fin 1024 → EReal) (wo : Fin 1024 → Fin 1024 → EReal) (g : Fin 1024 → EReal) (wg wu : Fin 1024 → Fin 2816 → EReal)
    (wd : Fin 2816 → Fin 1024 → EReal) (gf : Fin 1024 → EReal) (j : Fin 1024) : EReal :=
  rowNorm (mix (resid x o wo) g wg wu wd) gf j

/-- The rows of `B` sequences of `T` rows. -/
abbrev SX (B T : Nat) : Shape := ⟨3, ![B, T, 1024]⟩
/-- A weight of each layer. -/
abbrev SW (L a b : Nat) : Shape := ⟨3, ![L, a, b]⟩

/-- Every row of the result, for `B` sequences of `T` rows: row `i` is row `i % T` of sequence `i / T`. -/
def outAll {B T : Nat} (hT : 0 < T) (x0 x1 : (SX B T).Idx → EReal) (x2 : (⟨2, ![4, 1024]⟩ : Shape).Idx → EReal) (x3 : (⟨1, ![1024]⟩ : Shape).Idx → EReal)
    (x4 : (SW 2 1024 1024).Idx → EReal) (x5 x6 : (SW 4 1024 2816).Idx → EReal) (x7 : (SW 4 2816 1024).Idx → EReal) (r : Fin (T * B)) (j : Fin 1024) : EReal :=
  out (fun j => x0 (ix3 ⟨r.val / T, Nat.div_lt_of_lt_mul r.isLt⟩ ⟨r.val % T, Nat.mod_lt _ hT⟩ j)) (fun j => x1 (ix3 ⟨r.val / T, Nat.div_lt_of_lt_mul r.isLt⟩ ⟨r.val % T, Nat.mod_lt _ hT⟩ j))
    (fun k j => x4 (ix3 1 k j)) (fun j => x2 (ix2 3 j)) (fun k f => x5 (ix3 3 k f)) (fun k f => x6 (ix3 3 k f)) (fun f j => x7 (ix3 3 f j)) (fun j => x3 (ix1 j)) j

end Cert.Ffn
end
-- ==== Proof.Ffn.Pay.lean ====
module

public import proofs.«01_k».proof.Proof.Ffn.Spec
public import proofs.«01_k».proof.Proof.Gen.Kernel2Ideal.Value

@[expose] public section

set_option maxRecDepth 16384
set_option maxHeartbeats 1000000

noncomputable section

namespace Cert.Kernel2Ideal.Ffn

open Cert.Kernel2Ideal Cert.Kernel2Ideal.Gen Cert.Ffn
open Idealize.ShloMosaic Idealize.ShloMosaic.TcCoe

/-! What a tile's payloads compute, row by row. -/

theorem pay2_at (v0 : Vec Ideal S512x1024 .f32) (v2 : Vec Ideal S512x1024 .bf16) (v4 : Vec Ideal S1x1024x1024 .bf16) (r : Fin 512) (j : Fin 1024) :
    k0_pay2 v0 v2 v4 (ix2 r j) = resid (fun j => v0 (ix2 r j)) (fun k => v2 (ix2 r k)) (fun k j => v4 (ix3 0 k j)) j := by
  unfold resid
  pointwise [k0_pay2]

theorem pay3_at (v0 : Vec Ideal S512x1024 .f32) (v2 : Vec Ideal S512x1024 .bf16) (v4 : Vec Ideal S1x1024x1024 .bf16) (v8 : Vec Ideal S1x1x1024 .f32)
    (v23 v28 : Vec Ideal S1x1024x2816 .bf16) (r : Fin 512) (f : Fin 2816) :
    k0_pay3 v0 v2 v4 v8 v23 v28 (ix2 r f) = hid (rowNorm (fun j => k0_pay2 v0 v2 v4 (ix2 r j)) (fun j => v8 (ix3 0 0 j))) (fun k f => v23 (ix3 0 k f)) (fun k f => v28 (ix3 0 k f)) f := by
  unfold k0_pay3
  generalize k0_pay2 v0 v2 v4 = y
  unfold hid rowNorm
  pointwise []

theorem pay1_at (y : FVec Ideal S512x1024 .f32) (a : FVec Ideal S512x2816 .bf16) (v33 : Vec Ideal S1x2816x1024 .bf16) (v37 : Vec Ideal S1x1024 .f32) (r : Fin 512) (j : Fin 1024) :
    k0_pay1 y a v33 v37 (ix2 r j) = rowNorm (fun j => y (ix2 r j) + ∑ f : Fin 2816, a (ix2 r f) * v33 (ix3 0 f j)) (fun j => v37 (ix2 0 j)) j := by
  unfold rowNorm
  pointwise [k0_pay1]

/-- Row `r` of the tile that the body stores. -/
theorem tile_at (v0 : Vec Ideal S512x1024 .f32) (v2 : Vec Ideal S512x1024 .bf16) (v4 : Vec Ideal S1x1024x1024 .bf16) (v8 : Vec Ideal S1x1x1024 .f32)
    (v23 v28 : Vec Ideal S1x1024x2816 .bf16) (v33 : Vec Ideal S1x2816x1024 .bf16) (v37 : Vec Ideal S1x1024 .f32) (r : Fin 512) (j : Fin 1024) :
    k0_pay1 (k0_pay2 v0 v2 v4) (k0_pay3 v0 v2 v4 v8 v23 v28) v33 v37 (ix2 r j) =
      out (fun j => v0 (ix2 r j)) (fun k => v2 (ix2 r k)) (fun k j => v4 (ix3 0 k j)) (fun j => v8 (ix3 0 0 j)) (fun k f => v23 (ix3 0 k f))
        (fun k f => v28 (ix3 0 k f)) (fun f j => v33 (ix3 0 f j)) (fun j => v37 (ix2 0 j)) j := by
  rw [pay1_at]
  simp only [pay3_at, pay2_at]
  rfl

end Cert.Kernel2Ideal.Ffn
end
-- ==== Proof.Ffn.Value.lean ====
module

public import proofs.«01_k».proof.Proof.Ffn.Pay
public import Idealize.ShloMosaic.Lib.Pipeline.ValueKit
public import Idealize.ShloMosaic.Lib.StableHlo.RunRead

@[expose] public section

set_option maxRecDepth 16384
set_option maxHeartbeats 1000000

noncomputable section

namespace Cert.Kernel2Ideal.Ffn

open Cert.Kernel2Ideal Cert.Kernel2Ideal.Gen Cert.Ffn
open Idealize.ShloMosaic Idealize.ShloMosaic.TcCoe

variable (m : (ℓ : Loc nD τ sig) → Buf (Elt Ideal) ℓ) (c : Dev nD)

/-- Every window's block, from the output's. -/
theorem index_eq : ∀ t : Fin cfg0.N, win0_8.index t = ![t.val, 0] ∧ win0_0.index t = ![t.val, 0] ∧ win0_1.index t = ![t.val, 0]
    ∧ win0_2.index t = ![1, 0, 0] ∧ win0_3.index t = ![3, 0, 0] ∧ win0_4.index t = ![3, 0, 0] ∧ win0_5.index t = ![3, 0, 0]
    ∧ win0_6.index t = ![3, 0, 0] ∧ win0_7.index t = ![0, 0] := by decide +kernel

theorem V_v4 : V m c main_v4 = shapeCast S16384x1024 (m (c.tc.loc main_arg0)) shapeCasts_S2x8192x1024_S16384x1024 := by
  unfold_abbrev_sides
  after_reads_simp
  rfl
theorem V_v6 : V m c main_v6 = (truncf .bf16 (shapeCast S16384x1024 (m (c.tc.loc main_arg1)) shapeCasts_S2x8192x1024_S16384x1024 : FVec Ideal S16384x1024 .f32) bitsLt_bf16_f32 : FVec Ideal S16384x1024 .bf16) := by
  unfold_abbrev_sides
  after_reads_simp
  rfl
theorem V_v7 : V m c main_v7 = (truncf .bf16 (m (c.tc.loc main_arg4) : FVec Ideal S2x1024x1024 .f32) bitsLt_bf16_f32 : FVec Ideal S2x1024x1024 .bf16) := by
  unfold_abbrev_sides
  after_reads_simp
theorem V_v0 : V m c main_v0 = broadcastInDim S4x1x1024 ![0, 2] bcast_S4x1024_S4x1x1024_0_2 (m (c.tc.loc main_arg2)) := by
  unfold_abbrev_sides
  after_reads_simp
theorem V_v1 : V m c main_v1 = (truncf .bf16 (m (c.tc.loc main_arg5) : FVec Ideal S4x1024x2816 .f32) bitsLt_bf16_f32 : FVec Ideal S4x1024x2816 .bf16) := by
  unfold_abbrev_sides
  after_reads_simp
theorem V_v2 : V m c main_v2 = (truncf .bf16 (m (c.tc.loc main_arg6) : FVec Ideal S4x1024x2816 .f32) bitsLt_bf16_f32 : FVec Ideal S4x1024x2816 .bf16) := by
  unfold_abbrev_sides
  after_reads_simp
theorem V_v3 : V m c main_v3 = (truncf .bf16 (m (c.tc.loc main_arg7) : FVec Ideal S4x2816x1024 .f32) bitsLt_bf16_f32 : FVec Ideal S4x2816x1024 .bf16) := by
  unfold_abbrev_sides
  after_reads_simp
theorem V_v8 : V m c main_v8 = shapeCast S1x1024 (m (c.tc.loc main_arg3)) shapeCasts_S1024_S1x1024 := by
  unfold_abbrev_sides
  after_reads_simp
  rfl

/-- The array's row of a tile's row. -/
def rowOf (t : Fin cfg0.N) (r : Fin 512) : Fin (8192 * 2) := ⟨t.val * 512 + r.val, by
  have h : t.val < 32 := t.isLt
  have := r.isLt; omega⟩

/-- Row `R` of the flattened array is row `R % 8192` of sequence `R / 8192`. -/
theorem flat_at (x : S2x8192x1024.Idx → EReal) (R : Fin (8192 * 2)) (j : Fin 1024) :
    shapeCast S16384x1024 x shapeCasts_S2x8192x1024_S16384x1024 (ix2 R j) = x (ix3 ⟨R.val / 8192, Nat.div_lt_of_lt_mul R.isLt⟩ ⟨R.val % 8192, Nat.mod_lt _ (by decide)⟩ j) :=
  shapeCast_apply x shapeCasts_S2x8192x1024_S16384x1024 (ix2 R j) _ (by
    rewrite [Shape.rowMajor_val_three, Shape.rowMajor_val_two]
    have := R.isLt
    show (R.val / 8192 * 8192 + R.val % 8192) * 1024 + j.val = R.val * 1024 + j.val
    omega)

theorem iblk0_at (t : Fin cfg0.N) (r : Fin 512) (j : Fin 1024) : iblk m c 0 t (ix2 r j)
    = m (c.tc.loc main_arg0) (ix3 ⟨(rowOf t r).val / 8192, Nat.div_lt_of_lt_mul (rowOf t r).isLt⟩ ⟨(rowOf t r).val % 8192, Nat.mod_lt _ (by decide)⟩ j) := by
  obtain ⟨e8, e0, e1, e2, e3, e4, e5, e6, e7⟩ := index_eq t
  blk_simp [iblk]
  rw [V_v4]
  refine (congrArg _ (?_ : _ = ix2 (rowOf t r) j)).trans ?_
  · refine funext fun a => Fin.ext ?_
    match a with
    | ⟨0, _⟩ => show (((win0_0.blk t).view.emb (ix2 r j)) 0).val = t.val * 512 + r.val; blk_simp [e0] <;> simp
    | ⟨1, _⟩ => show (((win0_0.blk t).view.emb (ix2 r j)) 1).val = j.val; blk_simp [e0] <;> simp
  · exact flat_at _ (rowOf t r) j

theorem iblk1_at (t : Fin cfg0.N) (r : Fin 512) (j : Fin 1024) : iblk m c 1 t (ix2 r j)
    = m (c.tc.loc main_arg1) (ix3 ⟨(rowOf t r).val / 8192, Nat.div_lt_of_lt_mul (rowOf t r).isLt⟩ ⟨(rowOf t r).val % 8192, Nat.mod_lt _ (by decide)⟩ j) := by
  obtain ⟨e8, e0, e1, e2, e3, e4, e5, e6, e7⟩ := index_eq t
  blk_simp [iblk]
  rw [V_v6]
  refine (congrArg _ (?_ : _ = ix2 (rowOf t r) j)).trans ?_
  · refine funext fun a => Fin.ext ?_
    match a with
    | ⟨0, _⟩ => show (((win0_1.blk t).view.emb (ix2 r j)) 0).val = t.val * 512 + r.val; blk_simp [e1] <;> simp
    | ⟨1, _⟩ => show (((win0_1.blk t).view.emb (ix2 r j)) 1).val = j.val; blk_simp [e1] <;> simp
  · exact flat_at _ (rowOf t r) j

theorem iblk2_at (t : Fin cfg0.N) (k : Fin 1024) (j : Fin 1024) : iblk m c 2 t (ix3 0 k j) = m (c.tc.loc main_arg4) (ix3 1 k j) := by
  obtain ⟨e8, e0, e1, e2, e3, e4, e5, e6, e7⟩ := index_eq t
  blk_simp [iblk]
  rw [V_v7]
  refine congrArg (m (c.tc.loc main_arg4)) (funext fun a => Fin.ext ?_)
  match a with
  | ⟨0, _⟩ => show (((win0_2.blk t).view.emb (ix3 0 k j)) 0).val = 1; blk_simp [e2] <;> simp
  | ⟨1, _⟩ => show (((win0_2.blk t).view.emb (ix3 0 k j)) 1).val = k.val; blk_simp [e2] <;> simp
  | ⟨2, _⟩ => show (((win0_2.blk t).view.emb (ix3 0 k j)) 2).val = j.val; blk_simp [e2] <;> simp

theorem iblk3_at (t : Fin cfg0.N) (j : Fin 1024) : iblk m c 3 t (ix3 0 0 j) = m (c.tc.loc main_arg2) (ix2 3 j) := by
  obtain ⟨e8, e0, e1, e2, e3, e4, e5, e6, e7⟩ := index_eq t
  blk_simp [iblk]
  rw [V_v0]
  refine (congrArg _ (?_ : _ = ix3 3 0 j)).trans ?_
  · refine funext fun a => Fin.ext ?_
    match a with
    | ⟨0, _⟩ => show (((win0_3.blk t).view.emb (ix3 0 0 j)) 0).val = 3; blk_simp [e3] <;> simp
    | ⟨1, _⟩ => show (((win0_3.blk t).view.emb (ix3 0 0 j)) 1).val = 0; blk_simp [e3] <;> simp
    | ⟨2, _⟩ => show (((win0_3.blk t).view.emb (ix3 0 0 j)) 2).val = j.val; blk_simp [e3] <;> simp
  · pointwise []

theorem iblk4_at (t : Fin cfg0.N) (k : Fin 1024) (f : Fin 2816) : iblk m c 4 t (ix3 0 k f) = m (c.tc.loc main_arg5) (ix3 3 k f) := by
  obtain ⟨e8, e0, e1, e2, e3, e4, e5, e6, e7⟩ := index_eq t
  blk_simp [iblk]
  rw [V_v1]
  refine congrArg (m (c.tc.loc main_arg5)) (funext fun a => Fin.ext ?_)
  match a with
  | ⟨0, _⟩ => show (((win0_4.blk t).view.emb (ix3 0 k f)) 0).val = 3; blk_simp [e4] <;> simp
  | ⟨1, _⟩ => show (((win0_4.blk t).view.emb (ix3 0 k f)) 1).val = k.val; blk_simp [e4] <;> simp
  | ⟨2, _⟩ => show (((win0_4.blk t).view.emb (ix3 0 k f)) 2).val = f.val; blk_simp [e4] <;> simp

theorem iblk5_at (t : Fin cfg0.N) (k : Fin 1024) (f : Fin 2816) : iblk m c 5 t (ix3 0 k f) = m (c.tc.loc main_arg6) (ix3 3 k f) := by
  obtain ⟨e8, e0, e1, e2, e3, e4, e5, e6, e7⟩ := index_eq t
  blk_simp [iblk]
  rw [V_v2]
  refine congrArg (m (c.tc.loc main_arg6)) (funext fun a => Fin.ext ?_)
  match a with
  | ⟨0, _⟩ => show (((win0_5.blk t).view.emb (ix3 0 k f)) 0).val = 3; blk_simp [e5] <;> simp
  | ⟨1, _⟩ => show (((win0_5.blk t).view.emb (ix3 0 k f)) 1).val = k.val; blk_simp [e5] <;> simp
  | ⟨2, _⟩ => show (((win0_5.blk t).view.emb (ix3 0 k f)) 2).val = f.val; blk_simp [e5] <;> simp

theorem iblk6_at (t : Fin cfg0.N) (f : Fin 2816) (j : Fin 1024) : iblk m c 6 t (ix3 0 f j) = m (c.tc.loc main_arg7) (ix3 3 f j) := by
  obtain ⟨e8, e0, e1, e2, e3, e4, e5, e6, e7⟩ := index_eq t
  blk_simp [iblk]
  rw [V_v3]
  refine congrArg (m (c.tc.loc main_arg7)) (funext fun a => Fin.ext ?_)
  match a with
  | ⟨0, _⟩ => show (((win0_6.blk t).view.emb (ix3 0 f j)) 0).val = 3; blk_simp [e6] <;> simp
  | ⟨1, _⟩ => show (((win0_6.blk t).view.emb (ix3 0 f j)) 1).val = f.val; blk_simp [e6] <;> simp
  | ⟨2, _⟩ => show (((win0_6.blk t).view.emb (ix3 0 f j)) 2).val = j.val; blk_simp [e6] <;> simp

theorem iblk7_at (t : Fin cfg0.N) (j : Fin 1024) : iblk m c 7 t (ix2 0 j) = m (c.tc.loc main_arg3) (ix1 j) := by
  obtain ⟨e8, e0, e1, e2, e3, e4, e5, e6, e7⟩ := index_eq t
  blk_simp [iblk]
  rw [V_v8]
  refine (congrArg _ (?_ : _ = ix2 0 j)).trans ?_
  · refine funext fun a => Fin.ext ?_
    match a with
    | ⟨0, _⟩ => show (((win0_7.blk t).view.emb (ix2 0 j)) 0).val = 0; blk_simp [e7] <;> simp
    | ⟨1, _⟩ => show (((win0_7.blk t).view.emb (ix2 0 j)) 1).val = j.val; blk_simp [e7] <;> simp
  · pointwise []

/-- The tile that a grid point writes. -/
theorem out_at (t : Fin cfg0.N) (y : S512x1024.Idx) :
    out0_8 (iblk m c 0 t) (iblk m c 1 t) (iblk m c 2 t) (iblk m c 3 t) (iblk m c 4 t) (iblk m c 5 t) (iblk m c 6 t) (iblk m c 7 t) y =
      outAll (by decide) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7))
        (rowOf t ⟨(y 0).val, (y 0).isLt⟩) ⟨(y 1).val, (y 1).isLt⟩ := by
  frame_out
  have e : y = ix2 (⟨(y 0).val, (y 0).isLt⟩ : Fin 512) (⟨(y 1).val, (y 1).isLt⟩ : Fin 1024) := funext fun a => by
    match a with
    | ⟨0, _⟩ => rfl
    | ⟨1, _⟩ => rfl
  generalize (⟨(y 0).val, (y 0).isLt⟩ : Fin 512) = r at e ⊢
  generalize (⟨(y 1).val, (y 1).isLt⟩ : Fin 1024) = j at e ⊢
  subst e
  refine (tile_at _ _ _ _ _ _ _ _ r j).trans ?_
  unfold outAll
  simp only [iblk0_at, iblk1_at, iblk2_at, iblk3_at, iblk4_at, iblk5_at, iblk6_at, iblk7_at]

/-- The output's array after the run. -/
theorem result : (dats m 0 c).arrAt 8 cfg0.N = fun i : S16384x1024.Idx =>
      outAll (by decide) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7))
        ⟨(i 0).val, (i 0).isLt⟩ ⟨(i 1).val, (i 1).isLt⟩ := by
  refine (dats m 0 c).arrAt_eq_of_covers 8 _ (by decide +kernel) fun t _ y => ?_
  obtain ⟨e8, -⟩ := index_eq t
  blk_simp
  rw [after0_8]
  refine (out_at m c t y).trans ?_
  refine congrArg₂ _ (Fin.ext ?_) (Fin.ext ?_)
  · show t.val * 512 + (y 0).val = win0_8.index t 0 * 512 + (y 0).val
    rw [e8]; rfl
  · show (y 1).val = win0_8.index t 1 * 1024 + (y 1).val
    rw [e8]; simp

end Cert.Kernel2Ideal.Ffn
end
-- ==== Proof.Ffn.Ref.lean ====
module

public import proofs.«01_k».proof.Proof.Ffn.Spec
public import proofs.«01_k».proof.Proof.Gen.Reference2Ideal.Read

@[expose] public section

set_option maxRecDepth 16384
set_option maxHeartbeats 1000000

noncomputable section

namespace Cert.Reference2Ideal.Ffn

open Cert.Reference2Ideal Cert.Reference2Ideal.Read Cert.Ffn
open Idealize.ShloMosaic

variable (x0 x1 : (SX 2 8192).Idx → EReal) (x2 : S4x1024.Idx → EReal) (x3 : S1024.Idx → EReal) (x4 : S2x1024x1024.Idx → EReal)
  (x5 x6 : S4x1024x2816.Idx → EReal) (x7 : S4x2816x1024.Idx → EReal) (b : Fin 2) (q : Fin 8192)

theorem v3_at (j : Fin 1024) : val_main_v3 (F := Ideal) x0 x1 x4 (ix3 b q j)
    = resid (fun j => x0 (ix3 b q j)) (fun k => x1 (ix3 b q k)) (fun k j => x4 (ix3 1 k j)) j := by
  unfold resid
  pointwise [val_main_v3, val_main_v2, val_main_v1, val_main_v0]

theorem v18_at (j : Fin 1024) : val_main_v18 (F := Ideal) x0 x1 x2 x4 (ix3 b q j)
    = rowNorm (fun j => val_main_v3 (F := Ideal) x0 x1 x4 (ix3 b q j)) (fun j => x2 (ix2 3 j)) j := by
  unfold val_main_v18 val_main_v15 val_main_v14 val_main_v13 val_main_v12 val_main_v10 val_main_v8 val_main_v7 val_main_v6
  generalize val_main_v3 (F := Ideal) x0 x1 x4 = y
  unfold rowNorm
  pointwise [val_main_v17, val_main_v16, val_main_v5, val_main_v4, val_main_v9, val_main_v11, val_main_cst, val_main_cst_0, val_main_cst_1]

theorem v28_at (f : Fin 2816) : val_main_v28 (F := Ideal) x0 x1 x2 x4 x5 x6 (ix3 b q f)
    = hid (fun j => val_main_v18 (F := Ideal) x0 x1 x2 x4 (ix3 b q j)) (fun k f => x5 (ix3 3 k f)) (fun k f => x6 (ix3 3 k f)) f := by
  unfold val_main_v28 val_main_v26 val_main_v27 val_main_call0_v5 val_main_call0_v3 val_main_call0_v1 val_main_call0_v0 val_main_v25
  generalize val_main_v18 (F := Ideal) x0 x1 x2 x4 = y
  unfold hid Ideal.logistic
  pointwise [val_main_v20, val_main_v19, val_main_v22, val_main_v21, val_main_call0_v4, val_main_call0_v2, val_main_call0_cst, val_main_call0_cst_0]

theorem v30_at (j : Fin 1024) : val_main_v30 (F := Ideal) x0 x1 x2 x4 x5 x6 x7 (ix3 b q j)
    = val_main_v3 (F := Ideal) x0 x1 x4 (ix3 b q j) + ∑ f : Fin 2816, val_main_v28 (F := Ideal) x0 x1 x2 x4 x5 x6 (ix3 b q f) * x7 (ix3 3 f j) := by
  unfold val_main_v30 val_main_v29
  generalize val_main_v3 (F := Ideal) x0 x1 x4 = y
  generalize val_main_v28 (F := Ideal) x0 x1 x2 x4 x5 x6 = z
  pointwise [val_main_v24, val_main_v23]

theorem v43_at (j : Fin 1024) : val_main_v43 (F := Ideal) x0 x1 x2 x3 x4 x5 x6 x7 (ix3 b q j)
    = rowNorm (fun j => val_main_v30 (F := Ideal) x0 x1 x2 x4 x5 x6 x7 (ix3 b q j)) (fun j => x3 (ix1 j)) j := by
  unfold val_main_v43 val_main_v40 val_main_v39 val_main_v38 val_main_v37 val_main_v35 val_main_v33 val_main_v32 val_main_v31
  generalize val_main_v30 (F := Ideal) x0 x1 x2 x4 x5 x6 x7 = y
  unfold rowNorm
  pointwise [val_main_v42, val_main_v41, val_main_v34, val_main_v36, val_main_cst_2, val_main_cst_3, val_main_cst_4]

/-- The reference's result: every row through the last layer's feed-forward part. -/
theorem result : val_main_v44 (F := Ideal) x0 x1 x2 x3 x4 x5 x6 x7 = fun i => outAll (by decide) x0 x1 x2 x3 x4 x5 x6 x7 ⟨(i 0).val, (i 0).isLt⟩ ⟨(i 1).val, (i 1).isLt⟩ := by
  funext i
  have h0 : (i 0).val < 16384 := (i 0).isLt
  have h1 : (i 1).val < 1024 := (i 1).isLt
  rw [val_main_v44_apply]
  have e : idx_main_v44 i = ix3 ⟨(i 0).val / 8192, by omega⟩ ⟨(i 0).val % 8192, by omega⟩ ⟨(i 1).val, h1⟩ := funext fun a => Fin.ext (by
    match a with
    | ⟨0, _⟩ => show ((i 0).val * 1024 + (i 1).val) / 8388608 = (i 0).val / 8192; omega
    | ⟨1, _⟩ => show ((i 0).val * 1024 + (i 1).val) / 1024 % 8192 = (i 0).val % 8192; omega
    | ⟨2, _⟩ => show ((i 0).val * 1024 + (i 1).val) % 1024 = (i 1).val; omega)
  rw [e, v43_at]
  simp only [v30_at, v28_at, v18_at, v3_at]
  rfl

end Cert.Reference2Ideal.Ffn
end
-- ==== Proof.FfnS.Pay.lean ====
module

public import proofs.«01_k».proof.Proof.Ffn.Spec
public import proofs.«01_k».proof.Proof.Gen.Kernel6Ideal.Value

@[expose] public section

set_option maxRecDepth 16384
set_option maxHeartbeats 1000000

noncomputable section

namespace Cert.Kernel6Ideal.FfnS

open Cert.Kernel6Ideal Cert.Kernel6Ideal.Gen Cert.Ffn
open Idealize.ShloMosaic Idealize.ShloMosaic.TcCoe

/-! What a tile's payloads compute, row by row. -/

theorem pay2_at (v0 : Vec Ideal S128x1024 .f32) (v2 : Vec Ideal S128x1024 .bf16) (v4 : Vec Ideal S1x1024x1024 .bf16) (r : Fin 128) (j : Fin 1024) :
    k0_pay2 v0 v2 v4 (ix2 r j) = resid (fun j => v0 (ix2 r j)) (fun k => v2 (ix2 r k)) (fun k j => v4 (ix3 0 k j)) j := by
  unfold resid
  pointwise [k0_pay2]

theorem pay3_at (v0 : Vec Ideal S128x1024 .f32) (v2 : Vec Ideal S128x1024 .bf16) (v4 : Vec Ideal S1x1024x1024 .bf16) (v8 : Vec Ideal S1x1x1024 .f32)
    (v23 v28 : Vec Ideal S1x1024x2816 .bf16) (r : Fin 128) (f : Fin 2816) :
    k0_pay3 v0 v2 v4 v8 v23 v28 (ix2 r f) = hid (rowNorm (fun j => k0_pay2 v0 v2 v4 (ix2 r j)) (fun j => v8 (ix3 0 0 j))) (fun k f => v23 (ix3 0 k f)) (fun k f => v28 (ix3 0 k f)) f := by
  unfold k0_pay3
  generalize k0_pay2 v0 v2 v4 = y
  unfold hid rowNorm
  pointwise []

theorem pay1_at (y : FVec Ideal S128x1024 .f32) (a : FVec Ideal S128x2816 .bf16) (v33 : Vec Ideal S1x2816x1024 .bf16) (v37 : Vec Ideal S1x1024 .f32) (r : Fin 128) (j : Fin 1024) :
    k0_pay1 y a v33 v37 (ix2 r j) = rowNorm (fun j => y (ix2 r j) + ∑ f : Fin 2816, a (ix2 r f) * v33 (ix3 0 f j)) (fun j => v37 (ix2 0 j)) j := by
  unfold rowNorm
  pointwise [k0_pay1]

/-- Row `r` of the tile that the body stores. -/
theorem tile_at (v0 : Vec Ideal S128x1024 .f32) (v2 : Vec Ideal S128x1024 .bf16) (v4 : Vec Ideal S1x1024x1024 .bf16) (v8 : Vec Ideal S1x1x1024 .f32)
    (v23 v28 : Vec Ideal S1x1024x2816 .bf16) (v33 : Vec Ideal S1x2816x1024 .bf16) (v37 : Vec Ideal S1x1024 .f32) (r : Fin 128) (j : Fin 1024) :
    k0_pay1 (k0_pay2 v0 v2 v4) (k0_pay3 v0 v2 v4 v8 v23 v28) v33 v37 (ix2 r j) =
      out (fun j => v0 (ix2 r j)) (fun k => v2 (ix2 r k)) (fun k j => v4 (ix3 0 k j)) (fun j => v8 (ix3 0 0 j)) (fun k f => v23 (ix3 0 k f))
        (fun k f => v28 (ix3 0 k f)) (fun f j => v33 (ix3 0 f j)) (fun j => v37 (ix2 0 j)) j := by
  rw [pay1_at]
  simp only [pay3_at, pay2_at]
  rfl

end Cert.Kernel6Ideal.FfnS
end
-- ==== Proof.FfnS.Value.lean ====
module

public import proofs.«01_k».proof.Proof.FfnS.Pay
public import Idealize.ShloMosaic.Lib.Pipeline.ValueKit
public import Idealize.ShloMosaic.Lib.StableHlo.RunRead

@[expose] public section

set_option maxRecDepth 16384
set_option maxHeartbeats 1000000

noncomputable section

namespace Cert.Kernel6Ideal.FfnS

open Cert.Kernel6Ideal Cert.Kernel6Ideal.Gen Cert.Ffn
open Idealize.ShloMosaic Idealize.ShloMosaic.TcCoe

variable (m : (ℓ : Loc nD τ sig) → Buf (Elt Ideal) ℓ) (c : Dev nD)

/-- Every window's block, from the output's. -/
theorem index_eq : ∀ t : Fin cfg0.N, win0_8.index t = ![t.val, 0] ∧ win0_0.index t = ![t.val, 0] ∧ win0_1.index t = ![t.val, 0]
    ∧ win0_2.index t = ![1, 0, 0] ∧ win0_3.index t = ![3, 0, 0] ∧ win0_4.index t = ![3, 0, 0] ∧ win0_5.index t = ![3, 0, 0]
    ∧ win0_6.index t = ![3, 0, 0] ∧ win0_7.index t = ![0, 0] := by decide +kernel

theorem V_v4 : V m c main_v4 = shapeCast S128x1024 (m (c.tc.loc main_arg0)) shapeCasts_S128x1x1024_S128x1024 := by
  unfold_abbrev_sides
  after_reads_simp
  rfl
theorem V_v6 : V m c main_v6 = (truncf .bf16 (shapeCast S128x1024 (m (c.tc.loc main_arg1)) shapeCasts_S128x1x1024_S128x1024 : FVec Ideal S128x1024 .f32) bitsLt_bf16_f32 : FVec Ideal S128x1024 .bf16) := by
  unfold_abbrev_sides
  after_reads_simp
  rfl
theorem V_v7 : V m c main_v7 = (truncf .bf16 (m (c.tc.loc main_arg4) : FVec Ideal S2x1024x1024 .f32) bitsLt_bf16_f32 : FVec Ideal S2x1024x1024 .bf16) := by
  unfold_abbrev_sides
  after_reads_simp
theorem V_v0 : V m c main_v0 = broadcastInDim S4x1x1024 ![0, 2] bcast_S4x1024_S4x1x1024_0_2 (m (c.tc.loc main_arg2)) := by
  unfold_abbrev_sides
  after_reads_simp
theorem V_v1 : V m c main_v1 = (truncf .bf16 (m (c.tc.loc main_arg5) : FVec Ideal S4x1024x2816 .f32) bitsLt_bf16_f32 : FVec Ideal S4x1024x2816 .bf16) := by
  unfold_abbrev_sides
  after_reads_simp
theorem V_v2 : V m c main_v2 = (truncf .bf16 (m (c.tc.loc main_arg6) : FVec Ideal S4x1024x2816 .f32) bitsLt_bf16_f32 : FVec Ideal S4x1024x2816 .bf16) := by
  unfold_abbrev_sides
  after_reads_simp
theorem V_v3 : V m c main_v3 = (truncf .bf16 (m (c.tc.loc main_arg7) : FVec Ideal S4x2816x1024 .f32) bitsLt_bf16_f32 : FVec Ideal S4x2816x1024 .bf16) := by
  unfold_abbrev_sides
  after_reads_simp
theorem V_v8 : V m c main_v8 = shapeCast S1x1024 (m (c.tc.loc main_arg3)) shapeCasts_S1024_S1x1024 := by
  unfold_abbrev_sides
  after_reads_simp
  rfl

/-- The array's row of a tile's row. -/
def rowOf (t : Fin cfg0.N) (r : Fin 128) : Fin (1 * 128) := ⟨t.val * 128 + r.val, by
  have h : t.val < 1 := t.isLt
  have := r.isLt; omega⟩

/-- Row `R` of the flattened array is the row of sequence `R`. -/
theorem flat_at (x : S128x1x1024.Idx → EReal) (R : Fin (1 * 128)) (j : Fin 1024) :
    shapeCast S128x1024 x shapeCasts_S128x1x1024_S128x1024 (ix2 R j) = x (ix3 ⟨R.val / 1, Nat.div_lt_of_lt_mul R.isLt⟩ ⟨R.val % 1, Nat.mod_lt _ (by decide)⟩ j) :=
  shapeCast_apply x shapeCasts_S128x1x1024_S128x1024 (ix2 R j) _ (by
    rewrite [Shape.rowMajor_val_three, Shape.rowMajor_val_two]
    have := R.isLt
    show (R.val / 1 * 1 + R.val % 1) * 1024 + j.val = R.val * 1024 + j.val
    omega)

theorem iblk0_at (t : Fin cfg0.N) (r : Fin 128) (j : Fin 1024) : iblk m c 0 t (ix2 r j)
    = m (c.tc.loc main_arg0) (ix3 ⟨(rowOf t r).val / 1, Nat.div_lt_of_lt_mul (rowOf t r).isLt⟩ ⟨(rowOf t r).val % 1, Nat.mod_lt _ (by decide)⟩ j) := by
  obtain ⟨e8, e0, e1, e2, e3, e4, e5, e6, e7⟩ := index_eq t
  blk_simp [iblk]
  rw [V_v4]
  refine (congrArg _ (?_ : _ = ix2 (rowOf t r) j)).trans ?_
  · refine funext fun a => Fin.ext ?_
    match a with
    | ⟨0, _⟩ => show (((win0_0.blk t).view.emb (ix2 r j)) 0).val = t.val * 128 + r.val; blk_simp [e0] <;> simp
    | ⟨1, _⟩ => show (((win0_0.blk t).view.emb (ix2 r j)) 1).val = j.val; blk_simp [e0] <;> simp
  · exact flat_at _ (rowOf t r) j

theorem iblk1_at (t : Fin cfg0.N) (r : Fin 128) (j : Fin 1024) : iblk m c 1 t (ix2 r j)
    = m (c.tc.loc main_arg1) (ix3 ⟨(rowOf t r).val / 1, Nat.div_lt_of_lt_mul (rowOf t r).isLt⟩ ⟨(rowOf t r).val % 1, Nat.mod_lt _ (by decide)⟩ j) := by
  obtain ⟨e8, e0, e1, e2, e3, e4, e5, e6, e7⟩ := index_eq t
  blk_simp [iblk]
  rw [V_v6]
  refine (congrArg _ (?_ : _ = ix2 (rowOf t r) j)).trans ?_
  · refine funext fun a => Fin.ext ?_
    match a with
    | ⟨0, _⟩ => show (((win0_1.blk t).view.emb (ix2 r j)) 0).val = t.val * 128 + r.val; blk_simp [e1] <;> simp
    | ⟨1, _⟩ => show (((win0_1.blk t).view.emb (ix2 r j)) 1).val = j.val; blk_simp [e1] <;> simp
  · exact flat_at _ (rowOf t r) j

theorem iblk2_at (t : Fin cfg0.N) (k : Fin 1024) (j : Fin 1024) : iblk m c 2 t (ix3 0 k j) = m (c.tc.loc main_arg4) (ix3 1 k j) := by
  obtain ⟨e8, e0, e1, e2, e3, e4, e5, e6, e7⟩ := index_eq t
  blk_simp [iblk]
  rw [V_v7]
  refine congrArg (m (c.tc.loc main_arg4)) (funext fun a => Fin.ext ?_)
  match a with
  | ⟨0, _⟩ => show (((win0_2.blk t).view.emb (ix3 0 k j)) 0).val = 1; blk_simp [e2] <;> simp
  | ⟨1, _⟩ => show (((win0_2.blk t).view.emb (ix3 0 k j)) 1).val = k.val; blk_simp [e2] <;> simp
  | ⟨2, _⟩ => show (((win0_2.blk t).view.emb (ix3 0 k j)) 2).val = j.val; blk_simp [e2] <;> simp

theorem iblk3_at (t : Fin cfg0.N) (j : Fin 1024) : iblk m c 3 t (ix3 0 0 j) = m (c.tc.loc main_arg2) (ix2 3 j) := by
  obtain ⟨e8, e0, e1, e2, e3, e4, e5, e6, e7⟩ := index_eq t
  blk_simp [iblk]
  rw [V_v0]
  refine (congrArg _ (?_ : _ = ix3 3 0 j)).trans ?_
  · refine funext fun a => Fin.ext ?_
    match a with
    | ⟨0, _⟩ => show (((win0_3.blk t).view.emb (ix3 0 0 j)) 0).val = 3; blk_simp [e3] <;> simp
    | ⟨1, _⟩ => show (((win0_3.blk t).view.emb (ix3 0 0 j)) 1).val = 0; blk_simp [e3] <;> simp
    | ⟨2, _⟩ => show (((win0_3.blk t).view.emb (ix3 0 0 j)) 2).val = j.val; blk_simp [e3] <;> simp
  · pointwise []

theorem iblk4_at (t : Fin cfg0.N) (k : Fin 1024) (f : Fin 2816) : iblk m c 4 t (ix3 0 k f) = m (c.tc.loc main_arg5) (ix3 3 k f) := by
  obtain ⟨e8, e0, e1, e2, e3, e4, e5, e6, e7⟩ := index_eq t
  blk_simp [iblk]
  rw [V_v1]
  refine congrArg (m (c.tc.loc main_arg5)) (funext fun a => Fin.ext ?_)
  match a with
  | ⟨0, _⟩ => show (((win0_4.blk t).view.emb (ix3 0 k f)) 0).val = 3; blk_simp [e4] <;> simp
  | ⟨1, _⟩ => show (((win0_4.blk t).view.emb (ix3 0 k f)) 1).val = k.val; blk_simp [e4] <;> simp
  | ⟨2, _⟩ => show (((win0_4.blk t).view.emb (ix3 0 k f)) 2).val = f.val; blk_simp [e4] <;> simp

theorem iblk5_at (t : Fin cfg0.N) (k : Fin 1024) (f : Fin 2816) : iblk m c 5 t (ix3 0 k f) = m (c.tc.loc main_arg6) (ix3 3 k f) := by
  obtain ⟨e8, e0, e1, e2, e3, e4, e5, e6, e7⟩ := index_eq t
  blk_simp [iblk]
  rw [V_v2]
  refine congrArg (m (c.tc.loc main_arg6)) (funext fun a => Fin.ext ?_)
  match a with
  | ⟨0, _⟩ => show (((win0_5.blk t).view.emb (ix3 0 k f)) 0).val = 3; blk_simp [e5] <;> simp
  | ⟨1, _⟩ => show (((win0_5.blk t).view.emb (ix3 0 k f)) 1).val = k.val; blk_simp [e5] <;> simp
  | ⟨2, _⟩ => show (((win0_5.blk t).view.emb (ix3 0 k f)) 2).val = f.val; blk_simp [e5] <;> simp

theorem iblk6_at (t : Fin cfg0.N) (f : Fin 2816) (j : Fin 1024) : iblk m c 6 t (ix3 0 f j) = m (c.tc.loc main_arg7) (ix3 3 f j) := by
  obtain ⟨e8, e0, e1, e2, e3, e4, e5, e6, e7⟩ := index_eq t
  blk_simp [iblk]
  rw [V_v3]
  refine congrArg (m (c.tc.loc main_arg7)) (funext fun a => Fin.ext ?_)
  match a with
  | ⟨0, _⟩ => show (((win0_6.blk t).view.emb (ix3 0 f j)) 0).val = 3; blk_simp [e6] <;> simp
  | ⟨1, _⟩ => show (((win0_6.blk t).view.emb (ix3 0 f j)) 1).val = f.val; blk_simp [e6] <;> simp
  | ⟨2, _⟩ => show (((win0_6.blk t).view.emb (ix3 0 f j)) 2).val = j.val; blk_simp [e6] <;> simp

theorem iblk7_at (t : Fin cfg0.N) (j : Fin 1024) : iblk m c 7 t (ix2 0 j) = m (c.tc.loc main_arg3) (ix1 j) := by
  obtain ⟨e8, e0, e1, e2, e3, e4, e5, e6, e7⟩ := index_eq t
  blk_simp [iblk]
  rw [V_v8]
  refine (congrArg _ (?_ : _ = ix2 0 j)).trans ?_
  · refine funext fun a => Fin.ext ?_
    match a with
    | ⟨0, _⟩ => show (((win0_7.blk t).view.emb (ix2 0 j)) 0).val = 0; blk_simp [e7] <;> simp
    | ⟨1, _⟩ => show (((win0_7.blk t).view.emb (ix2 0 j)) 1).val = j.val; blk_simp [e7] <;> simp
  · pointwise []

/-- The tile that a grid point writes. -/
theorem out_at (t : Fin cfg0.N) (y : S128x1024.Idx) :
    out0_8 (iblk m c 0 t) (iblk m c 1 t) (iblk m c 2 t) (iblk m c 3 t) (iblk m c 4 t) (iblk m c 5 t) (iblk m c 6 t) (iblk m c 7 t) y =
      outAll (by decide) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7))
        (rowOf t ⟨(y 0).val, (y 0).isLt⟩) ⟨(y 1).val, (y 1).isLt⟩ := by
  frame_out
  have e : y = ix2 (⟨(y 0).val, (y 0).isLt⟩ : Fin 128) (⟨(y 1).val, (y 1).isLt⟩ : Fin 1024) := funext fun a => by
    match a with
    | ⟨0, _⟩ => rfl
    | ⟨1, _⟩ => rfl
  generalize (⟨(y 0).val, (y 0).isLt⟩ : Fin 128) = r at e ⊢
  generalize (⟨(y 1).val, (y 1).isLt⟩ : Fin 1024) = j at e ⊢
  subst e
  refine (tile_at _ _ _ _ _ _ _ _ r j).trans ?_
  unfold outAll
  simp only [iblk0_at, iblk1_at, iblk2_at, iblk3_at, iblk4_at, iblk5_at, iblk6_at, iblk7_at]

/-- The output's array after the run. -/
theorem result : (dats m 0 c).arrAt 8 cfg0.N = fun i : S128x1024.Idx =>
      outAll (by decide) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7))
        ⟨(i 0).val, (i 0).isLt⟩ ⟨(i 1).val, (i 1).isLt⟩ := by
  refine (dats m 0 c).arrAt_eq_of_covers 8 _ (by decide +kernel) fun t _ y => ?_
  obtain ⟨e8, -⟩ := index_eq t
  blk_simp
  rw [after0_8]
  refine (out_at m c t y).trans ?_
  refine congrArg₂ _ (Fin.ext ?_) (Fin.ext ?_)
  · show t.val * 128 + (y 0).val = win0_8.index t 0 * 128 + (y 0).val
    rw [e8]; rfl
  · show (y 1).val = win0_8.index t 1 * 1024 + (y 1).val
    rw [e8]; simp

end Cert.Kernel6Ideal.FfnS
end
-- ==== Proof.FfnS.Ref.lean ====
module

public import proofs.«01_k».proof.Proof.Ffn.Spec
public import proofs.«01_k».proof.Proof.Gen.Reference6Ideal.Read

@[expose] public section

set_option maxRecDepth 16384
set_option maxHeartbeats 1000000

noncomputable section

namespace Cert.Reference6Ideal.FfnS

open Cert.Reference6Ideal Cert.Reference6Ideal.Read Cert.Ffn
open Idealize.ShloMosaic

variable (x0 x1 : (SX 128 1).Idx → EReal) (x2 : S4x1024.Idx → EReal) (x3 : S1024.Idx → EReal) (x4 : S2x1024x1024.Idx → EReal)
  (x5 x6 : S4x1024x2816.Idx → EReal) (x7 : S4x2816x1024.Idx → EReal) (b : Fin 128) (q : Fin 1)

theorem v3_at (j : Fin 1024) : val_main_v3 (F := Ideal) x0 x1 x4 (ix3 b q j)
    = resid (fun j => x0 (ix3 b q j)) (fun k => x1 (ix3 b q k)) (fun k j => x4 (ix3 1 k j)) j := by
  unfold resid
  pointwise [val_main_v3, val_main_v2, val_main_v1, val_main_v0]

theorem v18_at (j : Fin 1024) : val_main_v18 (F := Ideal) x0 x1 x2 x4 (ix3 b q j)
    = rowNorm (fun j => val_main_v3 (F := Ideal) x0 x1 x4 (ix3 b q j)) (fun j => x2 (ix2 3 j)) j := by
  obtain rfl : q = 0 := Subsingleton.elim _ _
  unfold val_main_v18 val_main_v15 val_main_v14 val_main_v13 val_main_v12 val_main_v10 val_main_v8 val_main_v7 val_main_v6
  generalize val_main_v3 (F := Ideal) x0 x1 x4 = y
  unfold rowNorm
  pointwise [val_main_v17, val_main_v16, val_main_v5, val_main_v4, val_main_v9, val_main_v11, val_main_cst, val_main_cst_0, val_main_cst_1]

theorem v28_at (f : Fin 2816) : val_main_v28 (F := Ideal) x0 x1 x2 x4 x5 x6 (ix3 b q f)
    = hid (fun j => val_main_v18 (F := Ideal) x0 x1 x2 x4 (ix3 b q j)) (fun k f => x5 (ix3 3 k f)) (fun k f => x6 (ix3 3 k f)) f := by
  unfold val_main_v28 val_main_v26 val_main_v27 val_main_call0_v5 val_main_call0_v3 val_main_call0_v1 val_main_call0_v0 val_main_v25
  generalize val_main_v18 (F := Ideal) x0 x1 x2 x4 = y
  unfold hid Ideal.logistic
  pointwise [val_main_v20, val_main_v19, val_main_v22, val_main_v21, val_main_call0_v4, val_main_call0_v2, val_main_call0_cst, val_main_call0_cst_0]

theorem v30_at (j : Fin 1024) : val_main_v30 (F := Ideal) x0 x1 x2 x4 x5 x6 x7 (ix3 b q j)
    = val_main_v3 (F := Ideal) x0 x1 x4 (ix3 b q j) + ∑ f : Fin 2816, val_main_v28 (F := Ideal) x0 x1 x2 x4 x5 x6 (ix3 b q f) * x7 (ix3 3 f j) := by
  unfold val_main_v30 val_main_v29
  generalize val_main_v3 (F := Ideal) x0 x1 x4 = y
  generalize val_main_v28 (F := Ideal) x0 x1 x2 x4 x5 x6 = z
  pointwise [val_main_v24, val_main_v23]

theorem v43_at (j : Fin 1024) : val_main_v43 (F := Ideal) x0 x1 x2 x3 x4 x5 x6 x7 (ix3 b q j)
    = rowNorm (fun j => val_main_v30 (F := Ideal) x0 x1 x2 x4 x5 x6 x7 (ix3 b q j)) (fun j => x3 (ix1 j)) j := by
  obtain rfl : q = 0 := Subsingleton.elim _ _
  unfold val_main_v43 val_main_v40 val_main_v39 val_main_v38 val_main_v37 val_main_v35 val_main_v33 val_main_v32 val_main_v31
  generalize val_main_v30 (F := Ideal) x0 x1 x2 x4 x5 x6 x7 = y
  unfold rowNorm
  pointwise [val_main_v42, val_main_v41, val_main_v34, val_main_v36, val_main_cst_2, val_main_cst_3, val_main_cst_4]

/-- The reference's result: every row through the last layer's feed-forward part. -/
theorem result : val_main_v44 (F := Ideal) x0 x1 x2 x3 x4 x5 x6 x7 = fun i => outAll (by decide) x0 x1 x2 x3 x4 x5 x6 x7 ⟨(i 0).val, (i 0).isLt⟩ ⟨(i 1).val, (i 1).isLt⟩ := by
  funext i
  have h0 : (i 0).val < 128 := (i 0).isLt
  have h1 : (i 1).val < 1024 := (i 1).isLt
  rw [val_main_v44_apply]
  have e : idx_main_v44 i = ix3 ⟨(i 0).val / 1, by omega⟩ ⟨(i 0).val % 1, by omega⟩ ⟨(i 1).val, h1⟩ := funext fun a => Fin.ext (by
    match a with
    | ⟨0, _⟩ => show ((i 0).val * 1024 + (i 1).val) / 1024 = (i 0).val / 1; omega
    | ⟨1, _⟩ => show 0 = (i 0).val % 1; omega
    | ⟨2, _⟩ => show ((i 0).val * 1024 + (i 1).val) % 1024 = (i 1).val; omega)
  rw [e, v43_at]
  simp only [v30_at, v28_at, v18_at, v3_at]
  rfl

end Cert.Reference6Ideal.FfnS
end
-- ==== Proof.Proj.Spec.lean ====
module

public import Idealize.ShloMosaic.Lib.Pointwise
public import Idealize.ShloMosaic.PureOps.Ideal.Laws

@[expose] public section

noncomputable section

namespace Cert.Proj

open Idealize.ShloMosaic

/-! One row through the projections of a latent-attention layer, on the extended reals. -/

/-- A row over its root mean square, times a weight; `d` is the row's length. -/
def rms {n : Nat} (d : EReal) (x g : Fin n → EReal) (j : Fin n) : EReal :=
  x j * Ideal.rsqrt (Ideal.div (∑ k, x k * x k) d + Ideal.ofBits .f32 0x358637BD#32) * g j

/-- The normalised row through the first projection. -/
def zin {n : Nat} (x g : Fin 1024 → EReal) (w : Fin 1024 → Fin n → EReal) (j : Fin n) : EReal :=
  ∑ k, rms (Ideal.ofBits .f32 0x44800000#32) x g k * w k j

/-- The latent row. -/
def lat (z : Fin 832 → EReal) (gk : Fin 256 → EReal) : Fin 256 → EReal :=
  rms (Ideal.ofBits .f32 0x43800000#32) (fun j => z ⟨512 + j.val, by omega⟩) gk

/-- A rotary row turned by the angles with cosines `c` and sines `s`. -/
def rot (c s : Fin 32 → EReal) (t : Fin 64 → EReal) (j : Fin 64) : EReal :=
  if h : j.val < 32 then t j * c ⟨j.val, h⟩ + t ⟨j.val + 32, by omega⟩ * -(s ⟨j.val, h⟩)
  else t j * c ⟨j.val - 32, by omega⟩ + t ⟨j.val - 32, by omega⟩ * s ⟨j.val - 32, by omega⟩

/-- The rotary key row. -/
def kpe (c s : Fin 32 → EReal) (z : Fin 832 → EReal) : Fin 64 → EReal :=
  rot c s (fun j => z ⟨768 + j.val, by omega⟩)

/-- The queries' row, all heads. -/
def qrow (z : Fin 832 → EReal) (gq : Fin 512 → EReal) (w : Fin 512 → Fin 1536 → EReal) (j : Fin 1536) : EReal :=
  ∑ k, rms (Ideal.ofBits .f32 0x44000000#32) (fun j => z ⟨j.val, by omega⟩) gq k * w k j

/-- One head's query, scaled, and zero beyond its 192 lanes. -/
def qhead (c s : Fin 32 → EReal) (q : Fin 1536 → EReal) (h : Fin 8) (j : Fin 256) : EReal :=
  if h1 : j.val < 128 then q ⟨h.val * 192 + j.val, by omega⟩ * Ideal.ofBits .f32 0x3DD53B95#32
  else if h2 : j.val < 192 then rot c s (fun i => q ⟨h.val * 192 + 128 + i.val, by omega⟩) ⟨j.val - 128, by omega⟩ * Ideal.ofBits .f32 0x3DD53B95#32
  else 0

/-- One head's key, and zero beyond its 192 lanes. -/
def khead (l : Fin 256 → EReal) (p : Fin 64 → EReal) (wk : Fin 256 → Fin 128 → EReal) (j : Fin 256) : EReal :=
  if h1 : j.val < 128 then ∑ r, l r * wk r ⟨j.val, h1⟩
  else if h2 : j.val < 192 then p ⟨j.val - 128, by omega⟩
  else 0

/-- The tables by which a kernel turns 128 lanes at once: the cosines, the sines that enter negated, the sines. -/
def tabC (c : Fin 32 → EReal) (j : Fin 128) : EReal :=
  if h : j.val < 32 then c ⟨j.val, h⟩ else if h : j.val - 32 < 32 then c ⟨j.val - 32, h⟩ else 0
def tabN (s : Fin 32 → EReal) (j : Fin 128) : EReal :=
  if h : j.val < 32 then -(s ⟨j.val, h⟩) else 0
def tabS (s : Fin 32 → EReal) (j : Fin 128) : EReal :=
  if h : j.val < 32 then 0 else if h : j.val - 32 < 32 then s ⟨j.val - 32, h⟩ else 0

/-- The turned lanes of a 128-lane group. -/
def turn (t c s1 s2 : Fin 128 → EReal) (j : Fin 128) : EReal :=
  t j * c j + t ⟨(j.val + 128 - 96) % 128, by omega⟩ * s1 j + t ⟨(j.val + 128 - 32) % 128, by omega⟩ * s2 j

/-- By those tables the first 64 lanes turn and the others vanish. -/
theorem turn_tab (t : Fin 128 → EReal) (c s : Fin 32 → EReal) (j : Fin 128) :
    turn t (tabC c) (tabN s) (tabS s) j = if h : j.val < 64 then rot c s (fun i => t ⟨i.val, by omega⟩) ⟨j.val, h⟩ else 0 := by
  unfold turn rot tabC tabN tabS
  by_cases h1 : j.val < 32
  · have h2 : j.val < 64 := by omega
    have e : (⟨(j.val + 128 - 96) % 128, by omega⟩ : Fin 128) = ⟨j.val + 32, by omega⟩ := Fin.ext (by show (j.val + 128 - 96) % 128 = j.val + 32; omega)
    simp only [h1, h2, dif_pos, mul_zero, add_zero, e]
  · by_cases h2 : j.val < 64
    · have h3 : j.val - 32 < 32 := by omega
      have e : (⟨(j.val + 128 - 32) % 128, by omega⟩ : Fin 128) = ⟨j.val - 32, by omega⟩ := Fin.ext (by show (j.val + 128 - 32) % 128 = j.val - 32; omega)
      simp only [h1, h2, h3, dif_pos, dif_neg, not_false_eq_true, mul_zero, add_zero, e]
    · have h3 : ¬ j.val - 32 < 32 := by omega
      simp only [h1, h2, h3, dif_neg, not_false_eq_true, mul_zero, add_zero]

/-- The rotary angle of a position and a frequency, its cosine and its sine. -/
def angle (p : BitVec 32) (f : Fin 32) : EReal :=
  FloatOps.sitofp (F := Ideal) .f32 p * Ideal.pow (Ideal.ofBits .f32 1176256512#32)
    (Ideal.div (-FloatOps.sitofp (F := Ideal) .f32 (BitVec.ofNat 32 f.val)) (Ideal.ofBits .f32 1107296256#32))
def cosAt (p : BitVec 32) (f : Fin 32) : EReal := Ideal.cos (angle p f)
def sinAt (p : BitVec 32) (f : Fin 32) : EReal := Ideal.sin (angle p f)

/-- The row of a chunk of 1024 rows and a place in it. -/
def chunkRow (a : Fin 16) (n : Fin 1024) : Fin (8192 * 2) := ⟨a.val * 1024 + n.val, by omega⟩

/-- The rows of `B` sequences of `T` rows. -/
abbrev SX (B T : Nat) : Shape := ⟨3, ![B, T, 1024]⟩

section
variable {B T : Nat} (hT : 0 < T) (p : BitVec 32) (x0 : (SX B T).Idx → EReal) (x1 : (⟨2, ![4, 1024]⟩ : Shape).Idx → EReal) (x2 : (⟨3, ![2, 1024, 832]⟩ : Shape).Idx → EReal)
  (x3 : (⟨2, ![2, 512]⟩ : Shape).Idx → EReal) (x4 : (⟨2, ![2, 256]⟩ : Shape).Idx → EReal) (x5 : (⟨3, ![2, 512, 1536]⟩ : Shape).Idx → EReal)
  (x6 x7 : (⟨4, ![2, 256, 8, 128]⟩ : Shape).Idx → EReal) (r : Fin (T * B))

/-- Row `r` (row `r % T` of sequence `r / T`), normalised and through the first projection. -/
def zAll : Fin 832 → EReal :=
  zin (fun k => x0 (ix3 ⟨r.val / T, Nat.div_lt_of_lt_mul r.isLt⟩ ⟨r.val % T, Nat.mod_lt _ hT⟩ k)) (fun k => x1 (ix2 1 k)) (fun k j => x2 (ix3 0 k j))
/-- Its latent row. -/
def latAll : Fin 256 → EReal := lat (zAll hT x0 x1 x2 r) (fun k => x4 (ix2 0 k))
/-- Its rotary key row, at position `p`. -/
def kpeAll : Fin 64 → EReal := kpe (cosAt p) (sinAt p) (zAll hT x0 x1 x2 r)
/-- Its query in head `h`, at position `p`. -/
def qAll (h : Fin 8) : Fin 256 → EReal :=
  qhead (cosAt p) (sinAt p) (qrow (zAll hT x0 x1 x2 r) (fun k => x3 (ix2 0 k)) (fun k j => x5 (ix3 0 k j))) h
/-- Its key in head `h`, at position `p`. -/
def kAll (h : Fin 8) : Fin 256 → EReal := khead (latAll hT x0 x1 x2 x4 r) (kpeAll hT p x0 x1 x2 r) (fun k n => x6 (ix4 0 k h n))
/-- Its value in head `h`. -/
def vAll (h : Fin 8) (n : Fin 128) : EReal := ∑ k, latAll hT x0 x1 x2 x4 r k * x7 (ix4 0 k h n)
end

end Cert.Proj
end
-- ==== Proof.Proj.Weights.lean ====
module

public import proofs.«01_k».proof.Proof.Proj.Spec
public import proofs.«01_k».proof.Proof.Gen.Kernel4Ideal.Value
public import Idealize.ShloMosaic.Lib.Pipeline.ValueKit
public import Idealize.ShloMosaic.Lib.StableHlo.RunRead

@[expose] public section

set_option maxRecDepth 16384
set_option maxHeartbeats 1000000

noncomputable section

namespace Cert.Kernel4Ideal.Proj

open Cert.Kernel4Ideal Cert.Kernel4Ideal.Gen Cert.Proj
open Idealize.ShloMosaic Idealize.ShloMosaic.TcCoe

variable (m : (ℓ : Loc nD τ sig) → Buf (Elt Ideal) ℓ) (c : Dev nD)

theorem V_v15 : V m c main_v15 = shapeCast S16384x1024 (m (c.tc.loc main_arg0)) shapeCasts_S2x8192x1024_S16384x1024 := by
  unfold_abbrev_sides
  after_reads_simp
  rfl
theorem V_v12 : V m c main_v12 = broadcastInDim S2x1x1024 ![0, 2] bcast_S2x1024_S2x1x1024_0_2
      (Host.slice S2x1024 ![1, 0] ![2, 1] (m (c.tc.loc main_arg1)) slicesBy_S4x1024_S2x1024_1s2_0s1) := by
  unfold_abbrev_sides
  after_reads_simp
theorem V_v13 : V m c main_v13 = broadcastInDim S2x1x512 ![0, 2] bcast_S2x512_S2x1x512_0_2 (m (c.tc.loc main_arg3)) := by
  unfold_abbrev_sides
  after_reads_simp
theorem V_v14 : V m c main_v14 = broadcastInDim S2x1x256 ![0, 2] bcast_S2x256_S2x1x256_0_2 (m (c.tc.loc main_arg4)) := by
  unfold_abbrev_sides
  after_reads_simp
theorem V_v1 : V m c main_v1 = (truncf .bf16 (pad S2x1024x896 ![0, 0, 0] ![0, 0, 64] ![0, 0, 0] (m (c.tc.loc main_arg2))
      (sitofp .f32 (constantI S_ 32 0#32) : FVec Ideal S_ .f32) pads_S2x1024x832_S2x1024x896_000_000_0640 h_S_ : FVec Ideal S2x1024x896 .f32) bitsLt_bf16_f32 : FVec Ideal S2x1024x896 .bf16) := by
  unfold_abbrev_sides
  after_reads_simp
  rfl
theorem V_v5 : V m c main_v5 = (truncf .bf16 (shapeCast S2x512x2048 (pad S2x512x8x256 ![0, 0, 0, 0] ![0, 0, 0, 64] ![0, 0, 0, 0]
      (shapeCast S2x512x8x192 (m (c.tc.loc main_arg5)) shapeCasts_S2x512x1536_S2x512x8x192) (sitofp .f32 (constantI S_ 32 0#32) : FVec Ideal S_ .f32)
      pads_S2x512x8x192_S2x512x8x256_000_000_000_0640 h_S_ : FVec Ideal S2x512x8x256 .f32) shapeCasts_S2x512x8x256_S2x512x2048 : FVec Ideal S2x512x2048 .f32) bitsLt_bf16_f32 : FVec Ideal S2x512x2048 .bf16) := by
  unfold_abbrev_sides
  after_reads_simp
  refine congrArg (fun z : FVec Ideal S2x512x8x256 .f32 => (truncf .bf16 (shapeCast S2x512x2048 z shapeCasts_S2x512x8x256_S2x512x2048 : FVec Ideal S2x512x2048 .f32) bitsLt_bf16_f32 : FVec Ideal S2x512x2048 .bf16)) ?_
  refine congrArg (fun z : FVec Ideal S2x512x8x192 .f32 => pad S2x512x8x256 ![0, 0, 0, 0] ![0, 0, 0, 64] ![0, 0, 0, 0] z (sitofp .f32 (constantI S_ 32 0#32) : FVec Ideal S_ .f32) pads_S2x512x8x192_S2x512x8x256_000_000_000_0640 h_S_) ?_
  rfl
theorem V_v7 : V m c main_v7 = (truncf .bf16 (shapeCast S2x256x1024 (m (c.tc.loc main_arg6)) shapeCasts_S2x256x8x128_S2x256x1024 : FVec Ideal S2x256x1024 .f32) bitsLt_bf16_f32 : FVec Ideal S2x256x1024 .bf16) := by
  unfold_abbrev_sides
  after_reads_simp
  rfl
theorem V_v10 : V m c main_v10 = (truncf .bf16 (transpose S2x1024x256 [0, 2, 1] (shapeCast S2x256x1024 (m (c.tc.loc main_arg7)) shapeCasts_S2x256x8x128_S2x256x1024)
      transposes_S2x256x1024_S2x1024x256_0_2_1 : FVec Ideal S2x1024x256 .f32) bitsLt_bf16_f32 : FVec Ideal S2x1024x256 .bf16) := by
  unfold_abbrev_sides
  after_reads_simp
  rfl

theorem sit0 : (FloatOps.sitofp (F := Ideal) .f32 (0#32) : EReal) = 0 := by
  show (((0#32 : BitVec 32).toInt : ℝ) : EReal) = 0
  simp
theorem padw_at (x : FVec Ideal S2x1024x832 .f32) (k : Fin 1024) (j : Fin 896) :
    pad S2x1024x896 ![0, 0, 0] ![0, 0, 64] ![0, 0, 0] x (sitofp .f32 (constantI S_ 32 0#32) : FVec Ideal S_ .f32) pads_S2x1024x832_S2x1024x896_000_000_0640 h_S_ (ix3 0 k j)
      = if h : j.val < 832 then x (ix3 0 k ⟨j.val, h⟩) else 0 := by
  pointwise []
  rw [sit0]
theorem padh_at (x : FVec Ideal S2x512x8x192 .f32) (k : Fin 512) (h : Fin 8) (j : Fin 256) :
    pad S2x512x8x256 ![0, 0, 0, 0] ![0, 0, 0, 64] ![0, 0, 0, 0] x (sitofp .f32 (constantI S_ 32 0#32) : FVec Ideal S_ .f32)
      pads_S2x512x8x192_S2x512x8x256_000_000_000_0640 h_S_ (ix4 0 k h j) = if hj : j.val < 192 then x (ix4 0 k h ⟨j.val, hj⟩) else 0 := by
  pointwise []
  rw [sit0]
theorem padq_at (x : FVec Ideal S2x512x1536 .f32) (k : Fin 512) (h : Fin 8) (j : Fin 256) :
    shapeCast S2x512x2048 (pad S2x512x8x256 ![0, 0, 0, 0] ![0, 0, 0, 64] ![0, 0, 0, 0]
      (shapeCast S2x512x8x192 x shapeCasts_S2x512x1536_S2x512x8x192) (sitofp .f32 (constantI S_ 32 0#32) : FVec Ideal S_ .f32)
      pads_S2x512x8x192_S2x512x8x256_000_000_000_0640 h_S_ : FVec Ideal S2x512x8x256 .f32) shapeCasts_S2x512x8x256_S2x512x2048 (ix3 0 k ⟨256 * h.val + j.val, by omega⟩)
    = if hj : j.val < 192 then x (ix3 0 k ⟨h.val * 192 + j.val, by omega⟩) else 0 := by
  refine (shapeCast_apply _ shapeCasts_S2x512x8x256_S2x512x2048 (ix3 0 k ⟨256 * h.val + j.val, by omega⟩) (ix4 0 k h j) (by
    rewrite [Shape.rowMajor_val_four, Shape.rowMajor_val_three]
    show ((0 * 512 + k.val) * 8 + h.val) * 256 + j.val = (0 * 512 + k.val) * 2048 + (256 * h.val + j.val)
    omega)).trans ?_
  rw [padh_at]
  refine dite_congr rfl (fun hj => ?_) fun _ => rfl
  exact shapeCast_apply x shapeCasts_S2x512x1536_S2x512x8x192 (ix4 0 k h ⟨j.val, hj⟩) (ix3 0 k ⟨h.val * 192 + j.val, by omega⟩) (by
    rewrite [Shape.rowMajor_val_four, Shape.rowMajor_val_three]
    show (0 * 512 + k.val) * 1536 + (h.val * 192 + j.val) = ((0 * 512 + k.val) * 8 + h.val) * 192 + j.val
    omega)

/-- The first projection's weight, padded with zeros. -/
theorem win_at (k : Fin 1024) (j : Fin 896) : V m c main_v1 (ix3 0 k j) = if h : j.val < 832 then (m (c.tc.loc main_arg2) : FVec Ideal S2x1024x832 .f32) (ix3 0 k ⟨j.val, h⟩) else (0 : EReal) := by
  rw [V_v1]
  exact padw_at _ k j
/-- A head's query weight, padded with zeros. -/
theorem wuq_at (k : Fin 512) (h : Fin 8) (j : Fin 256) : V m c main_v5 (ix3 0 k ⟨256 * h.val + j.val, by omega⟩)
    = if hj : j.val < 192 then (m (c.tc.loc main_arg5) : FVec Ideal S2x512x1536 .f32) (ix3 0 k ⟨h.val * 192 + j.val, by omega⟩) else (0 : EReal) := by
  rw [V_v5]
  exact padq_at _ k h j
theorem wuk_at (k : Fin 256) (h : Fin 8) (j : Fin 128) : V m c main_v7 (ix3 0 k ⟨128 * h.val + j.val, by omega⟩) = m (c.tc.loc main_arg6) (ix4 0 k h j) := by
  rw [V_v7]
  pointwise []
theorem wuvt_at (h : Fin 8) (j : Fin 128) (k : Fin 256) : V m c main_v10 (ix3 0 ⟨128 * h.val + j.val, by omega⟩ k) = m (c.tc.loc main_arg7) (ix4 0 k h j) := by
  rw [V_v10]
  pointwise []
theorem norm_at (j : Fin 1024) : V m c main_v12 (ix3 0 0 j) = m (c.tc.loc main_arg1) (ix2 1 j) := by
  rw [V_v12]
  pointwise []
theorem qn_at (j : Fin 512) : V m c main_v13 (ix3 0 0 j) = m (c.tc.loc main_arg3) (ix2 0 j) := by
  rw [V_v13]
  pointwise []
theorem kn_at (j : Fin 256) : V m c main_v14 (ix3 0 0 j) = m (c.tc.loc main_arg4) (ix2 0 j) := by
  rw [V_v14]
  pointwise []

end Cert.Kernel4Ideal.Proj
end
-- ==== Proof.Proj.Tables.lean ====
module

public import proofs.«01_k».proof.Proof.Proj.Spec
public import proofs.«01_k».proof.Proof.Gen.Kernel4Ideal.Value
public import Idealize.ShloMosaic.Lib.Pipeline.ValueKit
public import Idealize.ShloMosaic.Lib.StableHlo.RunRead

@[expose] public section

set_option maxRecDepth 16384
set_option maxHeartbeats 1000000

noncomputable section

namespace Cert.Kernel4Ideal.Proj

open Cert.Kernel4Ideal Cert.Kernel4Ideal.Gen Cert.Proj
open Idealize.ShloMosaic Idealize.ShloMosaic.TcCoe

variable (m : (ℓ : Loc nD τ sig) → Buf (Elt Ideal) ℓ) (c : Dev nD)

/-- The rotary angles' cosines and sines, one row per position. -/
def ang : FVec Ideal S8192x32 .f32 :=
  mulf (broadcastInDim S8192x32 ![0, 1] bcast_S8192x1_S8192x32_0_1 (broadcastInDim S8192x1 ![0] bcast_S8192_S8192x1_0 (sitofp FTy.f32 (iotaInDim S8192 32 0))))
    (broadcastInDim S8192x32 ![0, 1] bcast_S1x32_S8192x32_0_1 (broadcastInDim S1x32 ![1] bcast_S32_S1x32_1
      (Host.powf (broadcastInDim S32 ![] bcast_S_S32 (constant S_ FTy.f32 1176256512#32))
        (Host.divf (Host.negf (sitofp FTy.f32 (iotaInDim S32 32 0))) (broadcastInDim S32 ![] bcast_S_S32 (constant S_ FTy.f32 1107296256#32))))))
abbrev zero32 : FVec Ideal S8192x32 .f32 := broadcastInDim S8192x32 ![] bcast_S_S8192x32 (constant S_ FTy.f32 0#32)
abbrev zero64 : FVec Ideal S8192x64 .f32 := broadcastInDim S8192x64 ![] bcast_S_S8192x64 (constant S_ FTy.f32 0#32)
abbrev L := [hostOps0 (F := Ideal), hostOps0_1, hostOps0_2, hostOps0_3, hostOps0_4].flatten
theorem V_v33_29 : StableHlo.upto L (fun b => m (c, b)) 41 (Proc.tc.devRef main_v29) = Host.cos ang := by
  after_reads_simp
  rfl
theorem V_v33_32 : StableHlo.upto L (fun b => m (c, b)) 41 (Proc.tc.devRef main_v32) = zero64 := by
  after_reads_simp
theorem V_v33 : V m c main_v33 = concatenate S8192x128 1 [⟨S8192x32, Host.cos ang⟩, ⟨S8192x32, Host.cos ang⟩, ⟨S8192x64, zero64⟩] concatenates_S8192x32_S8192x32_S8192x64_S8192x128_d1 := by
  unfold_abbrev_sides
  after_reads_simp
  rw [← V_v33_29 m c, ← V_v33_32 m c]
  rfl
theorem V_v35_34 : StableHlo.upto L (fun b => m (c, b)) 43 (Proc.tc.devRef main_v34) = Host.negf (Host.sin ang) := by
  after_reads_simp
  rfl
theorem V_v35_31 : StableHlo.upto L (fun b => m (c, b)) 43 (Proc.tc.devRef main_v31) = zero32 := by
  after_reads_simp
theorem V_v35_32 : StableHlo.upto L (fun b => m (c, b)) 43 (Proc.tc.devRef main_v32) = zero64 := by
  after_reads_simp
theorem V_v35 : V m c main_v35 = concatenate S8192x128 1 [⟨S8192x32, Host.negf (Host.sin ang)⟩, ⟨S8192x32, zero32⟩, ⟨S8192x64, zero64⟩] concatenates_S8192x32_S8192x32_S8192x64_S8192x128_d1 := by
  unfold_abbrev_sides
  after_reads_simp
  rw [← V_v35_34 m c, ← V_v35_32 m c, ← V_v35_31 m c]
  rfl
theorem V_v36_31 : StableHlo.upto L (fun b => m (c, b)) 44 (Proc.tc.devRef main_v31) = zero32 := by
  after_reads_simp
theorem V_v36_30 : StableHlo.upto L (fun b => m (c, b)) 44 (Proc.tc.devRef main_v30) = Host.sin ang := by
  after_reads_simp
  rfl
theorem V_v36_32 : StableHlo.upto L (fun b => m (c, b)) 44 (Proc.tc.devRef main_v32) = zero64 := by
  after_reads_simp
theorem V_v36 : V m c main_v36 = concatenate S8192x128 1 [⟨S8192x32, zero32⟩, ⟨S8192x32, Host.sin ang⟩, ⟨S8192x64, zero64⟩] concatenates_S8192x32_S8192x32_S8192x64_S8192x128_d1 := by
  unfold_abbrev_sides
  after_reads_simp
  rw [← V_v36_31 m c, ← V_v36_32 m c, ← V_v36_30 m c]
  rfl

theorem ang_at (p : Fin 8192) (f : Fin 32) : ang (ix2 p f) = angle (BitVec.ofNat 32 p.val) f := by
  unfold angle
  pointwise [ang]
theorem tab_c (p : Fin 8192) (j : Fin 128) : V m c main_v33 (ix2 p j) = tabC (cosAt (BitVec.ofNat 32 p.val)) j := by
  rw [V_v33]
  unfold tabC cosAt
  simp only [← ang_at]
  generalize ang = a
  pointwise []
theorem tab_n (p : Fin 8192) (j : Fin 128) : V m c main_v35 (ix2 p j) = tabN (sinAt (BitVec.ofNat 32 p.val)) j := by
  rw [V_v35]
  unfold tabN sinAt
  simp only [← ang_at]
  generalize ang = a
  pointwise []
  simp only [ite_self, dite_eq_ite]
theorem tab_s (p : Fin 8192) (j : Fin 128) : V m c main_v36 (ix2 p j) = tabS (sinAt (BitVec.ofNat 32 p.val)) j := by
  rw [V_v36]
  unfold tabS sinAt
  simp only [← ang_at]
  generalize ang = a
  pointwise []
end Cert.Kernel4Ideal.Proj
end
-- ==== Proof.Proj.Blocks.lean ====
module

public import proofs.«01_k».proof.Proof.Proj.Weights
public import proofs.«01_k».proof.Proof.Proj.Tables

@[expose] public section

set_option maxRecDepth 16384
set_option maxHeartbeats 1000000

noncomputable section

namespace Cert.Kernel4Ideal.Proj

open Cert.Kernel4Ideal Cert.Kernel4Ideal.Gen Cert.Proj
open Idealize.ShloMosaic Idealize.ShloMosaic.TcCoe

variable (m : (ℓ : Loc nD τ sig) → Buf (Elt Ideal) ℓ) (c : Dev nD)

/-! The block of every window, from the grid point. -/
theorem index0 : ∀ t : Fin cfg0.N, win0_0.index t = ![t.val, 0] := by decide +kernel
theorem index1 : ∀ t : Fin cfg0.N, win0_1.index t = ![0, 0, 0] := by decide +kernel
theorem index2 : ∀ t : Fin cfg0.N, win0_2.index t = ![0, 0, 0] := by decide +kernel
theorem index3 : ∀ t : Fin cfg0.N, win0_3.index t = ![0, 0, 0] := by decide +kernel
theorem index4 : ∀ t : Fin cfg0.N, win0_4.index t = ![0, 0, 0] := by decide +kernel
theorem index5 : ∀ t : Fin cfg0.N, win0_5.index t = ![0, 0, 0] := by decide +kernel
theorem index6 : ∀ t : Fin cfg0.N, win0_6.index t = ![0, 0, 0] := by decide +kernel
theorem index7 : ∀ t : Fin cfg0.N, win0_7.index t = ![0, 0, 0] := by decide +kernel
theorem index8 : ∀ t : Fin cfg0.N, win0_8.index t = ![t.val % 16, 0] := by decide +kernel
theorem index9 : ∀ t : Fin cfg0.N, win0_9.index t = ![t.val % 16, 0] := by decide +kernel
theorem index10 : ∀ t : Fin cfg0.N, win0_10.index t = ![t.val % 16, 0] := by decide +kernel
theorem index11 : ∀ t : Fin cfg0.N, win0_11.index t = ![0, t.val, 0] := by decide +kernel
theorem index12 : ∀ t : Fin cfg0.N, win0_12.index t = ![0, t.val, 0] := by decide +kernel
theorem index13 : ∀ t : Fin cfg0.N, win0_13.index t = ![0, t.val / 2, 0, t.val % 2] := by decide +kernel
theorem index14 : ∀ t : Fin cfg0.N, win0_14.index t = ![t.val, 0] := by decide +kernel
theorem index15 : ∀ t : Fin cfg0.N, win0_15.index t = ![t.val, 0] := by decide +kernel

/-- The array's row of a tile's row. -/
def rowOf (t : Fin cfg0.N) (r : Fin 512) : Fin (8192 * 2) := ⟨t.val * 512 + r.val, by
  have h : t.val < 32 := t.isLt
  have := r.isLt; omega⟩

/-- Row `R` of the flattened array is row `R % 8192` of sequence `R / 8192`. -/
theorem flat_at (x : S2x8192x1024.Idx → EReal) (R : Fin (8192 * 2)) (j : Fin 1024) :
    shapeCast S16384x1024 x shapeCasts_S2x8192x1024_S16384x1024 (ix2 R j) = x (ix3 ⟨R.val / 8192, Nat.div_lt_of_lt_mul R.isLt⟩ ⟨R.val % 8192, Nat.mod_lt _ (by decide)⟩ j) :=
  shapeCast_apply x shapeCasts_S2x8192x1024_S16384x1024 (ix2 R j) _ (by
    rewrite [Shape.rowMajor_val_three, Shape.rowMajor_val_two]
    have := R.isLt
    show (R.val / 8192 * 8192 + R.val % 8192) * 1024 + j.val = R.val * 1024 + j.val
    omega)

theorem iblk0_at (t : Fin cfg0.N) (r : Fin 512) (j : Fin 1024) : iblk m c 0 t (ix2 r j)
    = m (c.tc.loc main_arg0) (ix3 ⟨(rowOf t r).val / 8192, Nat.div_lt_of_lt_mul (rowOf t r).isLt⟩ ⟨(rowOf t r).val % 8192, Nat.mod_lt _ (by decide)⟩ j) := by
  have e := index0 t
  blk_simp [iblk]
  refine (congrArg _ (?_ : _ = ix2 (rowOf t r) j)).trans ?_
  · refine funext fun a => Fin.ext ?_
    match a with
    | ⟨0, _⟩ => show (((win0_0.blk t).view.emb (ix2 r j)) 0).val = t.val * 512 + r.val; blk_simp [e] <;> simp
    | ⟨1, _⟩ => show (((win0_0.blk t).view.emb (ix2 r j)) 1).val = j.val; blk_simp [e] <;> simp
  · rw [V_v15]; exact flat_at _ (rowOf t r) j

theorem iblk1_at (t : Fin cfg0.N) (j : Fin 1024) : iblk m c 1 t (ix3 0 0 j)
    = m (c.tc.loc main_arg1) (ix2 1 j) := by
  have e := index1 t
  blk_simp [iblk]
  refine (congrArg _ (?_ : _ = ix3 0 0 j)).trans ?_
  · refine funext fun a => Fin.ext ?_
    match a with
    | ⟨0, _⟩ => show (((win0_1.blk t).view.emb (ix3 0 0 j)) 0).val = 0; blk_simp [e] <;> simp
    | ⟨1, _⟩ => show (((win0_1.blk t).view.emb (ix3 0 0 j)) 1).val = 0; blk_simp [e] <;> simp
    | ⟨2, _⟩ => show (((win0_1.blk t).view.emb (ix3 0 0 j)) 2).val = j.val; blk_simp [e] <;> simp
  · exact norm_at m c j

theorem iblk2_at (t : Fin cfg0.N) (k : Fin 1024) (j : Fin 896) : iblk m c 2 t (ix3 0 k j)
    = if h : j.val < 832 then (m (c.tc.loc main_arg2) : FVec Ideal S2x1024x832 .f32) (ix3 0 k ⟨j.val, h⟩) else (0 : EReal) := by
  have e := index2 t
  blk_simp [iblk]
  refine (congrArg _ (?_ : _ = ix3 0 k j)).trans ?_
  · refine funext fun a => Fin.ext ?_
    match a with
    | ⟨0, _⟩ => show (((win0_2.blk t).view.emb (ix3 0 k j)) 0).val = 0; blk_simp [e] <;> simp
    | ⟨1, _⟩ => show (((win0_2.blk t).view.emb (ix3 0 k j)) 1).val = k.val; blk_simp [e] <;> simp
    | ⟨2, _⟩ => show (((win0_2.blk t).view.emb (ix3 0 k j)) 2).val = j.val; blk_simp [e] <;> simp
  · exact win_at m c k j

theorem iblk3_at (t : Fin cfg0.N) (j : Fin 512) : iblk m c 3 t (ix3 0 0 j)
    = m (c.tc.loc main_arg3) (ix2 0 j) := by
  have e := index3 t
  blk_simp [iblk]
  refine (congrArg _ (?_ : _ = ix3 0 0 j)).trans ?_
  · refine funext fun a => Fin.ext ?_
    match a with
    | ⟨0, _⟩ => show (((win0_3.blk t).view.emb (ix3 0 0 j)) 0).val = 0; blk_simp [e] <;> simp
    | ⟨1, _⟩ => show (((win0_3.blk t).view.emb (ix3 0 0 j)) 1).val = 0; blk_simp [e] <;> simp
    | ⟨2, _⟩ => show (((win0_3.blk t).view.emb (ix3 0 0 j)) 2).val = j.val; blk_simp [e] <;> simp
  · exact qn_at m c j

theorem iblk4_at (t : Fin cfg0.N) (j : Fin 256) : iblk m c 4 t (ix3 0 0 j)
    = m (c.tc.loc main_arg4) (ix2 0 j) := by
  have e := index4 t
  blk_simp [iblk]
  refine (congrArg _ (?_ : _ = ix3 0 0 j)).trans ?_
  · refine funext fun a => Fin.ext ?_
    match a with
    | ⟨0, _⟩ => show (((win0_4.blk t).view.emb (ix3 0 0 j)) 0).val = 0; blk_simp [e] <;> simp
    | ⟨1, _⟩ => show (((win0_4.blk t).view.emb (ix3 0 0 j)) 1).val = 0; blk_simp [e] <;> simp
    | ⟨2, _⟩ => show (((win0_4.blk t).view.emb (ix3 0 0 j)) 2).val = j.val; blk_simp [e] <;> simp
  · exact kn_at m c j

theorem iblk5_at (t : Fin cfg0.N) (k : Fin 512) (h : Fin 8) (j : Fin 256) : iblk m c 5 t (ix3 0 k (⟨256 * h.val + j.val, by omega⟩ : Fin 2048))
    = if hj : j.val < 192 then (m (c.tc.loc main_arg5) : FVec Ideal S2x512x1536 .f32) (ix3 0 k ⟨h.val * 192 + j.val, by omega⟩) else (0 : EReal) := by
  have e := index5 t
  blk_simp [iblk]
  refine (congrArg _ (?_ : _ = ix3 0 k (⟨256 * h.val + j.val, by omega⟩ : Fin 2048))).trans ?_
  · refine funext fun a => Fin.ext ?_
    match a with
    | ⟨0, _⟩ => show (((win0_5.blk t).view.emb (ix3 0 k (⟨256 * h.val + j.val, by omega⟩ : Fin 2048))) 0).val = 0; blk_simp [e] <;> simp
    | ⟨1, _⟩ => show (((win0_5.blk t).view.emb (ix3 0 k (⟨256 * h.val + j.val, by omega⟩ : Fin 2048))) 1).val = k.val; blk_simp [e] <;> simp
    | ⟨2, _⟩ => show (((win0_5.blk t).view.emb (ix3 0 k (⟨256 * h.val + j.val, by omega⟩ : Fin 2048))) 2).val = 256 * h.val + j.val; blk_simp [e] <;> simp
  · exact wuq_at m c k h j

theorem iblk6_at (t : Fin cfg0.N) (k : Fin 256) (h : Fin 8) (j : Fin 128) : iblk m c 6 t (ix3 0 k (⟨128 * h.val + j.val, by omega⟩ : Fin 1024))
    = m (c.tc.loc main_arg6) (ix4 0 k h j) := by
  have e := index6 t
  blk_simp [iblk]
  refine (congrArg _ (?_ : _ = ix3 0 k (⟨128 * h.val + j.val, by omega⟩ : Fin 1024))).trans ?_
  · refine funext fun a => Fin.ext ?_
    match a with
    | ⟨0, _⟩ => show (((win0_6.blk t).view.emb (ix3 0 k (⟨128 * h.val + j.val, by omega⟩ : Fin 1024))) 0).val = 0; blk_simp [e] <;> simp
    | ⟨1, _⟩ => show (((win0_6.blk t).view.emb (ix3 0 k (⟨128 * h.val + j.val, by omega⟩ : Fin 1024))) 1).val = k.val; blk_simp [e] <;> simp
    | ⟨2, _⟩ => show (((win0_6.blk t).view.emb (ix3 0 k (⟨128 * h.val + j.val, by omega⟩ : Fin 1024))) 2).val = 128 * h.val + j.val; blk_simp [e] <;> simp
  · exact wuk_at m c k h j

theorem iblk7_at (t : Fin cfg0.N) (h : Fin 8) (j : Fin 128) (k : Fin 256) : iblk m c 7 t (ix3 0 (⟨128 * h.val + j.val, by omega⟩ : Fin 1024) k)
    = m (c.tc.loc main_arg7) (ix4 0 k h j) := by
  have e := index7 t
  blk_simp [iblk]
  refine (congrArg _ (?_ : _ = ix3 0 (⟨128 * h.val + j.val, by omega⟩ : Fin 1024) k)).trans ?_
  · refine funext fun a => Fin.ext ?_
    match a with
    | ⟨0, _⟩ => show (((win0_7.blk t).view.emb (ix3 0 (⟨128 * h.val + j.val, by omega⟩ : Fin 1024) k)) 0).val = 0; blk_simp [e] <;> simp
    | ⟨1, _⟩ => show (((win0_7.blk t).view.emb (ix3 0 (⟨128 * h.val + j.val, by omega⟩ : Fin 1024) k)) 1).val = 128 * h.val + j.val; blk_simp [e] <;> simp
    | ⟨2, _⟩ => show (((win0_7.blk t).view.emb (ix3 0 (⟨128 * h.val + j.val, by omega⟩ : Fin 1024) k)) 2).val = k.val; blk_simp [e] <;> simp
  · exact wuvt_at m c h j k

/-- The position of a tile's row. -/
abbrev posOf (t : Fin cfg0.N) (r : Fin 512) : BitVec 32 := BitVec.ofNat 32 ((rowOf t r).val % 8192)

theorem iblk8_at (t : Fin cfg0.N) (r : Fin 512) (j : Fin 128) : iblk m c 8 t (ix2 r j)
    = tabC (cosAt (posOf t r)) j := by
  have e := index8 t
  blk_simp [iblk]
  refine (congrArg _ (?_ : _ = ix2 (⟨(rowOf t r).val % 8192, Nat.mod_lt _ (by decide)⟩ : Fin 8192) j)).trans ?_
  · refine funext fun a => Fin.ext ?_
    match a with
    | ⟨0, _⟩ => show (((win0_8.blk t).view.emb (ix2 r j)) 0).val = (t.val * 512 + r.val) % 8192; blk_simp [e] <;> omega
    | ⟨1, _⟩ => show (((win0_8.blk t).view.emb (ix2 r j)) 1).val = j.val; blk_simp [e] <;> simp
  · exact tab_c m c (⟨(rowOf t r).val % 8192, Nat.mod_lt _ (by decide)⟩ : Fin 8192) j

theorem iblk9_at (t : Fin cfg0.N) (r : Fin 512) (j : Fin 128) : iblk m c 9 t (ix2 r j)
    = tabN (sinAt (posOf t r)) j := by
  have e := index9 t
  blk_simp [iblk]
  refine (congrArg _ (?_ : _ = ix2 (⟨(rowOf t r).val % 8192, Nat.mod_lt _ (by decide)⟩ : Fin 8192) j)).trans ?_
  · refine funext fun a => Fin.ext ?_
    match a with
    | ⟨0, _⟩ => show (((win0_9.blk t).view.emb (ix2 r j)) 0).val = (t.val * 512 + r.val) % 8192; blk_simp [e] <;> omega
    | ⟨1, _⟩ => show (((win0_9.blk t).view.emb (ix2 r j)) 1).val = j.val; blk_simp [e] <;> simp
  · exact tab_n m c (⟨(rowOf t r).val % 8192, Nat.mod_lt _ (by decide)⟩ : Fin 8192) j

theorem iblk10_at (t : Fin cfg0.N) (r : Fin 512) (j : Fin 128) : iblk m c 10 t (ix2 r j)
    = tabS (sinAt (posOf t r)) j := by
  have e := index10 t
  blk_simp [iblk]
  refine (congrArg _ (?_ : _ = ix2 (⟨(rowOf t r).val % 8192, Nat.mod_lt _ (by decide)⟩ : Fin 8192) j)).trans ?_
  · refine funext fun a => Fin.ext ?_
    match a with
    | ⟨0, _⟩ => show (((win0_10.blk t).view.emb (ix2 r j)) 0).val = (t.val * 512 + r.val) % 8192; blk_simp [e] <;> omega
    | ⟨1, _⟩ => show (((win0_10.blk t).view.emb (ix2 r j)) 1).val = j.val; blk_simp [e] <;> simp
  · exact tab_s m c (⟨(rowOf t r).val % 8192, Nat.mod_lt _ (by decide)⟩ : Fin 8192) j

end Cert.Kernel4Ideal.Proj
end
-- ==== Proof.Proj.Pay.lean ====
module

public import proofs.«01_k».proof.Proof.Proj.Spec
public import proofs.«01_k».proof.Proof.Gen.Kernel4Ideal.Value

@[expose] public section

set_option maxRecDepth 16384
set_option maxHeartbeats 1000000

noncomputable section

namespace Cert.Kernel4Ideal.Proj

open Cert.Kernel4Ideal Cert.Kernel4Ideal.Gen Cert.Proj
open Idealize.ShloMosaic Idealize.ShloMosaic.TcCoe

/-! What a tile's payloads compute, row by row. -/

theorem pay2_at (v0 : Vec Ideal S512x1024 .f32) (v2 : Vec Ideal S1x1x1024 .f32) (v17 : Vec Ideal S1x1024x896 .bf16) (r : Fin 512) (j : Fin 896) :
    k0_pay2 v0 v2 v17 (ix2 r j) = zin (fun k => v0 (ix2 r k)) (fun k => v2 (ix3 0 0 k)) (fun k j => v17 (ix3 0 k j)) j := by
  unfold zin rms
  pointwise [k0_pay2]

theorem pay3_at (v0 : Vec Ideal S512x1024 .f32) (v2 : Vec Ideal S1x1x1024 .f32) (v17 : Vec Ideal S1x1024x896 .bf16) (v21 : Vec Ideal S1x1x512 .f32) (r : Fin 512) (j : Fin 512) :
    k0_pay3 v0 v2 v17 v21 (ix2 r j) = rms (Ideal.ofBits .f32 0x44000000#32) (fun j : Fin 512 => k0_pay2 v0 v2 v17 (ix2 r ⟨j.val, by omega⟩)) (fun k => v21 (ix3 0 0 k)) j := by
  unfold k0_pay3
  generalize k0_pay2 v0 v2 v17 = y
  unfold rms
  pointwise []

theorem pay4_at (v0 : Vec Ideal S512x1024 .f32) (v2 : Vec Ideal S1x1x1024 .f32) (v17 : Vec Ideal S1x1024x896 .bf16) (r : Fin 512) (j : Fin 256) :
    k0_pay4 v0 v2 v17 (ix2 r j) = k0_pay2 v0 v2 v17 (ix2 r ⟨512 + j.val, by omega⟩) := by
  unfold k0_pay4
  generalize k0_pay2 v0 v2 v17 = y
  pointwise []

theorem pay6_at (v35 : FVec Ideal S512x256 .f32) (v36 : Vec Ideal S1x1x256 .f32) (r : Fin 512) (j : Fin 256) :
    k0_pay6 v35 (k0_pay5 v36) (ix2 r j) = rms (Ideal.ofBits .f32 0x43800000#32) (fun j => v35 (ix2 r j)) (fun k => v36 (ix3 0 0 k)) j := by
  unfold rms
  pointwise [k0_pay6, k0_pay5]

theorem pay10_at (v19 : FVec Ideal S512x896 .f32) (v50 v52 v54 : Vec Ideal S512x128 .f32) (r : Fin 512) (j : Fin 128) :
    k0_pay10 v19 v50 v52 v54 (ix2 r j) = turn (fun j : Fin 128 => v19 (ix2 r ⟨768 + j.val, by omega⟩)) (fun j => v50 (ix2 r j)) (fun j => v52 (ix2 r j)) (fun j => v54 (ix2 r j)) j := by
  unfold turn
  pointwise [k0_pay10, k0_pay7, k0_pay8, k0_pay9]

theorem pay11_at (v19 : FVec Ideal S512x896 .f32) (v50 v52 v54 : Vec Ideal S512x128 .f32) (r : Fin 512) (j : Fin 64) :
    k0_pay11 v19 v50 v52 v54 (ix2 r j) = k0_pay10 v19 v50 v52 v54 (ix2 r ⟨j.val, by omega⟩) := by
  unfold k0_pay11
  generalize k0_pay10 v19 v50 v52 v54 = y
  pointwise []

theorem pay12_at (v34 : FVec Ideal S512x512 .f32) (v68 : Vec Ideal S1x512x2048 .bf16) (r : Fin 512) (j : Fin 2048) :
    k0_pay12 v34 v68 (ix2 r j) = ∑ k : Fin 512, v34 (ix2 r k) * v68 (ix3 0 k j) := by
  pointwise [k0_pay12]

theorem pay37_at (v49 : FVec Ideal S512x256 .f32) (v240 : Vec Ideal S1x256x1024 .bf16) (r : Fin 512) (j : Fin 1024) :
    k0_pay37 v49 v240 (ix2 r j) = ∑ k : Fin 256, v49 (ix2 r k) * v240 (ix3 0 k j) := by
  pointwise [k0_pay37, k0_pay36]

theorem pay38_at (v49 : FVec Ideal S512x256 .f32) (v243 : Vec Ideal S1x1024x256 .bf16) (j : Fin 1024) (r : Fin 512) :
    k0_pay38 v49 v243 (ix2 j r) = ∑ k : Fin 256, v243 (ix3 0 j k) * v49 (ix2 r k) := by
  pointwise [k0_pay38, k0_pay36]

end Cert.Kernel4Ideal.Proj
end
-- ==== Proof.Proj.Tile.lean ====
module

public import proofs.«01_k».proof.Proof.Proj.Pay
public import Idealize.ShloMosaic.Lib.Pipeline.ValueKit

@[expose] public section

set_option maxRecDepth 16384
set_option maxHeartbeats 1000000

noncomputable section

namespace Cert.Kernel4Ideal.Proj

open Cert.Kernel4Ideal Cert.Kernel4Ideal.Gen Cert.Proj
open Idealize.ShloMosaic Idealize.ShloMosaic.TcCoe

/-! The packed tiles, piece by piece: a head's 256 lanes are two groups of 128. -/

variable (x0 : Vec Ideal S512x1024 .f32) (x1 : Vec Ideal S1x1x1024 .f32) (x2 : Vec Ideal S1x1024x896 .bf16) (x3 : Vec Ideal S1x1x512 .f32) (x4 : Vec Ideal S1x1x256 .f32)
  (x5 : Vec Ideal S1x512x2048 .bf16) (x6 : Vec Ideal S1x256x1024 .bf16) (x7 : Vec Ideal S1x1024x256 .bf16) (x8 x9 x10 : Vec Ideal S512x128 .f32)

/-- A head's query lanes from the projected row. -/
def qLanes (T : Fin 2048 → EReal) (c n s : Fin 128 → EReal) (h : Fin 8) (j : Fin 256) : EReal :=
  if hj : j.val < 128 then T ⟨256 * h.val + j.val, by omega⟩ * Ideal.ofBits .f32 0x3DD53B95#32
  else turn (fun i => T ⟨256 * h.val + 128 + i.val, by omega⟩) c n s ⟨j.val - 128, by omega⟩ * Ideal.ofBits .f32 0x3DD53B95#32

theorem q_tile (y : S8x512x256.Idx) : out0_11 (F := Ideal) x0 x1 x2 x3 x4 x5 x6 x7 x8 x9 x10 y =
    qLanes (fun j => k0_pay12 (F := Ideal) (k0_pay65 (F := Ideal) x0 x1 x2 x3 x4 x5 x6 x7 x8 x9 x10) (View.ld x5 r0_8) (ix2 (y 1) j)) (fun j => View.ld x8 r0_5 (ix2 (y 1) j)) (fun j => View.ld x9 r0_5 (ix2 (y 1) j)) (fun j => View.ld x10 r0_5 (ix2 (y 1) j)) (y 0) (y 2) := by
  unfold out0_11 k0_pay73 k0_pay13 k0_pay69 k0_pay70 k0_pay71
  generalize k0_pay12 (F := Ideal) _ _ = T
  generalize View.ld x8 r0_5 = C
  generalize View.ld x9 r0_5 = N
  generalize View.ld x10 r0_5 = S
  unfold qLanes turn
  canon_tiles x h
  all_goals
    open_payloads
    pointwise [h0, h1, h2]
    have e : y 1 = x 1 := Fin.ext h1
    simp only [e]

/-- A head's key lanes: the projected latent row, then the rotary row. -/
def kLanes (K : Fin 1024 → EReal) (P : Fin 128 → EReal) (h : Fin 8) (j : Fin 256) : EReal :=
  if hj : j.val < 128 then K ⟨128 * h.val + j.val, by omega⟩ else P ⟨j.val - 128, by omega⟩

theorem k_tile (y : S8x512x256.Idx) : out0_12 (F := Ideal) x0 x1 x2 x3 x4 x5 x6 x7 x8 x9 x10 y =
    kLanes (fun j => k0_pay37 (F := Ideal) (k0_pay68 x0 x1 x2 x3 x4 x5 x6 x7 x8 x9 x10) (View.ld x6 r0_25) (ix2 (y 1) j)) (fun j => k0_pay72 (F := Ideal) x0 x1 x2 x3 x4 x5 x6 x7 x8 x9 x10 (ix2 (y 1) j)) (y 0) (y 2) := by
  unfold out0_12 k0_pay76 k0_pay74 k0_pay40
  generalize k0_pay37 (F := Ideal) _ _ = T
  generalize k0_pay72 (F := Ideal) _ _ _ _ _ _ _ _ _ _ _ = P
  unfold kLanes
  canon_tiles x h
  all_goals
    open_payloads
    pointwise [h0, h1, h2]
    have e : y 1 = x 1 := Fin.ext h1
    simp only [e]

theorem v_tile (y : S8x1x128x512.Idx) : out0_13 (F := Ideal) x0 x1 x2 x3 x4 x5 x6 x7 x8 x9 x10 y =
    k0_pay38 (F := Ideal) (k0_pay68 x0 x1 x2 x3 x4 x5 x6 x7 x8 x9 x10) (View.ld x7 r0_26) (ix2 (⟨128 * (y 0).val + (y 2).val, by have := (y 0).isLt; have := (y 2).isLt; simp at *; omega⟩ : Fin 1024) (y 3)) := by
  unfold out0_13 k0_pay75 k0_pay42
  generalize k0_pay38 (F := Ideal) _ _ = T
  canon_tiles x h
  all_goals
    open_payloads
    pointwise [h0, h1, h2, h3]
    have e : y 3 = x 3 := Fin.ext h3
    have e2 : y 2 = x 2 := Fin.ext h2
    simp only [e, e2]

end Cert.Kernel4Ideal.Proj
end
-- ==== Proof.Proj.Rows.lean ====
module

public import proofs.«01_k».proof.Proof.Proj.Blocks
public import proofs.«01_k».proof.Proof.Proj.Tile

@[expose] public section

set_option maxRecDepth 16384
set_option maxHeartbeats 1000000

noncomputable section

namespace Cert.Kernel4Ideal.Proj

open Cert.Kernel4Ideal Cert.Kernel4Ideal.Gen Cert.Proj
open Idealize.ShloMosaic Idealize.ShloMosaic.TcCoe

variable (m : (ℓ : Loc nD τ sig) → Buf (Elt Ideal) ℓ) (c : Dev nD)

theorem ld5 (x : Vec Ideal S512x128 .f32) : View.ld x r0_5 = x := View.ld_unit_lit _ _ (by decide)
theorem ld8 (x : Vec Ideal S1x512x2048 .bf16) : View.ld x r0_8 = x := View.ld_unit_lit _ _ (by decide)
theorem ld25 (x : Vec Ideal S1x256x1024 .bf16) : View.ld x r0_25 = x := View.ld_unit_lit _ _ (by decide)
theorem ld26 (x : Vec Ideal S1x1024x256 .bf16) : View.ld x r0_26 = x := View.ld_unit_lit _ _ (by decide)

/-! The tiles' rows, from the arguments. -/

theorem z_at (t : Fin cfg0.N) (r : Fin 512) (j : Fin 896) : k0_pay64 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
    = if h : j.val < 832 then zAll (by decide) (m (c.tc.loc main_arg0)) (m (c.tc.loc main_arg1)) (m (c.tc.loc main_arg2)) (rowOf t r) ⟨j.val, h⟩ else (0 : EReal) := by
  unfold k0_pay64
  rw [View.ld_unit_lit _ _ (by decide), View.ld_unit_lit _ _ (by decide), View.ld_unit_lit _ _ (by decide)]
  refine (pay2_at _ _ _ r j).trans ?_
  unfold zin
  simp only [iblk0_at, iblk1_at, iblk2_at]
  by_cases h : j.val < 832
  · simp only [dif_pos h]
    rfl
  · simp only [dif_neg h, mul_zero, Finset.sum_const_zero]

theorem cq_at (t : Fin cfg0.N) (r : Fin 512) (j : Fin 512) : k0_pay65 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
    = rms (Ideal.ofBits .f32 0x44000000#32) (fun j : Fin 512 => zAll (by decide) (m (c.tc.loc main_arg0)) (m (c.tc.loc main_arg1)) (m (c.tc.loc main_arg2)) (rowOf t r) ⟨j.val, by omega⟩) (fun k => (m (c.tc.loc main_arg3)) (ix2 0 k)) j := by
  unfold k0_pay65
  refine (pay3_at _ _ _ _ r j).trans ?_
  refine congrArg₂ (fun f g => rms _ f g j) (funext fun i => ?_) (funext fun k => ?_)
  · exact (z_at m c t r ⟨i.val, by omega⟩).trans (dif_pos (by show i.val < 832; omega))
  · rw [View.ld_unit_lit _ _ (by decide)]
    exact iblk3_at m c t k

theorem lat_at (t : Fin cfg0.N) (r : Fin 512) (j : Fin 256) : k0_pay68 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = latAll (by decide) (m (c.tc.loc main_arg0)) (m (c.tc.loc main_arg1)) (m (c.tc.loc main_arg2)) (m (c.tc.loc main_arg4)) (rowOf t r) j := by
  unfold k0_pay68 k0_pay67 k0_pay66
  refine (pay6_at _ _ r j).trans ?_
  unfold latAll lat
  refine congrArg₂ (fun f g => rms _ f g j) (funext fun i => ?_) (funext fun k => ?_)
  · refine (pay4_at _ _ _ r i).trans ?_
    exact (z_at m c t r ⟨512 + i.val, by omega⟩).trans (dif_pos (by show 512 + i.val < 832; omega))
  · rw [View.ld_unit_lit _ _ (by decide)]
    exact iblk4_at m c t k

theorem c_at (t : Fin cfg0.N) (r : Fin 512) : (fun j : Fin 128 => View.ld (iblk m c 8 t) r0_5 (ix2 r j)) = tabC (cosAt (posOf t r)) := by
  exact funext fun j => (congrFun (ld5 (iblk m c 8 t)) _).trans (iblk8_at m c t r j)
theorem n_at (t : Fin cfg0.N) (r : Fin 512) : (fun j : Fin 128 => View.ld (iblk m c 9 t) r0_5 (ix2 r j)) = tabN (sinAt (posOf t r)) := by
  exact funext fun j => (congrFun (ld5 (iblk m c 9 t)) _).trans (iblk9_at m c t r j)
theorem s_at (t : Fin cfg0.N) (r : Fin 512) : (fun j : Fin 128 => View.ld (iblk m c 10 t) r0_5 (ix2 r j)) = tabS (sinAt (posOf t r)) := by
  exact funext fun j => (congrFun (ld5 (iblk m c 10 t)) _).trans (iblk10_at m c t r j)

theorem pe_at (t : Fin cfg0.N) (r : Fin 512) (j : Fin 128) : k0_pay72 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
    = if h : j.val < 64 then kpeAll (by decide) (posOf t r) (m (c.tc.loc main_arg0)) (m (c.tc.loc main_arg1)) (m (c.tc.loc main_arg2)) (rowOf t r) ⟨j.val, h⟩ else (0 : EReal) := by
  unfold k0_pay72
  refine (pay10_at _ _ _ _ r j).trans ?_
  rw [c_at, n_at, s_at, turn_tab]
  by_cases h : j.val < 64
  · rw [dif_pos h, dif_pos h]
    unfold kpeAll kpe
    refine congrArg (fun f => rot _ _ f _) (funext fun i => ?_)
    exact (z_at m c t r ⟨768 + i.val, by omega⟩).trans (dif_pos (by show 768 + i.val < 832; omega))
  · rw [dif_neg h, dif_neg h]

theorem q_at (t : Fin cfg0.N) (r : Fin 512) (h : Fin 8) (j : Fin 256) :
    k0_pay12 (F := Ideal) (k0_pay65 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 5 t) r0_8) (ix2 r ⟨256 * h.val + j.val, by omega⟩)
    = if hj : j.val < 192 then qrow (zAll (by decide) (m (c.tc.loc main_arg0)) (m (c.tc.loc main_arg1)) (m (c.tc.loc main_arg2)) (rowOf t r)) (fun k => (m (c.tc.loc main_arg3)) (ix2 0 k)) (fun k j => (m (c.tc.loc main_arg5)) (ix3 0 k j)) ⟨h.val * 192 + j.val, by omega⟩ else (0 : EReal) := by
  refine (congrArg (fun w => k0_pay12 (F := Ideal) _ w _) (ld8 (iblk m c 5 t))).trans ?_
  refine (pay12_at _ _ r _).trans ?_
  simp only [cq_at, iblk5_at]
  by_cases hj : j.val < 192
  · simp only [dif_pos hj]
    rfl
  · simp only [dif_neg hj, mul_zero, Finset.sum_const_zero]

theorem kn_row_at (t : Fin cfg0.N) (r : Fin 512) (h : Fin 8) (j : Fin 128) :
    k0_pay37 (F := Ideal) (k0_pay68 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 6 t) r0_25) (ix2 r ⟨128 * h.val + j.val, by omega⟩)
    = ∑ k, latAll (by decide) (m (c.tc.loc main_arg0)) (m (c.tc.loc main_arg1)) (m (c.tc.loc main_arg2)) (m (c.tc.loc main_arg4)) (rowOf t r) k * (m (c.tc.loc main_arg6)) (ix4 0 k h j) := by
  refine (congrArg (fun w => k0_pay37 (F := Ideal) _ w _) (ld25 (iblk m c 6 t))).trans ?_
  refine (pay37_at _ _ r _).trans ?_
  simp only [lat_at, iblk6_at]

theorem v_row_at (t : Fin cfg0.N) (r : Fin 512) (h : Fin 8) (j : Fin 128) :
    k0_pay38 (F := Ideal) (k0_pay68 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 7 t) r0_26) (ix2 ⟨128 * h.val + j.val, by omega⟩ r)
    = vAll (by decide) (m (c.tc.loc main_arg0)) (m (c.tc.loc main_arg1)) (m (c.tc.loc main_arg2)) (m (c.tc.loc main_arg4)) (m (c.tc.loc main_arg7)) (rowOf t r) h j := by
  refine (congrArg (fun w => k0_pay38 (F := Ideal) _ w _) (ld26 (iblk m c 7 t))).trans ?_
  refine (pay38_at _ _ _ r).trans ?_
  unfold vAll
  refine Finset.sum_congr rfl fun k _ => ?_
  rw [lat_at, iblk7_at, mul_comm]

/-- A head's query lanes. -/
theorem qLanes_eq (z : Fin 832 → EReal) (g : Fin 512 → EReal) (w : Fin 512 → Fin 1536 → EReal) (T : Fin 2048 → EReal) (co si : Fin 32 → EReal) (h : Fin 8) (j : Fin 256)
    (hT : ∀ j : Fin 256, T ⟨256 * h.val + j.val, by omega⟩ = if hj : j.val < 192 then qrow z g w ⟨h.val * 192 + j.val, by omega⟩ else (0 : EReal)) :
    qLanes T (tabC co) (tabN si) (tabS si) h j = qhead co si (qrow z g w) h j := by
  unfold qLanes qhead
  by_cases h1 : j.val < 128
  · rw [dif_pos h1, dif_pos h1, hT j, dif_pos (by omega)]
  · rw [dif_neg h1, dif_neg h1, turn_tab]
    by_cases h2 : j.val < 192
    · rw [dif_pos h2, dif_pos (by show j.val - 128 < 64; omega)]
      refine congrArg (fun f => rot _ _ f _ * _) (funext fun i => ?_)
      have e : (⟨256 * h.val + 128 + i.val, by omega⟩ : Fin 2048) = ⟨256 * h.val + (⟨128 + i.val, by omega⟩ : Fin 256).val, by show 256 * h.val + (128 + i.val) < 2048; omega⟩ := Fin.ext (by show 256 * h.val + 128 + i.val = 256 * h.val + (128 + i.val); omega)
      have e' : (⟨h.val * 192 + 128 + i.val, by omega⟩ : Fin 1536) = ⟨h.val * 192 + (⟨128 + i.val, by omega⟩ : Fin 256).val, by show h.val * 192 + (128 + i.val) < 1536; omega⟩ := Fin.ext (by show h.val * 192 + 128 + i.val = h.val * 192 + (128 + i.val); omega)
      show T ⟨256 * h.val + 128 + i.val, _⟩ = qrow z g w ⟨h.val * 192 + 128 + i.val, _⟩
      rw [e, e', hT ⟨128 + i.val, by omega⟩, dif_pos (by show 128 + i.val < 192; omega)]
    · rw [dif_neg h2, dif_neg (by show ¬ (j.val - 128 < 64); omega), zero_mul]

/-- A head's key lanes. -/
theorem kLanes_eq (l : Fin 256 → EReal) (p : Fin 64 → EReal) (w : Fin 256 → Fin 128 → EReal) (K : Fin 1024 → EReal) (P : Fin 128 → EReal) (h : Fin 8) (j : Fin 256)
    (hK : ∀ j : Fin 128, K ⟨128 * h.val + j.val, by omega⟩ = ∑ r, l r * w r j)
    (hP : ∀ j : Fin 128, P j = if hj : j.val < 64 then p ⟨j.val, hj⟩ else (0 : EReal)) : kLanes K P h j = khead l p w j := by
  unfold kLanes khead
  by_cases h1 : j.val < 128
  · rw [dif_pos h1, dif_pos h1]
    exact hK ⟨j.val, h1⟩
  · rw [dif_neg h1, dif_neg h1, hP]
    by_cases h2 : j.val < 192
    · rw [dif_pos h2, dif_pos (by show j.val - 128 < 64; omega)]
    · rw [dif_neg h2, dif_neg (by show ¬ (j.val - 128 < 64); omega)]

end Cert.Kernel4Ideal.Proj
end
-- ==== Proof.Proj.Value.lean ====
module

public import proofs.«01_k».proof.Proof.Proj.Rows

@[expose] public section

set_option maxRecDepth 16384
set_option maxHeartbeats 1000000

noncomputable section

namespace Cert.Kernel4Ideal.Proj

open Cert.Kernel4Ideal Cert.Kernel4Ideal.Gen Cert.Proj
open Idealize.ShloMosaic Idealize.ShloMosaic.TcCoe

variable (m : (ℓ : Loc nD τ sig) → Buf (Elt Ideal) ℓ) (c : Dev nD)

/-- The array's row of a coordinate, and its position. -/
abbrev rowAt (R : Fin 16384) : Fin (8192 * 2) := ⟨R.val, R.isLt⟩
abbrev posAt (R : Fin 16384) : BitVec 32 := BitVec.ofNat 32 (R.val % 8192)

theorem q_out (t : Fin cfg0.N) (y : S8x512x256.Idx) : out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = qAll (by decide) (posOf t ⟨(y 1).val, (y 1).isLt⟩) (m (c.tc.loc main_arg0)) (m (c.tc.loc main_arg1)) (m (c.tc.loc main_arg2)) (m (c.tc.loc main_arg3)) (m (c.tc.loc main_arg5)) (rowOf t ⟨(y 1).val, (y 1).isLt⟩) ⟨(y 0).val, (y 0).isLt⟩ ⟨(y 2).val, (y 2).isLt⟩ := by
  refine (q_tile _ _ _ _ _ _ _ _ _ _ _ y).trans ?_
  refine (congrArg₂ (fun f g => qLanes _ f g _ (y 0) (y 2)) (c_at m c t (y 1)) (n_at m c t (y 1))).trans ?_
  refine (congrArg (fun g => qLanes _ _ _ g (y 0) (y 2)) (s_at m c t (y 1))).trans ?_
  exact qLanes_eq _ _ _ _ _ _ _ _ fun j => q_at m c t (y 1) (y 0) j

theorem k_out (t : Fin cfg0.N) (y : S8x512x256.Idx) : out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = kAll (by decide) (posOf t ⟨(y 1).val, (y 1).isLt⟩) (m (c.tc.loc main_arg0)) (m (c.tc.loc main_arg1)) (m (c.tc.loc main_arg2)) (m (c.tc.loc main_arg4)) (m (c.tc.loc main_arg6)) (rowOf t ⟨(y 1).val, (y 1).isLt⟩) ⟨(y 0).val, (y 0).isLt⟩ ⟨(y 2).val, (y 2).isLt⟩ := by
  refine (k_tile _ _ _ _ _ _ _ _ _ _ _ y).trans ?_
  exact kLanes_eq _ _ _ _ _ _ _ (fun j => kn_row_at m c t (y 1) (y 0) j) (fun j => pe_at m c t (y 1) j)

theorem v_out (t : Fin cfg0.N) (y : S8x1x128x512.Idx) : out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = vAll (by decide) (m (c.tc.loc main_arg0)) (m (c.tc.loc main_arg1)) (m (c.tc.loc main_arg2)) (m (c.tc.loc main_arg4)) (m (c.tc.loc main_arg7)) (rowOf t ⟨(y 3).val, (y 3).isLt⟩) ⟨(y 0).val, (y 0).isLt⟩ ⟨(y 2).val, (y 2).isLt⟩ := by
  refine (v_tile _ _ _ _ _ _ _ _ _ _ _ y).trans ?_
  exact v_row_at m c t (y 3) (y 0) (y 2)

theorem ckv_out (t : Fin cfg0.N) (y : S512x256.Idx) : out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = latAll (by decide) (m (c.tc.loc main_arg0)) (m (c.tc.loc main_arg1)) (m (c.tc.loc main_arg2)) (m (c.tc.loc main_arg4)) (rowOf t ⟨(y 0).val, (y 0).isLt⟩) ⟨(y 1).val, (y 1).isLt⟩ := by
  unfold out0_14
  rw [View.canon_cons_unit_lit _ _ _ (by decide)]
  have e : y = ix2 (⟨(y 0).val, (y 0).isLt⟩ : Fin 512) (⟨(y 1).val, (y 1).isLt⟩ : Fin 256) := funext fun a => by
    match a with
    | ⟨0, _⟩ => rfl
    | ⟨1, _⟩ => rfl
  refine (congrArg _ e).trans ?_
  exact lat_at m c t _ _

theorem kpe_out (t : Fin cfg0.N) (y : S512x64.Idx) : out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = kpeAll (by decide) (posOf t ⟨(y 0).val, (y 0).isLt⟩) (m (c.tc.loc main_arg0)) (m (c.tc.loc main_arg1)) (m (c.tc.loc main_arg2)) (rowOf t ⟨(y 0).val, (y 0).isLt⟩) ⟨(y 1).val, (y 1).isLt⟩ := by
  unfold out0_15
  rw [View.canon_cons_unit_lit _ _ _ (by decide)]
  have e : y = ix2 (⟨(y 0).val, (y 0).isLt⟩ : Fin 512) (⟨(y 1).val, (y 1).isLt⟩ : Fin 64) := funext fun a => by
    match a with
    | ⟨0, _⟩ => rfl
    | ⟨1, _⟩ => rfl
  refine (congrArg _ e).trans ?_
  refine (pay11_at _ _ _ _ _ _).trans ?_
  refine (pe_at m c t _ _).trans ?_
  exact dif_pos (y 1).isLt

/-! The outputs' arrays after the run. -/

theorem result11 : (dats m 0 c).arrAt 11 cfg0.N = fun i : S8x16384x256.Idx =>
      qAll (by decide) (posAt ⟨(i 1).val, (i 1).isLt⟩) (m (c.tc.loc main_arg0)) (m (c.tc.loc main_arg1)) (m (c.tc.loc main_arg2)) (m (c.tc.loc main_arg3)) (m (c.tc.loc main_arg5)) (rowAt ⟨(i 1).val, (i 1).isLt⟩) ⟨(i 0).val, (i 0).isLt⟩ ⟨(i 2).val, (i 2).isLt⟩ := by
  refine (dats m 0 c).arrAt_eq_of_covers 11 _ (by decide +kernel) fun t _ y => ?_
  have e := index11 t
  blk_simp
  rw [after0_11]
  refine (q_out m c t y).trans ?_
  have h0 : (y 0).val = win0_11.index t 0 * 8 + (y 0).val := by rw [e]; simp
  have h1 : t.val * 512 + (y 1).val = win0_11.index t 1 * 512 + (y 1).val := by rw [e]; rfl
  have h2 : (y 2).val = win0_11.index t 2 * 256 + (y 2).val := by rw [e]; simp
  refine congr (congr (congrArg₂ (fun p r => qAll _ p _ _ _ _ _ r) (congrArg (fun n => BitVec.ofNat 32 (n % 8192)) h1) (Fin.ext h1)) (Fin.ext h0)) (Fin.ext h2)

theorem result12 : (dats m 0 c).arrAt 12 cfg0.N = fun i : S8x16384x256.Idx =>
      kAll (by decide) (posAt ⟨(i 1).val, (i 1).isLt⟩) (m (c.tc.loc main_arg0)) (m (c.tc.loc main_arg1)) (m (c.tc.loc main_arg2)) (m (c.tc.loc main_arg4)) (m (c.tc.loc main_arg6)) (rowAt ⟨(i 1).val, (i 1).isLt⟩) ⟨(i 0).val, (i 0).isLt⟩ ⟨(i 2).val, (i 2).isLt⟩ := by
  refine (dats m 0 c).arrAt_eq_of_covers 12 _ (by decide +kernel) fun t _ y => ?_
  have e := index12 t
  blk_simp
  rw [after0_12]
  refine (k_out m c t y).trans ?_
  have h0 : (y 0).val = win0_12.index t 0 * 8 + (y 0).val := by rw [e]; simp
  have h1 : t.val * 512 + (y 1).val = win0_12.index t 1 * 512 + (y 1).val := by rw [e]; rfl
  have h2 : (y 2).val = win0_12.index t 2 * 256 + (y 2).val := by rw [e]; simp
  refine congr (congr (congrArg₂ (fun p r => kAll _ p _ _ _ _ _ r) (congrArg (fun n => BitVec.ofNat 32 (n % 8192)) h1) (Fin.ext h1)) (Fin.ext h0)) (Fin.ext h2)

theorem result14 : (dats m 0 c).arrAt 14 cfg0.N = fun i : S16384x256.Idx =>
      latAll (by decide) (m (c.tc.loc main_arg0)) (m (c.tc.loc main_arg1)) (m (c.tc.loc main_arg2)) (m (c.tc.loc main_arg4)) (rowAt ⟨(i 0).val, (i 0).isLt⟩) ⟨(i 1).val, (i 1).isLt⟩ := by
  refine (dats m 0 c).arrAt_eq_of_covers 14 _ (by decide +kernel) fun t _ y => ?_
  have e := index14 t
  blk_simp
  rw [after0_14]
  refine (ckv_out m c t y).trans ?_
  have h0 : t.val * 512 + (y 0).val = win0_14.index t 0 * 512 + (y 0).val := by rw [e]; rfl
  have h1 : (y 1).val = win0_14.index t 1 * 256 + (y 1).val := by rw [e]; simp
  refine congr (congrArg (fun r => latAll _ _ _ _ _ r) (Fin.ext h0)) (Fin.ext h1)

theorem result15 : (dats m 0 c).arrAt 15 cfg0.N = fun i : S16384x64.Idx =>
      kpeAll (by decide) (posAt ⟨(i 0).val, (i 0).isLt⟩) (m (c.tc.loc main_arg0)) (m (c.tc.loc main_arg1)) (m (c.tc.loc main_arg2)) (rowAt ⟨(i 0).val, (i 0).isLt⟩) ⟨(i 1).val, (i 1).isLt⟩ := by
  refine (dats m 0 c).arrAt_eq_of_covers 15 _ (by decide +kernel) fun t _ y => ?_
  have e := index15 t
  blk_simp
  rw [after0_15]
  refine (kpe_out m c t y).trans ?_
  have h0 : t.val * 512 + (y 0).val = win0_15.index t 0 * 512 + (y 0).val := by rw [e]; rfl
  have h1 : (y 1).val = win0_15.index t 1 * 64 + (y 1).val := by rw [e]; simp
  refine congr (congrArg₂ (fun p r => kpeAll _ p _ _ _ r) (congrArg (fun n => BitVec.ofNat 32 (n % 8192)) h0) (Fin.ext h0)) (Fin.ext h1)

end Cert.Kernel4Ideal.Proj
end
-- ==== Proof.Proj.Ref.lean ====
module

public import proofs.«01_k».proof.Proof.Proj.Spec
public import proofs.«01_k».proof.Proof.Gen.Reference4Ideal.Read

@[expose] public section

set_option maxRecDepth 16384
set_option maxHeartbeats 1000000

noncomputable section

namespace Cert.Reference4Ideal.Proj

open Cert.Reference4Ideal Cert.Reference4Ideal.Read Cert.Proj
open Idealize.ShloMosaic

variable (x0 : (SX 2 8192).Idx → EReal) (x1 : S4x1024.Idx → EReal) (x2 : S2x1024x832.Idx → EReal) (x3 : S2x512.Idx → EReal) (x4 : S2x256.Idx → EReal)
  (x5 : S2x512x1536.Idx → EReal) (x6 x7 : S2x256x8x128.Idx → EReal) (b : Fin 2) (q : Fin 8192)

theorem v15_at (j : Fin 1024) : val_main_v15 (F := Ideal) x0 x1 (ix3 b q j)
    = rms (Ideal.ofBits .f32 0x44800000#32) (fun j => x0 (ix3 b q j)) (fun j => x1 (ix2 1 j)) j := by
  unfold rms
  pointwise [val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1]

/-- The row's first projection. -/
abbrev zr (b : Fin 2) (q : Fin 8192) : Fin 832 → EReal := zin (fun k => x0 (ix3 b q k)) (fun k => x1 (ix2 1 k)) (fun k j => x2 (ix3 0 k j))

theorem v18_at (j : Fin 832) : val_main_v18 (F := Ideal) x0 x1 x2 (ix3 b q j) = zr x0 x1 x2 b q j := by
  unfold val_main_v18 zr zin
  simp only [← v15_at]
  generalize val_main_v15 (F := Ideal) x0 x1 = y
  pointwise [val_main_v17, val_main_v16]

theorem v36_at (j : Fin 512) : val_main_v36 (F := Ideal) x0 x1 x2 x3 (ix3 b q j)
    = rms (Ideal.ofBits .f32 0x44000000#32) (fun j : Fin 512 => zr x0 x1 x2 b q ⟨j.val, by omega⟩) (fun j => x3 (ix2 0 j)) j := by
  unfold val_main_v36 val_main_v33 val_main_v32 val_main_v31 val_main_v30 val_main_v28 val_main_v26 val_main_v25 val_main_v24 val_main_v19
  simp only [← v18_at]
  generalize val_main_v18 (F := Ideal) x0 x1 x2 = y
  unfold rms
  pointwise [val_main_v35, val_main_v34, val_main_v23, val_main_v22, val_main_v29, val_main_v27, val_main_cst_2, val_main_cst_3, val_main_cst_4]

theorem v39_at (j : Fin 1536) : val_main_v39 (F := Ideal) x0 x1 x2 x3 x5 (ix3 b q j)
    = qrow (zr x0 x1 x2 b q) (fun k => x3 (ix2 0 k)) (fun k j => x5 (ix3 0 k j)) j := by
  unfold val_main_v39 qrow
  simp only [← v36_at]
  generalize val_main_v36 (F := Ideal) x0 x1 x2 x3 = y
  pointwise [val_main_v38, val_main_v37]

theorem v40_at (h : Fin 8) (j : Fin 192) : val_main_v40 (F := Ideal) x0 x1 x2 x3 x5 (ix4 b q h j)
    = val_main_v39 (F := Ideal) x0 x1 x2 x3 x5 (ix3 b q ⟨h.val * 192 + j.val, by omega⟩) := by
  rw [val_main_v40_apply]
  generalize val_main_v39 (F := Ideal) x0 x1 x2 x3 x5 = y
  refine congrArg y (funext fun a => Fin.ext ?_)
  match a with
  | ⟨0, _⟩ => show (((b.val * 8192 + q.val) * 8 + h.val) * 192 + j.val) / 12582912 = b.val; omega
  | ⟨1, _⟩ => show (((b.val * 8192 + q.val) * 8 + h.val) * 192 + j.val) / 1536 % 8192 = q.val; omega
  | ⟨2, _⟩ => show (((b.val * 8192 + q.val) * 8 + h.val) * 192 + j.val) % 1536 = h.val * 192 + j.val; omega

theorem rot_eq (c s : Fin 32 → EReal) (t : Fin 64 → EReal) (j : Fin 64) :
    (if h : j.val < 32 then t ⟨j.val, by omega⟩ * c ⟨j.val, h⟩ - t ⟨32 + j.val, by omega⟩ * s ⟨j.val, h⟩
      else t ⟨j.val - 32, by omega⟩ * s ⟨j.val - 32, by omega⟩ + t ⟨32 + (j.val - 32), by omega⟩ * c ⟨j.val - 32, by omega⟩) = rot c s t j := by
  unfold rot
  by_cases h : j.val < 32
  · rw [dif_pos h, dif_pos h, sub_eq_add_neg, mul_neg]
    simp only [Nat.add_comm 32]
  · rw [dif_neg h, dif_neg h, add_comm]
    have e : (⟨32 + (j.val - 32), by omega⟩ : Fin 64) = j := Fin.ext (by show 32 + (j.val - 32) = j.val; omega)
    rw [e]

theorem v87_at (j : Fin 256) : val_main_v87 (F := Ideal) x0 x1 x2 x4 (ix3 b q j) = lat (zr x0 x1 x2 b q) (fun j => x4 (ix2 0 j)) j := by
  unfold val_main_v87 val_main_v84 val_main_v83 val_main_v82 val_main_v81 val_main_v79 val_main_v77 val_main_v76 val_main_v75 val_main_v20 lat
  simp only [← v18_at]
  generalize val_main_v18 (F := Ideal) x0 x1 x2 = y
  unfold rms
  pointwise [val_main_v86, val_main_v85, val_main_v74, val_main_v73, val_main_v80, val_main_v78, val_main_cst_7, val_main_cst_8, val_main_cst_9]

theorem v54_at (f : Fin 32) : val_main_v54 (F := Ideal) (ix2 q f) = angle (BitVec.ofNat 32 q.val) f := by
  unfold angle
  pointwise [val_main_v54, val_main_v53, val_main_v52, val_main_v51, val_main_v50, val_main_v49, val_main_v48, val_main_v47, val_main_v46, val_main_v45, val_main_v44, val_main_v43, val_main_v0, val_main_cst_5, val_main_cst_6]

theorem v99_at (f : Fin 32) : val_main_v99 (F := Ideal) (ix2 q f) = angle (BitVec.ofNat 32 q.val) f := by
  unfold angle
  pointwise [val_main_v99, val_main_v98, val_main_v97, val_main_v96, val_main_v95, val_main_v94, val_main_v93, val_main_v92, val_main_v91, val_main_v90, val_main_v89, val_main_v88, val_main_v0, val_main_cst_10, val_main_cst_11]

theorem v116_at (j : Fin 64) : val_main_v116 (F := Ideal) x0 x1 x2 (ix3 b q j)
    = kpe (cosAt (BitVec.ofNat 32 q.val)) (sinAt (BitVec.ofNat 32 q.val)) (zr x0 x1 x2 b q) j := by
  unfold val_main_v116 val_main_v115 val_main_v114 val_main_v112 val_main_v110 val_main_v109 val_main_v107 val_main_v105 val_main_v104 val_main_v21 kpe rot cosAt sinAt
  simp only [← v18_at, ← v99_at]
  unfold val_main_v113 val_main_v111 val_main_v108 val_main_v106 val_main_v103 val_main_v102 val_main_v101 val_main_v100
  generalize val_main_v18 (F := Ideal) x0 x1 x2 = y
  generalize val_main_v99 (F := Ideal) = a
  pointwise []
  exact rot_eq (fun f => Ideal.cos (a (ix2 q f))) (fun f => Ideal.sin (a (ix2 q f))) (fun i => y (ix3 b q ⟨768 + i.val, by omega⟩)) j

theorem v71_at (h : Fin 8) (j : Fin 64) : val_main_v71 (F := Ideal) x0 x1 x2 x3 x5 (ix4 b q h j)
    = rot (cosAt (BitVec.ofNat 32 q.val)) (sinAt (BitVec.ofNat 32 q.val)) (fun i => val_main_v40 (F := Ideal) x0 x1 x2 x3 x5 (ix4 b q h ⟨128 + i.val, by omega⟩)) j := by
  unfold val_main_v71 val_main_v70 val_main_v69 val_main_v67 val_main_v65 val_main_v64 val_main_v62 val_main_v60 val_main_v59 val_main_v42 rot cosAt sinAt
  simp only [← v54_at]
  unfold val_main_v68 val_main_v66 val_main_v63 val_main_v61 val_main_v58 val_main_v57 val_main_v56 val_main_v55
  generalize val_main_v40 (F := Ideal) x0 x1 x2 x3 x5 = y
  generalize val_main_v54 (F := Ideal) = a
  pointwise []
  exact rot_eq (fun f => Ideal.cos (a (ix2 q f))) (fun f => Ideal.sin (a (ix2 q f))) (fun i => y (ix4 b q h ⟨128 + i.val, by omega⟩)) j

/-- A head's query. -/
theorem v132_at (h : Fin 8) (j : Fin 256) : val_main_v132 (F := Ideal) x0 x1 x2 x3 x5 (ix4 h b q j)
    = qhead (cosAt (BitVec.ofNat 32 q.val)) (sinAt (BitVec.ofNat 32 q.val)) (qrow (zr x0 x1 x2 b q) (fun k => x3 (ix2 0 k)) (fun k j => x5 (ix3 0 k j))) h j := by
  have e0 : ∀ j : Fin 192, val_main_v40 (F := Ideal) x0 x1 x2 x3 x5 (ix4 b q h j) = qrow (zr x0 x1 x2 b q) (fun k => x3 (ix2 0 k)) (fun k j => x5 (ix3 0 k j)) ⟨h.val * 192 + j.val, by omega⟩ :=
    fun j => (v40_at x0 x1 x2 x3 x5 b q h j).trans (v39_at x0 x1 x2 x3 x5 b q _)
  have e1 := v71_at x0 x1 x2 x3 x5 b q h
  unfold val_main_v132 val_main_v131 val_main_v129 val_main_v72 val_main_v41
  generalize val_main_v71 (F := Ideal) x0 x1 x2 x3 x5 = y at e1 ⊢
  generalize val_main_v40 (F := Ideal) x0 x1 x2 x3 x5 = z at e0 e1 ⊢
  pointwise [val_main_v130, val_main_v128, val_main_cst_12, val_main_cst_13]
  simp only [e1, e0]
  unfold qhead
  by_cases h1 : j.val < 128
  · rw [dif_pos (by omega : j.val < 192), dif_pos h1, dif_pos h1]
  · by_cases h2 : j.val < 192
    · rw [dif_pos h2, dif_neg h1, dif_neg h1, dif_pos h2]
      simp only [Nat.add_assoc]
    · rw [dif_neg h2, dif_neg h1, dif_neg h2]

/-- A head's key. -/
theorem v138_at (h : Fin 8) (j : Fin 256) : val_main_v138 (F := Ideal) x0 x1 x2 x4 x6 (ix4 h b q j)
    = khead (lat (zr x0 x1 x2 b q) (fun j => x4 (ix2 0 j))) (kpe (cosAt (BitVec.ofNat 32 q.val)) (sinAt (BitVec.ofNat 32 q.val)) (zr x0 x1 x2 b q)) (fun k n => x6 (ix4 0 k h n)) j := by
  have e0 := v87_at x0 x1 x2 x4 b q
  have e1 := v116_at x0 x1 x2 b q
  unfold val_main_v138 val_main_v137 val_main_v135 val_main_v124 val_main_v123 val_main_v119
  generalize val_main_v116 (F := Ideal) x0 x1 x2 = y at e1 ⊢
  generalize val_main_v87 (F := Ideal) x0 x1 x2 x4 = z at e0 ⊢
  pointwise [val_main_v136, val_main_v118, val_main_v117, val_main_cst_14]
  simp only [e1, e0]
  unfold khead
  by_cases h1 : j.val < 128
  · rw [dif_pos (by omega : j.val < 192), dif_pos h1, dif_pos h1]
  · by_cases h2 : j.val < 192
    · rw [dif_pos h2, dif_neg h1, dif_neg h1, dif_pos h2]
    · rw [dif_neg h2, dif_neg h1, dif_neg h2]

/-- A head's value. -/
theorem v122_at (h : Fin 8) (n : Fin 128) : val_main_v122 (F := Ideal) x0 x1 x2 x4 x7 (ix4 b q h n)
    = ∑ k, lat (zr x0 x1 x2 b q) (fun j => x4 (ix2 0 j)) k * x7 (ix4 0 k h n) := by
  have e0 := v87_at x0 x1 x2 x4 b q
  unfold val_main_v122
  generalize val_main_v87 (F := Ideal) x0 x1 x2 x4 = z at e0 ⊢
  pointwise [val_main_v121, val_main_v120]
  simp only [e0]

/-! The reference's results. -/

theorem result14 : val_main_v141 (F := Ideal) x0 x1 x2 x4 = fun i => latAll (by decide) x0 x1 x2 x4 ⟨(i 0).val, (i 0).isLt⟩ ⟨(i 1).val, (i 1).isLt⟩ := by
  funext i
  have h0 : (i 0).val < 16384 := (i 0).isLt
  have h1 : (i 1).val < 256 := (i 1).isLt
  rw [val_main_v141_apply]
  have e : idx_main_v141 i = ix3 ⟨(i 0).val / 8192, by omega⟩ ⟨(i 0).val % 8192, by omega⟩ ⟨(i 1).val, h1⟩ := funext fun a => Fin.ext (by
    match a with
    | ⟨0, _⟩ => show ((i 0).val * 256 + (i 1).val) / 2097152 = (i 0).val / 8192; omega
    | ⟨1, _⟩ => show ((i 0).val * 256 + (i 1).val) / 256 % 8192 = (i 0).val % 8192; omega
    | ⟨2, _⟩ => show ((i 0).val * 256 + (i 1).val) % 256 = (i 1).val; omega)
  rw [e, v87_at]
  rfl

theorem result15 : val_main_v142 (F := Ideal) x0 x1 x2 = fun i => kpeAll (by decide) (BitVec.ofNat 32 ((i 0).val % 8192)) x0 x1 x2 ⟨(i 0).val, (i 0).isLt⟩ ⟨(i 1).val, (i 1).isLt⟩ := by
  funext i
  have h0 : (i 0).val < 16384 := (i 0).isLt
  have h1 : (i 1).val < 64 := (i 1).isLt
  rw [val_main_v142_apply]
  have e : idx_main_v142 i = ix3 ⟨(i 0).val / 8192, by omega⟩ ⟨(i 0).val % 8192, by omega⟩ ⟨(i 1).val, h1⟩ := funext fun a => Fin.ext (by
    match a with
    | ⟨0, _⟩ => show ((i 0).val * 64 + (i 1).val) / 524288 = (i 0).val / 8192; omega
    | ⟨1, _⟩ => show ((i 0).val * 64 + (i 1).val) / 64 % 8192 = (i 0).val % 8192; omega
    | ⟨2, _⟩ => show ((i 0).val * 64 + (i 1).val) % 64 = (i 1).val; omega)
  rw [e, v116_at]
  rfl

theorem result11 : val_main_v134 (F := Ideal) x0 x1 x2 x3 x5 = fun i => qAll (by decide) (BitVec.ofNat 32 ((i 1).val % 8192)) x0 x1 x2 x3 x5 ⟨(i 1).val, (i 1).isLt⟩ ⟨(i 0).val, (i 0).isLt⟩ ⟨(i 2).val, (i 2).isLt⟩ := by
  funext i
  have h0 : (i 0).val < 8 := (i 0).isLt
  have h1 : (i 1).val < 16384 := (i 1).isLt
  have h2 : (i 2).val < 256 := (i 2).isLt
  rw [val_main_v134_apply, val_main_v133_apply]
  have e : idx_main_v133 i = ix4 ⟨(i 0).val, h0⟩ ⟨(i 1).val / 8192, by omega⟩ ⟨(i 1).val % 8192, by omega⟩ ⟨(i 2).val, h2⟩ := funext fun a => Fin.ext (by
    match a with
    | ⟨0, _⟩ => show (((i 0).val * 16384 + (i 1).val) * 256 + (i 2).val) / 4194304 = (i 0).val; omega
    | ⟨1, _⟩ => show (((i 0).val * 16384 + (i 1).val) * 256 + (i 2).val) / 2097152 % 2 = (i 1).val / 8192; omega
    | ⟨2, _⟩ => show (((i 0).val * 16384 + (i 1).val) * 256 + (i 2).val) / 256 % 8192 = (i 1).val % 8192; omega
    | ⟨3, _⟩ => show (((i 0).val * 16384 + (i 1).val) * 256 + (i 2).val) % 256 = (i 2).val; omega)
  rw [e, v132_at]
  rfl

theorem result12 : val_main_v140 (F := Ideal) x0 x1 x2 x4 x6 = fun i => kAll (by decide) (BitVec.ofNat 32 ((i 1).val % 8192)) x0 x1 x2 x4 x6 ⟨(i 1).val, (i 1).isLt⟩ ⟨(i 0).val, (i 0).isLt⟩ ⟨(i 2).val, (i 2).isLt⟩ := by
  funext i
  have h0 : (i 0).val < 8 := (i 0).isLt
  have h1 : (i 1).val < 16384 := (i 1).isLt
  have h2 : (i 2).val < 256 := (i 2).isLt
  rw [val_main_v140_apply, val_main_v139_apply]
  have e : idx_main_v139 i = ix4 ⟨(i 0).val, h0⟩ ⟨(i 1).val / 8192, by omega⟩ ⟨(i 1).val % 8192, by omega⟩ ⟨(i 2).val, h2⟩ := funext fun a => Fin.ext (by
    match a with
    | ⟨0, _⟩ => show (((i 0).val * 16384 + (i 1).val) * 256 + (i 2).val) / 4194304 = (i 0).val; omega
    | ⟨1, _⟩ => show (((i 0).val * 16384 + (i 1).val) * 256 + (i 2).val) / 2097152 % 2 = (i 1).val / 8192; omega
    | ⟨2, _⟩ => show (((i 0).val * 16384 + (i 1).val) * 256 + (i 2).val) / 256 % 8192 = (i 1).val % 8192; omega
    | ⟨3, _⟩ => show (((i 0).val * 16384 + (i 1).val) * 256 + (i 2).val) % 256 = (i 2).val; omega)
  rw [e, v138_at]
  rfl

theorem result13 : val_main_v127 (F := Ideal) x0 x1 x2 x4 x7 = fun i => vAll (by decide) x0 x1 x2 x4 x7 (chunkRow ⟨(i 1).val, (i 1).isLt⟩ ⟨(i 3).val, (i 3).isLt⟩) ⟨(i 0).val, (i 0).isLt⟩ ⟨(i 2).val, (i 2).isLt⟩ := by
  funext i
  have h0 : (i 0).val < 8 := (i 0).isLt
  have h1 : (i 1).val < 16 := (i 1).isLt
  have h2 : (i 2).val < 128 := (i 2).isLt
  have h3 : (i 3).val < 1024 := (i 3).isLt
  rw [val_main_v127_apply, val_main_v126_apply, val_main_v125_apply]
  have e : idx_main_v125 (idx_main_v126 i) = ix4 ⟨((i 1).val * 1024 + (i 3).val) / 8192, by omega⟩ ⟨((i 1).val * 1024 + (i 3).val) % 8192, by omega⟩ ⟨(i 0).val, h0⟩ ⟨(i 2).val, h2⟩ := funext fun a => Fin.ext (by
    match a with
    | ⟨0, _⟩ => show ((((i 1).val * 1024 + (i 3).val) * 8 + (i 0).val) * 128 + (i 2).val) / 8388608 = ((i 1).val * 1024 + (i 3).val) / 8192; omega
    | ⟨1, _⟩ => show ((((i 1).val * 1024 + (i 3).val) * 8 + (i 0).val) * 128 + (i 2).val) / 1024 % 8192 = ((i 1).val * 1024 + (i 3).val) % 8192; omega
    | ⟨2, _⟩ => show ((((i 1).val * 1024 + (i 3).val) * 8 + (i 0).val) * 128 + (i 2).val) / 128 % 8 = (i 0).val; omega
    | ⟨3, _⟩ => show ((((i 1).val * 1024 + (i 3).val) * 8 + (i 0).val) * 128 + (i 2).val) % 128 = (i 2).val; omega)
  rw [e, v122_at]
  rfl

end Cert.Reference4Ideal.Proj
end
-- ==== Proof.Proj.Chunk.lean ====
module

public import proofs.«01_k».proof.Proof.Proj.Value

@[expose] public section

set_option maxRecDepth 16384
set_option maxHeartbeats 200000

noncomputable section

namespace Cert.Kernel4Ideal.Proj

open Cert.Kernel4Ideal Cert.Kernel4Ideal.Gen Cert.Proj
open Idealize.ShloMosaic Idealize.ShloMosaic.TcCoe

variable (m : (ℓ : Loc nD τ sig) → Buf (Elt Ideal) ℓ) (c : Dev nD)

/-- The output's row of a chunk is the tile's row. -/
theorem chunk_eq (t : Fin cfg0.N) (r : Fin 512) (a : Fin 16) (n : Fin 1024) (ha : a.val = t.val / 2) (hn : n.val = t.val % 2 * 512 + r.val) : rowOf t r = chunkRow a n := by
  refine Fin.ext ?_
  show t.val * 512 + r.val = a.val * 1024 + n.val
  omega
theorem vAll_congr {B T : Nat} (hT : 0 < T) (x0 : (SX B T).Idx → EReal) (x1 : (⟨2, ![4, 1024]⟩ : Shape).Idx → EReal) (x2 : (⟨3, ![2, 1024, 832]⟩ : Shape).Idx → EReal)
    (x4 : (⟨2, ![2, 256]⟩ : Shape).Idx → EReal) (x7 : (⟨4, ![2, 256, 8, 128]⟩ : Shape).Idx → EReal) {r r' : Fin (T * B)} {h h' : Fin 8} {n n' : Fin 128} (e : r = r') (e1 : h = h') (e2 : n = n') :
    vAll hT x0 x1 x2 x4 x7 r h n = vAll hT x0 x1 x2 x4 x7 r' h' n' := by
  rw [e, e1, e2]

theorem result13 : (dats m 0 c).arrAt 13 cfg0.N = fun i : S8x16x128x1024.Idx =>
      vAll (by decide) (m (c.tc.loc main_arg0)) (m (c.tc.loc main_arg1)) (m (c.tc.loc main_arg2)) (m (c.tc.loc main_arg4)) (m (c.tc.loc main_arg7)) (chunkRow ⟨(i 1).val, (i 1).isLt⟩ ⟨(i 3).val, (i 3).isLt⟩) ⟨(i 0).val, (i 0).isLt⟩ ⟨(i 2).val, (i 2).isLt⟩ := by
  refine (dats m 0 c).arrAt_eq_of_covers 13 _ (by decide +kernel) fun t _ y => ?_
  have e := index13 t
  blk_simp
  rw [after0_13]
  refine (v_out m c t y).trans ?_
  refine vAll_congr _ _ _ _ _ _ ?_ (Fin.ext ?_) (Fin.ext ?_)
  · refine chunk_eq t _ _ _ ?_ ?_
    · show win0_13.index t 1 = t.val / 2
      rw [e]; rfl
    · show win0_13.index t 3 * 512 + (y 3).val = t.val % 2 * 512 + (y 3).val
      rw [e]; rfl
  · show (y 0).val = win0_13.index t 0 * 8 + (y 0).val
    rw [e]; simp
  · show (y 2).val = win0_13.index t 2 * 128 + (y 2).val
    rw [e]; simp

end Cert.Kernel4Ideal.Proj
end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference
public import proofs.«01_k».proof.Proof.Gen.Pre_finite_scores
public import proofs.«01_k».proof.Proof.Gen.Kernel2
public import proofs.«01_k».proof.Proof.Gen.Kernel2Ideal.Value
public import proofs.«01_k».proof.Proof.Gen.Kernel2.Frame
public import proofs.«01_k».proof.Proof.Gen.Reference2Ideal.Run
public import proofs.«01_k».proof.Proof.Gen.Reference2Ideal.Read
public import proofs.«01_k».proof.Proof.Gen.Reference2
public import proofs.«01_k».proof.Proof.Gen.Kernel6
public import proofs.«01_k».proof.Proof.Gen.Kernel6Ideal.Value
public import proofs.«01_k».proof.Proof.Gen.Kernel6.Frame
public import proofs.«01_k».proof.Proof.Gen.Reference6Ideal.Run
public import proofs.«01_k».proof.Proof.Gen.Reference6Ideal.Read
public import proofs.«01_k».proof.Proof.Gen.Reference6
public import proofs.«01_k».proof.Proof.Gen.Kernel4
public import proofs.«01_k».proof.Proof.Gen.Kernel4Ideal.Value
public import proofs.«01_k».proof.Proof.Gen.Kernel4.Frame
public import proofs.«01_k».proof.Proof.Gen.Reference4Ideal.Run
public import proofs.«01_k».proof.Proof.Gen.Reference4Ideal.Read
public import proofs.«01_k».proof.Proof.Gen.Reference4
public import proofs.«01_k».proof.Proof.FlashK.Frame
public import proofs.«01_k».proof.Proof.Value.Value
public import proofs.«01_k».proof.Proof.Value.Ref
public import proofs.«01_k».proof.Proof.Value.Pre
public import proofs.«01_k».proof.Proof.Ffn.Value
public import proofs.«01_k».proof.Proof.Ffn.Ref
public import proofs.«01_k».proof.Proof.FfnS.Value
public import proofs.«01_k».proof.Proof.FfnS.Ref
public import proofs.«01_k».proof.Proof.Proj.Value
public import proofs.«01_k».proof.Proof.Proj.Ref
public import proofs.«01_k».proof.Proof.Proj.Chunk
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe

/-- The kernel as printed ends, its arguments unchanged and every counter at zero. -/
theorem frame_kernel : Cert.quiescent_Kernel := fun m g _ => Cert.Kernel.Flash.frame m g

/-- The reference, its operations over reals, ends with its arguments unchanged and every counter at zero, -/
theorem frame_refideal : Cert.quiescent_ReferenceIdeal := fun m g _ =>
  (θ_run Cert.ReferenceIdeal.defs _ _).mono (fun r h => ⟨fun c => (h c).2, sem_eq_zero_of_no_sems rfl r.2⟩) (Cert.ReferenceIdeal.Value.run (F := Ideal) m g)

/-- and so does the reference as printed. -/
theorem frame_ref : Cert.quiescent_Reference := fun m g _ =>
  (θ_run Cert.ReferenceIdeal.defs _ _).mono (fun r h => ⟨fun c => (h c).2, sem_eq_zero_of_no_sems rfl r.2⟩) (Cert.ReferenceIdeal.Value.run (F := Bits) m g)

/-- Where the queries and the keys are finite, the kernel and the reference end with the same array: each query's causal attention. -/
theorem algebraic : Cert.algebraic_KernelIdeal_ReferenceIdeal_pre_finite_scores := by
  intro m g m' g' hpre hagree
  refine ⟨fun c => Cert.Spec.outAll (m (c.tc.loc Cert.KernelIdeal.main_arg0)) (m (c.tc.loc Cert.KernelIdeal.main_arg1)) (m (c.tc.loc Cert.KernelIdeal.main_arg2))
    (m (c.tc.loc Cert.KernelIdeal.main_arg3)) (m (c.tc.loc Cert.KernelIdeal.main_arg4)), ?_, ?_⟩
  · refine (θ_run Cert.KernelIdeal.defs _ _).mono (fun r h c => ?_) (θ_run_and (Cert.KernelIdeal.Flash.run_main (F := Ideal) m g) (Cert.KernelIdeal.Flash.frame (F := Ideal) m g))
    exact ⟨(h.1.1.out_eq c 3).trans (Cert.KernelIdeal.Attn.result m c _ _ _ _ _ (Cert.Pre.fin4 _ _ _ _ _ (congrFun (hpre c) _)) rfl rfl rfl rfl rfl), h.2.1 c⟩
  · refine (θ_run Cert.ReferenceIdeal.defs _ _).mono (fun r h c => ?_) (Cert.ReferenceIdeal.Value.run (F := Ideal) m' g')
    refine ⟨(h c).1.trans ?_, (h c).2⟩
    rw [Cert.ReferenceIdeal.Read.val_main_v28_eq, (hagree c).1, (hagree c).2.1, (hagree c).2.2.1, (hagree c).2.2.2.1, (hagree c).2.2.2.2]
    exact Cert.ReferenceIdeal.Attn.result _ _ _ _ _ (Cert.Pre.fin4 _ _ _ _ _ (congrFun (hpre c) _))

/-- The last layer's feed-forward reference ends with its arguments unchanged and every counter at zero, over reals -/
theorem frame_ffn_refideal : Cert.quiescent_Reference2Ideal := fun m g _ =>
  (θ_run Cert.Reference2Ideal.defs _ _).mono (fun r h => ⟨fun c => (h c).2, sem_eq_zero_of_no_sems rfl r.2⟩) (Cert.Reference2Ideal.Value.run (F := Ideal) m g)

/-- and as printed. -/
theorem frame_ffn_ref : Cert.quiescent_Reference2 := fun m g _ =>
  (θ_run Cert.Reference2Ideal.defs _ _).mono (fun r h => ⟨fun c => (h c).2, sem_eq_zero_of_no_sems rfl r.2⟩) (Cert.Reference2Ideal.Value.run (F := Bits) m g)

/-- The last layer's feed-forward call and its reference end with the same array. -/
theorem algebraic_ffn : Cert.algebraic_Kernel2Ideal_Reference2Ideal := by
  intro m g m' g' _ hagree
  refine ⟨fun c => (Cert.Kernel2Ideal.Gen.dats m 0 c).arrAt 8 Cert.Kernel2Ideal.cfg0.N, Cert.Kernel2Ideal.Value.run_blocks m g, ?_⟩
  refine (θ_run Cert.Reference2Ideal.defs _ _).mono (fun r h c => ?_) (Cert.Reference2Ideal.Value.run (F := Ideal) m' g')
  refine ⟨(h c).1.trans ?_, (h c).2⟩
  rw [Cert.Reference2Ideal.Read.val_main_v44_eq, (hagree c).1, (hagree c).2.1, (hagree c).2.2.1, (hagree c).2.2.2.1, (hagree c).2.2.2.2.1, (hagree c).2.2.2.2.2.1,
    (hagree c).2.2.2.2.2.2.1, (hagree c).2.2.2.2.2.2.2]
  exact (Cert.Reference2Ideal.Ffn.result _ _ _ _ _ _ _ _).trans (Cert.Kernel2Ideal.Ffn.result m c).symm

/-- The reference of the feed-forward call on the new tokens ends with its arguments unchanged and every counter at zero, over reals -/
theorem frame_refideal6 : Cert.quiescent_Reference6Ideal := fun m g _ =>
  (θ_run Cert.Reference6Ideal.defs _ _).mono (fun r h => ⟨fun c => (h c).2, sem_eq_zero_of_no_sems rfl r.2⟩) (Cert.Reference6Ideal.Value.run (F := Ideal) m g)

/-- and as printed. -/
theorem frame_ref6 : Cert.quiescent_Reference6 := fun m g _ =>
  (θ_run Cert.Reference6Ideal.defs _ _).mono (fun r h => ⟨fun c => (h c).2, sem_eq_zero_of_no_sems rfl r.2⟩) (Cert.Reference6Ideal.Value.run (F := Bits) m g)

/-- The feed-forward call on the new tokens and its reference end with the same array. -/
theorem algebraic6 : Cert.algebraic_Kernel6Ideal_Reference6Ideal := by
  intro m g m' g' _ hagree
  refine ⟨fun c => (Cert.Kernel6Ideal.Gen.dats m 0 c).arrAt 8 Cert.Kernel6Ideal.cfg0.N, Cert.Kernel6Ideal.Value.run_blocks m g, ?_⟩
  refine (θ_run Cert.Reference6Ideal.defs _ _).mono (fun r h c => ?_) (Cert.Reference6Ideal.Value.run (F := Ideal) m' g')
  refine ⟨(h c).1.trans ?_, (h c).2⟩
  rw [Cert.Reference6Ideal.Read.val_main_v44_eq, (hagree c).1, (hagree c).2.1, (hagree c).2.2.1, (hagree c).2.2.2.1, (hagree c).2.2.2.2.1, (hagree c).2.2.2.2.2.1, (hagree c).2.2.2.2.2.2.1, (hagree c).2.2.2.2.2.2.2]
  exact (Cert.Reference6Ideal.FfnS.result _ _ _ _ _ _ _ _).trans (Cert.Kernel6Ideal.FfnS.result m c).symm

/-- The reference of the projection of the prompt ends with its arguments unchanged and every counter at zero, over reals -/
theorem frame_refideal4 : Cert.quiescent_Reference4Ideal := fun m g _ =>
  (θ_run Cert.Reference4Ideal.defs _ _).mono (fun r h => ⟨fun c => (h c).2.2.2.2.2, sem_eq_zero_of_no_sems rfl r.2⟩) (Cert.Reference4Ideal.Value.run (F := Ideal) m g)

/-- and as printed. -/
theorem frame_ref4 : Cert.quiescent_Reference4 := fun m g _ =>
  (θ_run Cert.Reference4Ideal.defs _ _).mono (fun r h => ⟨fun c => (h c).2.2.2.2.2, sem_eq_zero_of_no_sems rfl r.2⟩) (Cert.Reference4Ideal.Value.run (F := Bits) m g)

/-- The projection of the prompt and its reference end with the same arrays. -/
theorem algebraic4 : Cert.algebraic_Kernel4Ideal_Reference4Ideal := by
  intro m g m' g' _ hagree
  refine ⟨fun c => (Cert.Kernel4Ideal.Gen.dats m 0 c).arrAt 11 Cert.Kernel4Ideal.cfg0.N, fun c => (Cert.Kernel4Ideal.Gen.dats m 0 c).arrAt 12 Cert.Kernel4Ideal.cfg0.N, fun c => (Cert.Kernel4Ideal.Gen.dats m 0 c).arrAt 13 Cert.Kernel4Ideal.cfg0.N, fun c => (Cert.Kernel4Ideal.Gen.dats m 0 c).arrAt 14 Cert.Kernel4Ideal.cfg0.N, fun c => (Cert.Kernel4Ideal.Gen.dats m 0 c).arrAt 15 Cert.Kernel4Ideal.cfg0.N, Cert.Kernel4Ideal.Value.run_blocks m g, ?_⟩
  refine (θ_run Cert.Reference4Ideal.defs _ _).mono (fun r h c => ?_) (Cert.Reference4Ideal.Value.run (F := Ideal) m' g')
  refine ⟨(h c).1.trans ?_, (h c).2.1.trans ?_, (h c).2.2.1.trans ?_, (h c).2.2.2.1.trans ?_, (h c).2.2.2.2.1.trans ?_, (h c).2.2.2.2.2⟩
  · rw [Cert.Reference4Ideal.Read.val_main_v134_eq, (hagree c).1, (hagree c).2.1, (hagree c).2.2.1, (hagree c).2.2.2.1, (hagree c).2.2.2.2.2.1]
    exact (Cert.Reference4Ideal.Proj.result11 _ _ _ _ _).trans (Cert.Kernel4Ideal.Proj.result11 m c).symm
  · rw [Cert.Reference4Ideal.Read.val_main_v140_eq, (hagree c).1, (hagree c).2.1, (hagree c).2.2.1, (hagree c).2.2.2.2.1, (hagree c).2.2.2.2.2.2.1]
    exact (Cert.Reference4Ideal.Proj.result12 _ _ _ _ _).trans (Cert.Kernel4Ideal.Proj.result12 m c).symm
  · rw [Cert.Reference4Ideal.Read.val_main_v127_eq, (hagree c).1, (hagree c).2.1, (hagree c).2.2.1, (hagree c).2.2.2.2.1, (hagree c).2.2.2.2.2.2.2]
    exact (Cert.Reference4Ideal.Proj.result13 _ _ _ _ _).trans (Cert.Kernel4Ideal.Proj.result13 m c).symm
  · rw [Cert.Reference4Ideal.Read.val_main_v141_eq, (hagree c).1, (hagree c).2.1, (hagree c).2.2.1, (hagree c).2.2.2.2.1]
    exact (Cert.Reference4Ideal.Proj.result14 _ _ _ _).trans (Cert.Kernel4Ideal.Proj.result14 m c).symm
  · rw [Cert.Reference4Ideal.Read.val_main_v142_eq, (hagree c).1, (hagree c).2.1, (hagree c).2.2.1]
    exact (Cert.Reference4Ideal.Proj.result15 _ _ _).trans (Cert.Kernel4Ideal.Proj.result15 m c).symm

/-- Everything claimed. -/
theorem claim : Cert.Claim := ⟨Cert.Kernel.Gen.facts, Cert.KernelIdeal.Gen.facts, Cert.ReferenceIdeal.Gen.facts, Cert.Reference.Gen.facts, Cert.Kernel2.Gen.facts,
  Cert.Kernel2Ideal.Gen.facts, Cert.Reference2Ideal.Gen.facts, Cert.Reference2.Gen.facts, Cert.Kernel6.Gen.facts, Cert.Kernel6Ideal.Gen.facts, Cert.Reference6Ideal.Gen.facts, Cert.Reference6.Gen.facts,
  Cert.Kernel4.Gen.facts, Cert.Kernel4Ideal.Gen.facts, Cert.Reference4Ideal.Gen.facts, Cert.Reference4.Gen.facts,
  Cert.Pre_finite_scores.Gen.facts,
  frame_kernel, fun m g _ => Cert.KernelIdeal.Flash.frame m g, fun m g _ => Cert.KernelIdeal.Flash.frame m g,
  frame_refideal, fun m g _ => frame_refideal m g trivial, frame_ref,
  fun m g _ => Cert.Kernel2.Gen.frame m g, fun m g _ => Cert.Kernel2Ideal.Gen.frame m g, frame_ffn_refideal, frame_ffn_ref,
  fun m g _ => Cert.Kernel6.Gen.frame m g, fun m g _ => Cert.Kernel6Ideal.Gen.frame m g, frame_refideal6, frame_ref6,
  fun m g _ => Cert.Kernel4.Gen.frame m g, fun m g _ => Cert.Kernel4Ideal.Gen.frame m g, frame_refideal4, frame_ref4,
  trivial, trivial, algebraic, trivial, trivial, algebraic_ffn,
  trivial, trivial, algebraic6,
  trivial, trivial, algebraic4⟩

end Cert.Proof

end
